-- ==== Defs.lean ====
def Pre_Gather [hPre_in_range_rows : Cert.Pre_in_range_rows.Facts] (m : (ℓ : Loc Cert.Gather.nD Cert.Gather.τ Cert.Gather.sig) → Buf (Elt Bits) ℓ) : Prop :=
  ∀ c : Dev Cert.Gather.nD,
    (Cert.Pre_in_range_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range_rows : Cert.Pre_in_range_rows.Facts] (m : (ℓ : Loc Cert.GatherIdeal.nD Cert.GatherIdeal.τ Cert.GatherIdeal.sig) → Buf (Elt Ideal) ℓ) : Prop :=
  ∀ c : Dev Cert.GatherIdeal.nD,
    (Cert.Pre_in_range_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_Reference (m : (ℓ : Loc Cert.Reference.nD Cert.Reference.τ Cert.Reference.sig) → Buf (Elt Bits) ℓ) : Prop :=
  True

def Pre_Reference_in_range_rows [hPre_in_range_rows : Cert.Pre_in_range_rows.Facts] (m : (ℓ : Loc Cert.Reference.nD Cert.Reference.τ Cert.Reference.sig) → Buf (Elt Bits) ℓ) : Prop :=
  ∀ c : Dev Cert.Reference.nD,
    (Cert.Pre_in_range_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_rows [hPre_in_range_rows : Cert.Pre_in_range_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def quiescent_Gather [hGather : Cert.Gather.Facts] [hPre_in_range_rows : Cert.Pre_in_range_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range_rows : Cert.Pre_in_range_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range_rows [hReference : Cert.Reference.Facts] [hPre_in_range_rows : Cert.Pre_in_range_rows.Facts] : Prop :=
  ∀ (m : (ℓ : Loc Cert.Reference.nD Cert.Reference.τ Cert.Reference.sig) → Buf (Elt Bits) ℓ) (g : Dev Cert.Reference.nD → PrngReg), Pre_Reference_in_range_rows m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_rows [hReferenceIdeal : Cert.ReferenceIdeal.Facts] [hPre_in_range_rows : Cert.Pre_in_range_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def preserves_Gather_GatherIdeal : Prop :=
  True

def bitexact_Gather_Reference [hGather : Cert.Gather.Facts] [hReference : Cert.Reference.Facts] [hPre_in_range_rows : Cert.Pre_in_range_rows.Facts] : Prop :=
  ∀ (m : (ℓ : Loc Cert.Gather.nD Cert.Gather.τ Cert.Gather.sig) → Buf (Elt Bits) ℓ) (g : Dev Cert.Gather.nD → PrngReg)
    (m' : (ℓ : Loc Cert.Reference.nD Cert.Reference.τ Cert.Reference.sig) → Buf (Elt Bits) ℓ) (g' : Dev Cert.Reference.nD → PrngReg), Pre_Gather m →
    (∀ c : Dev Cert.Gather.nD,
      m' ((c.tc : Thread Cert.Reference.nD Cert.Reference.τ).loc Cert.Reference.main_arg0) = m ((c.tc : Thread Cert.Gather.nD Cert.Gather.τ).loc Cert.Gather.main_arg0)
      ∧ m' ((c.tc : Thread Cert.Reference.nD Cert.Reference.τ).loc Cert.Reference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v4)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v4) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_GatherIdeal_ReferenceIdeal [hGatherIdeal : Cert.GatherIdeal.Facts] [hReferenceIdeal : Cert.ReferenceIdeal.Facts] [hPre_in_range_rows : Cert.Pre_in_range_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_GatherIdeal m →
    (∀ c : Dev Cert.GatherIdeal.nD,
      m' ((c.tc : Thread Cert.ReferenceIdeal.nD Cert.ReferenceIdeal.τ).loc Cert.ReferenceIdeal.main_arg0) = m ((c.tc : Thread Cert.GatherIdeal.nD Cert.GatherIdeal.τ).loc Cert.GatherIdeal.main_arg0)
      ∧ m' ((c.tc : Thread Cert.ReferenceIdeal.nD Cert.ReferenceIdeal.τ).loc Cert.ReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v4)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v4) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel_KernelIdeal : Prop :=
  True

def holds_KernelIdeal_close_to_reference [hKernelIdeal : Cert.KernelIdeal.Facts] [hPre_in_range : Cert.Pre_in_range.Facts] [hPost_close_to_reference : Cert.Post_close_to_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_close_to_reference.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v5))) = (fun _ => 1#1))

def Claim : Prop :=
  ∃ (hGather : Cert.Gather.Facts) (hGatherIdeal : Cert.GatherIdeal.Facts) (hReference : Cert.Reference.Facts) (hReferenceIdeal : Cert.ReferenceIdeal.Facts) (hKernel : Cert.Kernel.Facts) (hKernelIdeal : Cert.KernelIdeal.Facts) (hPre_in_range_rows : Cert.Pre_in_range_rows.Facts) (hPre_in_range : Cert.Pre_in_range.Facts) (hPost_close_to_reference : Cert.Post_close_to_reference.Facts),
    quiescent_Gather (hGather := hGather) (hPre_in_range_rows := hPre_in_range_rows)
    ∧ quiescent_GatherIdeal (hGatherIdeal := hGatherIdeal) (hPre_in_range_rows := hPre_in_range_rows)
    ∧ quiescent_Reference (hReference := hReference)
    ∧ quiescent_Reference_pre_in_range_rows (hReference := hReference) (hPre_in_range_rows := hPre_in_range_rows)
    ∧ quiescent_ReferenceIdeal (hReferenceIdeal := hReferenceIdeal)
    ∧ quiescent_ReferenceIdeal_pre_in_range_rows (hReferenceIdeal := hReferenceIdeal) (hPre_in_range_rows := hPre_in_range_rows)
    ∧ quiescent_Kernel (hKernel := hKernel) (hPre_in_range := hPre_in_range)
    ∧ quiescent_KernelIdeal (hKernelIdeal := hKernelIdeal) (hPre_in_range := hPre_in_range)
    ∧ preserves_Gather_GatherIdeal
    ∧ bitexact_Gather_Reference (hGather := hGather) (hReference := hReference) (hPre_in_range_rows := hPre_in_range_rows)
    ∧ algebraic_GatherIdeal_ReferenceIdeal (hGatherIdeal := hGatherIdeal) (hReferenceIdeal := hReferenceIdeal) (hPre_in_range_rows := hPre_in_range_rows)
    ∧ preserves_Kernel_KernelIdeal
    ∧ holds_KernelIdeal_close_to_reference (hKernelIdeal := hKernelIdeal) (hPre_in_range := hPre_in_range) (hPost_close_to_reference := hPost_close_to_reference)
-- ==== Post_close_to_reference.lean ====
abbrev S16384x50 : Shape := ⟨2, ![16384, 50]⟩
abbrev S16384x50x128 : Shape := ⟨3, ![16384, 50, 128]⟩
abbrev S100000 : Shape := ⟨1, ![100000]⟩
abbrev S_ : Shape := ⟨0, ![]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S100000x64x1 : Shape := ⟨3, ![100000, 64, 1]⟩
abbrev S100000x64x2 : Shape := ⟨3, ![100000, 64, 2]⟩
abbrev S100000x128 : Shape := ⟨2, ![100000, 128]⟩
abbrev S16384x50x1 : Shape := ⟨3, ![16384, 50, 1]⟩
abbrev S1 : Shape := ⟨1, ![1]⟩
abbrev S1x1x1 : Shape := ⟨3, ![1, 1, 1]⟩

class Facts : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S64 : S_.BroadcastsInDim S64 (![] : Fin 0 → Fin S64.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S100000x64_S100000x64x1_0_1 : S100000x64.BroadcastsInDim S100000x64x1 (![0, 1] : Fin 2 → Fin S100000x64x1.rank)
  concatenates_S100000x64x1_S100000x64x1_S100000x64x2_d2 : Shape.Concatenates [S100000x64x1, S100000x64x1] S100000x64x2 2
  shapeCasts_S100000x64x2_S100000x128 : S100000x64x2.ShapeCasts S100000x128
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  reducesTo_S16384x50x128_S_d0_1_2 : S16384x50x128.ReducesTo [0, 1, 2] S_
  gather_S100000x128_S16384x50x1_S16384x50x128_2_0_n_n_0_2_1128_wf : GatherDims.WF S100000x128 S16384x50x1 S16384x50x128 [2] [0] [] [0] [] 2 ![1, 128]

variable [Facts]

def gather_S100000x128_S16384x50x1_S16384x50x128_2_0_n_n_0_2_1128 : GatherDims S100000x128 S16384x50x1 S16384x50x128 where
  offsetDims := [2]
  collapsedSliceDims := [0]
  operandBatchingDims := []
  startIndicesBatchingDims := []
  startIndexMap := [0]
  indexVectorDim := 2
  sliceSizes := ![1, 128]
  wf := gather_S100000x128_S16384x50x1_S16384x50x128_2_0_n_n_0_2_1128_wf
def fn_where {F : FTy → Type} [FloatOps F] (arg0 : IVec S16384x50 1) (arg1 : IVec S16384x50 32) (arg2 : IVec S16384x50 32) : IVec S16384x50 32 :=
  let v0 : IVec S16384x50 32 := select arg0 arg1 arg2
  v0

def fn_take {F : FTy → Type} [FloatOps F] (arg0 : FVec F S100000x128 .f32) (arg1 : IVec S16384x50 32) : FVec F S16384x50x128 .f32 :=
  let c : IVec S_ 32 := constantI S_ 32 0#32
  let v0 : IVec S16384x50 32 := broadcastInDim S16384x50 ![] bcast_S_S16384x50 c
  let v1 : IVec S16384x50 1 := cmpi .slt arg1 v0
  let c_0 : IVec S_ 32 := constantI S_ 32 100000#32
  let v2 : IVec S16384x50 32 := broadcastInDim S16384x50 ![] bcast_S_S16384x50 c_0
  let v3 : IVec S16384x50 32 := addi arg1 v2
  let v4 : IVec S16384x50 32 := fn_where (F := F) v1 v3 arg1
  let v5 : IVec S16384x50x1 32 := broadcastInDim S16384x50x1 ![0, 1] bcast_S16384x50_S16384x50x1_0_1 v4
  let c_1 : IVec S1 32 := constantI S1 32 99999#32
  let c_2 : IVec S_ 32 := constantI S_ 32 0#32
  let v6 : IVec S16384x50x1 32 := broadcastInDim S16384x50x1 ![] bcast_S_S16384x50x1 c_2
  let v7 : IVec S16384x50x1 1 := cmpi .sge v5 v6
  let v8 : IVec S1x1x1 32 := broadcastInDim S1x1x1 ![2] bcast_S1_S1x1x1_2 c_1
  let v9 : IVec S16384x50x1 32 := broadcastInDim S16384x50x1 ![0, 1, 2] bcast_S1x1x1_S16384x50x1_0_1_2 v8
  let v10 : IVec S16384x50x1 1 := cmpi .sle v5 v9
  let v11 : IVec S16384x50x1 1 := andi v7 v10
  let c_3 : IVec S_ 1 := constantI S_ 1 1#1
  let v12 : IVec S16384x50 1 := (fun x v => Host.reduce IntOp.andi x v reducesTo_S16384x50x1_S16384x50_d2 h_S_) v11 c_3
  let v13 : FVec F S16384x50x128 .f32 := (fun x i => Host.gather gather_S100000x128_S16384x50x1_S16384x50x128_2_0_n_n_0_2_1128 x i) arg0 v5
  let v14 : IVec S16384x50x128 1 := broadcastInDim S16384x50x128 ![0, 1] bcast_S16384x50_S16384x50x128_0_1 v12
  let cst : FVec F S_ .f32 := constant S_ .f32 0x7FC00000#32
  let v15 : FVec F S16384x50x128 .f32 := broadcastInDim S16384x50x128 ![] bcast_S_S16384x50x128 cst
  let v16 : FVec F S16384x50x128 .f32 := select v14 v13 v15
  v16

def fn_part1 {F : FTy → Type} [FloatOps F] (main_v19 : FVec F S16384x50x128 .f32) (main_v20 : FVec F S16384x50x128 .f32) : IVec S_ 1 :=
  let main_v21 : IVec S16384x50x128 1 := cmpf .ole main_v19 main_v20
  let main_c : IVec S_ 1 := constantI S_ 1 1#1
  let main_v22 : IVec S_ 1 := (fun x v => Host.reduce IntOp.andi x v reducesTo_S16384x50x128_S_d0_1_2 h_S_) main_v21 main_c
  main_v22

def fn {F : FTy → Type} [FloatOps F] (main_arg0 : IVec S16384x50 32) (main_arg1 : FVec F S16384x50x128 .f32) : IVec S_ 1 :=
  let main_v0 : FVec F S100000 .f32 := sitofp .f32 (iotaInDim S100000 32 0)
  let main_cst : FVec F S_ .f32 := constant S_ .f32 0x461C4000#32
  let main_v1 : FVec F S100000 .f32 := broadcastInDim S100000 ![] bcast_S_S100000 main_cst
  let main_v2 : FVec F S100000 .f32 := Host.divf main_v0 main_v1
  let main_v3 : FVec F S100000x1 .f32 := broadcastInDim S100000x1 ![0] bcast_S100000_S100000x1_0 main_v2
  let main_v4 : FVec F S64 .f32 := sitofp .f32 (iotaInDim S64 32 0)
  let main_cst_0 : FVec F S_ .f32 := constant S_ .f32 0x43000000#32
  let main_v5 : FVec F S64 .f32 := broadcastInDim S64 ![] bcast_S_S64 main_cst_0
  let main_v6 : FVec F S64 .f32 := Host.divf main_v4 main_v5
  let main_v7 : FVec F S1x64 .f32 := broadcastInDim S1x64 ![1] bcast_S64_S1x64_1 main_v6
  let main_v8 : FVec F S100000x64 .f32 := broadcastInDim S100000x64 ![0, 1] bcast_S100000x1_S100000x64_0_1 main_v3
  let main_v9 : FVec F S100000x64 .f32 := broadcastInDim S100000x64 ![0, 1] bcast_S1x64_S100000x64_0_1 main_v7
  let main_v10 : FVec F S100000x64 .f32 := Host.powf main_v8 main_v9
  let main_v11 : FVec F S100000x64 .f32 := Host.sin main_v10
  let main_v12 : FVec F S100000x64 .f32 := Host.cos main_v10
  let main_v13 : FVec F S100000x64x1 .f32 := broadcastInDim S100000x64x1 ![0, 1] bcast_S100000x64_S100000x64x1_0_1 main_v11
  let main_v14 : FVec F S100000x64x1 .f32 := broadcastInDim S100000x64x1 ![0, 1] bcast_S100000x64_S100000x64x1_0_1 main_v12
  let main_v15 : FVec F S100000x64x2 .f32 := (fun a b => concatenate S100000x64x2 2 [⟨S100000x64x1, a⟩, ⟨S100000x64x1, b⟩] concatenates_S100000x64x1_S100000x64x1_S100000x64x2_d2) main_v13 main_v14
  let main_v16 : FVec F S100000x128 .f32 := shapeCast S100000x128 main_v15 shapeCasts_S100000x64x2_S100000x128
  let main_v17 : FVec F S16384x50x128 .f32 := fn_take (F := F) main_v16 main_arg0
  let main_v18 : FVec F S16384x50x128 .f32 := subf main_arg1 main_v17
  let main_v19 : FVec F S16384x50x128 .f32 := Host.absf main_v18
  let main_cst_1 : FVec F S_ .f32 := constant S_ .f32 0x3727C5AC#32
  let main_v20 : FVec F S16384x50x128 .f32 := broadcastInDim S16384x50x128 ![] bcast_S_S16384x50x128 main_cst_1
  fn_part1 (F := F) main_v19 main_v20
-- ==== Pre_in_range.lean ====
abbrev S16384x50 : Shape := ⟨2, ![16384, 50]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 100000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Pre_in_range_rows.lean ====
abbrev S100000x128 : Shape := ⟨2, ![100000, 128]⟩
abbrev S16384x50 : Shape := ⟨2, ![16384, 50]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : FVec F S100000x128 .f32) (main_arg1 : IVec S16384x50 32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg1 main_v0
  let main_c_0 : IVec S_ 32 := constantI S_ 32 100000#32
  let main_v2 : IVec S16384x50 32 := broadcastInDim S16384x50 ![] bcast_S_S16384x50 main_c_0
  let main_v3 : IVec S16384x50 1 := cmpi .slt main_arg1 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Gather.lean ====
abbrev S100000x128 : Shape := ⟨2, ![100000, 128]⟩
abbrev S16384x50 : Shape := ⟨2, ![16384, 50]⟩
abbrev S50x16384 : Shape := ⟨2, ![50, 16384]⟩
abbrev S819200 : Shape := ⟨1, ![819200]⟩
abbrev S819200x128 : Shape := ⟨2, ![819200, 128]⟩
abbrev S512 : Shape := ⟨1, ![512]⟩
abbrev S128x128 : Shape := ⟨2, ![128, 128]⟩
abbrev S_ : Shape := ⟨0, ![]⟩
abbrev S128 : Shape := ⟨1, ![128]⟩
abbrev S50x16384x128 : Shape := ⟨3, ![50, 16384, 128]⟩
abbrev S16384x50x128 : Shape := ⟨3, ![16384, 50, 128]⟩

abbrev nBuf : Table → Nat
  | .hbm => 7
  | .local .scVector .vmem => 6
  | _ => 0

abbrev bufTy : (tb : Table) → Fin (nBuf tb) → BufTy
  | .hbm, ⟨0, _⟩ => ⟨S100000x128, .f32⟩
  | .hbm, ⟨1, _⟩ => ⟨S16384x50, .i32⟩
  | .hbm, ⟨2, _⟩ => ⟨S50x16384, .i32⟩
  | .hbm, ⟨3, _⟩ => ⟨S819200, .i32⟩
  | .hbm, ⟨4, _⟩ => ⟨S819200x128, .f32⟩
  | .hbm, ⟨5, _⟩ => ⟨S50x16384x128, .f32⟩
  | .hbm, ⟨6, _⟩ => ⟨S16384x50x128, .f32⟩
  | .local .scVector .vmem, ⟨0, _⟩ => ⟨S512, .i32⟩
  | .local .scVector .vmem, ⟨1, _⟩ => ⟨S512, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 1 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi c16384_i32 v2
  ![v5.toNat]
@[reducible] def k0_t1_loop : Scf.Loop 32 :=
  let c0_i32_0 : BitVec 32 := 0#32
  let c25_i32 : BitVec 32 := 25#32
  let v8 : BitVec 32 := Scalar.addi c0_i32_0 c25_i32
  let c1_i32 : BitVec 32 := 1#32
  ⟨c0_i32_0, v8, c1_i32⟩
def k0_off3 (i : grid0.Coords) (k0_t1 : Fin k0_t1_loop.trips) : Fin 1 → Nat :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c16384_i32_17 : BitVec 32 := 16384#32
  let v28 : BitVec 32 := Scalar.muli v25 c16384_i32_17
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v29 : BitVec 32 := Scalar.addi v28 v2
  ![v29.toNat]
def k0_cond1 (k0_t1 : Fin k0_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c0_i32_18 : BitVec 32 := 0#32
  let v32 : BitVec 1 := Scalar.cmpi .sgt v25 c0_i32_18
  let v33 : BitVec 32 := Scalar.extui v32
  let c0_i32_19 : BitVec 32 := 0#32
  let v34 : BitVec 1 := Scalar.cmpi .ne v33 c0_i32_19
  v34

def k0_off4 (i : grid0.Coords) (k0_t1 : Fin k0_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c0_i32_120 : BitVec 32 := 0#32
  let v141 : BitVec 32 := Scalar.addi v140 c0_i32_120
  let c0_i32_121 : BitVec 32 := 0#32
  ![v141.toNat, 0]
def k0_cond2 (k0_t1 : Fin k0_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c0_i32_23 : BitVec 32 := 0#32
  let v37 : BitVec 1 := Scalar.cmpi .sgt v25 c0_i32_23
  let v38 : BitVec 32 := Scalar.extui v37
  let c0_i32_24 : BitVec 32 := 0#32
  let v39 : BitVec 1 := Scalar.cmpi .ne v38 c0_i32_24
  v39

def k0_off5 (i : grid0.Coords) (k0_t1 : Fin k0_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c128_i32_120 : BitVec 32 := 128#32
  let v141 : BitVec 32 := Scalar.addi v140 c128_i32_120
  let c0_i32_121 : BitVec 32 := 0#32
  ![v141.toNat, 0]
def k0_cond3 (k0_t1 : Fin k0_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c0_i32_28 : BitVec 32 := 0#32
  let v42 : BitVec 1 := Scalar.cmpi .sgt v25 c0_i32_28
  let v43 : BitVec 32 := Scalar.extui v42
  let c0_i32_29 : BitVec 32 := 0#32
  let v44 : BitVec 1 := Scalar.cmpi .ne v43 c0_i32_29
  v44

def k0_off6 (i : grid0.Coords) (k0_t1 : Fin k0_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c256_i32_120 : BitVec 32 := 256#32
  let v141 : BitVec 32 := Scalar.addi v140 c256_i32_120
  let c0_i32_121 : BitVec 32 := 0#32
  ![v141.toNat, 0]
def k0_cond4 (k0_t1 : Fin k0_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c0_i32_33 : BitVec 32 := 0#32
  let v47 : BitVec 1 := Scalar.cmpi .sgt v25 c0_i32_33
  let v48 : BitVec 32 := Scalar.extui v47
  let c0_i32_34 : BitVec 32 := 0#32
  let v49 : BitVec 1 := Scalar.cmpi .ne v48 c0_i32_34
  v49

def k0_off7 (i : grid0.Coords) (k0_t1 : Fin k0_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c384_i32_120 : BitVec 32 := 384#32
  let v141 : BitVec 32 := Scalar.addi v140 c384_i32_120
  let c0_i32_121 : BitVec 32 := 0#32
  ![v141.toNat, 0]
def k0_off8 (i : grid0.Coords) (k0_t1 : Fin k0_t1_loop.trips) (c0_i32_42 : BitVec 32) : Fin 2 → Nat :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c16384_i32_41 : BitVec 32 := 16384#32
  let v54 : BitVec 32 := Scalar.muli v25 c16384_i32_41
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v55 : BitVec 32 := Scalar.addi v54 v2
  let v56 : BitVec 32 := Scalar.addi v55 c0_i32_42
  let c0_i32_43 : BitVec 32 := 0#32
  ![v56.toNat, 0]
def k0_cond5 (k0_t1 : Fin k0_t1_loop.trips) : BitVec 1 :=
  let c0_i32_0 : BitVec 32 := 0#32
  let c1_i32 : BitVec 32 := 1#32
  let arg21 : BitVec 32 := Scf.iv c0_i32_0 c1_i32 k0_t1
  let c24_i32 : BitVec 32 := 24#32
  let v80 : BitVec 1 := Scalar.cmpi .slt arg21 c24_i32
  let v81 : BitVec 32 := Scalar.extui v80
  let c0_i32_66 : BitVec 32 := 0#32
  let v82 : BitVec 1 := Scalar.cmpi .ne v81 c0_i32_66
  v82

def k0_off9 (i : grid0.Coords) (k0_t1 : Fin k0_t1_loop.trips) : Fin 1 → Nat :=
  let c2_i32_14 : BitVec 32 := 2#32
  let c0_i32_0 : BitVec 32 := 0#32
  let c1_i32 : BitVec 32 := 1#32
  let arg21 : BitVec 32 := Scf.iv c0_i32_0 c1_i32 k0_t1
  let v25 : BitVec 32 := Scalar.muli c2_i32_14 arg21
  let c2_i32_118 : BitVec 32 := 2#32
  let v138 : BitVec 32 := Scalar.addi v25 c2_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  ![v140.toNat]
def k0_off10 (i : grid0.Coords) (k0_t1 : Fin k0_t1_loop.trips) : Fin 1 → Nat :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c16384_i32_67 : BitVec 32 := 16384#32
  let v83 : BitVec 32 := Scalar.muli v27 c16384_i32_67
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v84 : BitVec 32 := Scalar.addi v83 v2
  ![v84.toNat]
def k0_cond6 (k0_t1 : Fin k0_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c0_i32_68 : BitVec 32 := 0#32
  let v87 : BitVec 1 := Scalar.cmpi .sgt v27 c0_i32_68
  let v88 : BitVec 32 := Scalar.extui v87
  let c0_i32_69 : BitVec 32 := 0#32
  let v89 : BitVec 1 := Scalar.cmpi .ne v88 c0_i32_69
  v89

def k0_off11 (i : grid0.Coords) (k0_t1 : Fin k0_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c0_i32_120 : BitVec 32 := 0#32
  let v141 : BitVec 32 := Scalar.addi v140 c0_i32_120
  let c0_i32_121 : BitVec 32 := 0#32
  ![v141.toNat, 0]
def k0_cond7 (k0_t1 : Fin k0_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c0_i32_73 : BitVec 32 := 0#32
  let v92 : BitVec 1 := Scalar.cmpi .sgt v27 c0_i32_73
  let v93 : BitVec 32 := Scalar.extui v92
  let c0_i32_74 : BitVec 32 := 0#32
  let v94 : BitVec 1 := Scalar.cmpi .ne v93 c0_i32_74
  v94

def k0_off12 (i : grid0.Coords) (k0_t1 : Fin k0_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c128_i32_120 : BitVec 32 := 128#32
  let v141 : BitVec 32 := Scalar.addi v140 c128_i32_120
  let c0_i32_121 : BitVec 32 := 0#32
  ![v141.toNat, 0]
def k0_cond8 (k0_t1 : Fin k0_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c0_i32_78 : BitVec 32 := 0#32
  let v97 : BitVec 1 := Scalar.cmpi .sgt v27 c0_i32_78
  let v98 : BitVec 32 := Scalar.extui v97
  let c0_i32_79 : BitVec 32 := 0#32
  let v99 : BitVec 1 := Scalar.cmpi .ne v98 c0_i32_79
  v99

def k0_off13 (i : grid0.Coords) (k0_t1 : Fin k0_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c256_i32_120 : BitVec 32 := 256#32
  let v141 : BitVec 32 := Scalar.addi v140 c256_i32_120
  let c0_i32_121 : BitVec 32 := 0#32
  ![v141.toNat, 0]
def k0_cond9 (k0_t1 : Fin k0_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c0_i32_83 : BitVec 32 := 0#32
  let v102 : BitVec 1 := Scalar.cmpi .sgt v27 c0_i32_83
  let v103 : BitVec 32 := Scalar.extui v102
  let c0_i32_84 : BitVec 32 := 0#32
  let v104 : BitVec 1 := Scalar.cmpi .ne v103 c0_i32_84
  v104

def k0_off14 (i : grid0.Coords) (k0_t1 : Fin k0_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c384_i32_120 : BitVec 32 := 384#32
  let v141 : BitVec 32 := Scalar.addi v140 c384_i32_120
  let c0_i32_121 : BitVec 32 := 0#32
  ![v141.toNat, 0]
def k0_off15 (i : grid0.Coords) (k0_t1 : Fin k0_t1_loop.trips) (c0_i32_92 : BitVec 32) : Fin 2 → Nat :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c16384_i32_91 : BitVec 32 := 16384#32
  let v109 : BitVec 32 := Scalar.muli v27 c16384_i32_91
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v110 : BitVec 32 := Scalar.addi v109 v2
  let v111 : BitVec 32 := Scalar.addi v110 c0_i32_92
  let c0_i32_93 : BitVec 32 := 0#32
  ![v111.toNat, 0]
def k0_cond10 (k0_t1 : Fin k0_t1_loop.trips) : BitVec 1 :=
  let c0_i32_0 : BitVec 32 := 0#32
  let c1_i32 : BitVec 32 := 1#32
  let arg21 : BitVec 32 := Scf.iv c0_i32_0 c1_i32 k0_t1
  let c24_i32_116 : BitVec 32 := 24#32
  let v135 : BitVec 1 := Scalar.cmpi .slt arg21 c24_i32_116
  let v136 : BitVec 32 := Scalar.extui v135
  let c0_i32_117 : BitVec 32 := 0#32
  let v137 : BitVec 1 := Scalar.cmpi .ne v136 c0_i32_117
  v137

def k0_off16 (i : grid0.Coords) (k0_t1 : Fin k0_t1_loop.trips) : Fin 1 → Nat :=
  let c2_i32_15 : BitVec 32 := 2#32
  let c0_i32_0 : BitVec 32 := 0#32
  let c1_i32 : BitVec 32 := 1#32
  let arg21 : BitVec 32 := Scf.iv c0_i32_0 c1_i32 k0_t1
  let v26 : BitVec 32 := Scalar.muli c2_i32_15 arg21
  let c1_i32_16 : BitVec 32 := 1#32
  let v27 : BitVec 32 := Scalar.addi v26 c1_i32_16
  let c2_i32_118 : BitVec 32 := 2#32
  let v138 : BitVec 32 := Scalar.addi v27 c2_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  ![v140.toNat]
def k0_off17 (i : grid0.Coords) (c0_i32_2 : BitVec 32) : Fin 2 → Nat :=
  let c802816_i32 : BitVec 32 := 802816#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi c802816_i32 v2
  let v10 : BitVec 32 := Scalar.addi v9 c0_i32_2
  let c0_i32_3 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S100000x128 : Shape := ⟨2, ![100000, 128]⟩
abbrev S16384x50 : Shape := ⟨2, ![16384, 50]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384x50, .i32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x128, .f32⟩
  | .hbm, ⟨21, _⟩ => ⟨S16384x50x128, .i1⟩
  | .hbm, ⟨22, _⟩ => ⟨S_, .f32⟩
  | .hbm, ⟨23, _⟩ => ⟨S16384x50x128, .f32⟩
  | .hbm, ⟨24, _⟩ => ⟨S16384x50x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Kernel.lean ====
abbrev S16384x50 : Shape := ⟨2, ![16384, 50]⟩
abbrev S50x16384 : Shape := ⟨2, ![50, 16384]⟩
abbrev S819200 : Shape := ⟨1, ![819200]⟩
abbrev S100000x128 : Shape := ⟨2, ![100000, 128]⟩
abbrev S4000x128 : Shape := ⟨2, ![4000, 128]⟩
abbrev S819200x128 : Shape := ⟨2, ![819200, 128]⟩
abbrev S512 : Shape := ⟨1, ![512]⟩
abbrev S128x128 : Shape := ⟨2, ![128, 128]⟩
abbrev S_ : Shape := ⟨0, ![]⟩
abbrev S128 : Shape := ⟨1, ![128]⟩
abbrev S50x16384x128 : Shape := ⟨3, ![50, 16384, 128]⟩
abbrev S16384x50x128 : Shape := ⟨3, ![16384, 50, 128]⟩

abbrev nBuf : Table → Nat
  | .hbm => 7
  | .local .tc .vmem => 2
  | .local .scVector .vmem => 6
  | _ => 0

abbrev bufTy : (tb : Table) → Fin (nBuf tb) → BufTy
  | .hbm, ⟨0, _⟩ => ⟨S16384x50, .i32⟩
  | .hbm, ⟨1, _⟩ => ⟨S50x16384, .i32⟩
  | .hbm, ⟨2, _⟩ => ⟨S819200, .i32⟩
  | .hbm, ⟨3, _⟩ => ⟨S100000x128, .f32⟩
  | .hbm, ⟨4, _⟩ => ⟨S819200x128, .f32⟩
  | .hbm, ⟨5, _⟩ => ⟨S50x16384x128, .f32⟩
  | .hbm, ⟨6, _⟩ => ⟨S16384x50x128, .f32⟩
  | .local .tc .vmem, ⟨0, _⟩ => ⟨S4000x128, .f32⟩
  | .local .tc .vmem, ⟨1, _⟩ => ⟨S4000x128, .f32⟩
  | .local .scVector .vmem, ⟨0, _⟩ => ⟨S512, .i32⟩
  | .local .scVector .vmem, ⟨1, _⟩ => ⟨S512, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S16384x50, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v2_scv : Ref sig .scVector := ⟨.hbm, 3, rfl⟩
abbrev main_v1_scv : Ref sig .scVector := ⟨.hbm, 2, rfl⟩
abbrev main_v3_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 1 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi c16384_i32 v2
  ![v5.toNat]
@[reducible] def k1_t1_loop : Scf.Loop 32 :=
  let c0_i32_0 : BitVec 32 := 0#32
  let c25_i32 : BitVec 32 := 25#32
  let v8 : BitVec 32 := Scalar.addi c0_i32_0 c25_i32
  let c1_i32 : BitVec 32 := 1#32
  ⟨c0_i32_0, v8, c1_i32⟩
def k1_off3 (i : grid1.Coords) (k1_t1 : Fin k1_t1_loop.trips) : Fin 1 → Nat :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c16384_i32_17 : BitVec 32 := 16384#32
  let v28 : BitVec 32 := Scalar.muli v25 c16384_i32_17
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v29 : BitVec 32 := Scalar.addi v28 v2
  ![v29.toNat]
def k1_cond1 (k1_t1 : Fin k1_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c0_i32_18 : BitVec 32 := 0#32
  let v32 : BitVec 1 := Scalar.cmpi .sgt v25 c0_i32_18
  let v33 : BitVec 32 := Scalar.extui v32
  let c0_i32_19 : BitVec 32 := 0#32
  let v34 : BitVec 1 := Scalar.cmpi .ne v33 c0_i32_19
  v34

def k1_off4 (i : grid1.Coords) (k1_t1 : Fin k1_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c0_i32_120 : BitVec 32 := 0#32
  let v141 : BitVec 32 := Scalar.addi v140 c0_i32_120
  let c0_i32_121 : BitVec 32 := 0#32
  ![v141.toNat, 0]
def k1_cond2 (k1_t1 : Fin k1_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c0_i32_23 : BitVec 32 := 0#32
  let v37 : BitVec 1 := Scalar.cmpi .sgt v25 c0_i32_23
  let v38 : BitVec 32 := Scalar.extui v37
  let c0_i32_24 : BitVec 32 := 0#32
  let v39 : BitVec 1 := Scalar.cmpi .ne v38 c0_i32_24
  v39

def k1_off5 (i : grid1.Coords) (k1_t1 : Fin k1_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c128_i32_120 : BitVec 32 := 128#32
  let v141 : BitVec 32 := Scalar.addi v140 c128_i32_120
  let c0_i32_121 : BitVec 32 := 0#32
  ![v141.toNat, 0]
def k1_cond3 (k1_t1 : Fin k1_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c0_i32_28 : BitVec 32 := 0#32
  let v42 : BitVec 1 := Scalar.cmpi .sgt v25 c0_i32_28
  let v43 : BitVec 32 := Scalar.extui v42
  let c0_i32_29 : BitVec 32 := 0#32
  let v44 : BitVec 1 := Scalar.cmpi .ne v43 c0_i32_29
  v44

def k1_off6 (i : grid1.Coords) (k1_t1 : Fin k1_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c256_i32_120 : BitVec 32 := 256#32
  let v141 : BitVec 32 := Scalar.addi v140 c256_i32_120
  let c0_i32_121 : BitVec 32 := 0#32
  ![v141.toNat, 0]
def k1_cond4 (k1_t1 : Fin k1_t1_loop.trips) : BitVec 1 :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c0_i32_33 : BitVec 32 := 0#32
  let v47 : BitVec 1 := Scalar.cmpi .sgt v25 c0_i32_33
  let v48 : BitVec 32 := Scalar.extui v47
  let c0_i32_34 : BitVec 32 := 0#32
  let v49 : BitVec 1 := Scalar.cmpi .ne v48 c0_i32_34
  v49

def k1_off7 (i : grid1.Coords) (k1_t1 : Fin k1_t1_loop.trips) : Fin 2 → Nat :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c1_i32_118 : BitVec 32 := 1#32
  let v138 : BitVec 32 := Scalar.subi v25 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c384_i32_120 : BitVec 32 := 384#32
  let v141 : BitVec 32 := Scalar.addi v140 c384_i32_120
  let c0_i32_121 : BitVec 32 := 0#32
  ![v141.toNat, 0]
def k1_off8 (i : grid1.Coords) (k1_t1 : Fin k1_t1_loop.trips) (c0_i32_42 : BitVec 32) : Fin 2 → Nat :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c16384_i32_41 : BitVec 32 := 16384#32
  let v54 : BitVec 32 := Scalar.muli v25 c16384_i32_41
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v55 : BitVec 32 := Scalar.addi v54 v2
  let v56 : BitVec 32 := Scalar.addi v55 c0_i32_42
  let c0_i32_43 : BitVec 32 := 0#32
  ![v56.toNat, 0]
def k1_cond5 (k1_t1 : Fin k1_t1_loop.trips) : BitVec 1 :=
  let c0_i32_0 : BitVec 32 := 0#32
  let c1_i32 : BitVec 32 := 1#32
  let arg21 : BitVec 32 := Scf.iv c0_i32_0 c1_i32 k1_t1
  let c24_i32 : BitVec 32 := 24#32
  let v80 : BitVec 1 := Scalar.cmpi .slt arg21 c24_i32
  let v81 : BitVec 32 := Scalar.extui v80
  let c0_i32_66 : BitVec 32 := 0#32
  let v82 : BitVec 1 := Scalar.cmpi .ne v81 c0_i32_66
  v82

def k1_off9 (i : grid1.Coords) (k1_t1 : Fin k1_t1_loop.trips) : Fin 1 → Nat :=
  let c2_i32_14 : BitVec 32 := 2#32
  let c0_i32_0 : BitVec 32 := 0#32
  let c1_i32 : BitVec 32 := 1#32
  let arg21 : BitVec 32 := Scf.iv c0_i32_0 c1_i32 k1_t1
  let v25 : BitVec 32 := Scalar.muli c2_i32_14 arg21
  let c2_i32_118 : BitVec 32 := 2#32
  let v138 : BitVec 32 := Scalar.addi v25 c2_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  ![v140.toNat]
def k1_off10 (i : grid1.Coords) (k1_t1 : Fin k1_t1_loop.trips) : Fin 1 → Nat :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c16384_i32_67 : BitVec 32 := 16384#32
  let v83 : BitVec 32 := Scalar.muli v27 c16384_i32_67
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v84 : BitVec 32 := Scalar.addi v83 v2
  ![v84.toNat]
def k1_cond6 (k1_t1 : Fin k1_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c0_i32_68 : BitVec 32 := 0#32
  let v87 : BitVec 1 := Scalar.cmpi .sgt v27 c0_i32_68
  let v88 : BitVec 32 := Scalar.extui v87
  let c0_i32_69 : BitVec 32 := 0#32
  let v89 : BitVec 1 := Scalar.cmpi .ne v88 c0_i32_69
  v89

def k1_off11 (i : grid1.Coords) (k1_t1 : Fin k1_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c0_i32_120 : BitVec 32 := 0#32
  let v141 : BitVec 32 := Scalar.addi v140 c0_i32_120
  let c0_i32_121 : BitVec 32 := 0#32
  ![v141.toNat, 0]
def k1_cond7 (k1_t1 : Fin k1_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c0_i32_73 : BitVec 32 := 0#32
  let v92 : BitVec 1 := Scalar.cmpi .sgt v27 c0_i32_73
  let v93 : BitVec 32 := Scalar.extui v92
  let c0_i32_74 : BitVec 32 := 0#32
  let v94 : BitVec 1 := Scalar.cmpi .ne v93 c0_i32_74
  v94

def k1_off12 (i : grid1.Coords) (k1_t1 : Fin k1_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c128_i32_120 : BitVec 32 := 128#32
  let v141 : BitVec 32 := Scalar.addi v140 c128_i32_120
  let c0_i32_121 : BitVec 32 := 0#32
  ![v141.toNat, 0]
def k1_cond8 (k1_t1 : Fin k1_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c0_i32_78 : BitVec 32 := 0#32
  let v97 : BitVec 1 := Scalar.cmpi .sgt v27 c0_i32_78
  let v98 : BitVec 32 := Scalar.extui v97
  let c0_i32_79 : BitVec 32 := 0#32
  let v99 : BitVec 1 := Scalar.cmpi .ne v98 c0_i32_79
  v99

def k1_off13 (i : grid1.Coords) (k1_t1 : Fin k1_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c256_i32_120 : BitVec 32 := 256#32
  let v141 : BitVec 32 := Scalar.addi v140 c256_i32_120
  let c0_i32_121 : BitVec 32 := 0#32
  ![v141.toNat, 0]
def k1_cond9 (k1_t1 : Fin k1_t1_loop.trips) : BitVec 1 :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c0_i32_83 : BitVec 32 := 0#32
  let v102 : BitVec 1 := Scalar.cmpi .sgt v27 c0_i32_83
  let v103 : BitVec 32 := Scalar.extui v102
  let c0_i32_84 : BitVec 32 := 0#32
  let v104 : BitVec 1 := Scalar.cmpi .ne v103 c0_i32_84
  v104

def k1_off14 (i : grid1.Coords) (k1_t1 : Fin k1_t1_loop.trips) : Fin 2 → Nat :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c1_i32_118 : BitVec 32 := 1#32
  let v138 : BitVec 32 := Scalar.subi v27 c1_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  let c384_i32_120 : BitVec 32 := 384#32
  let v141 : BitVec 32 := Scalar.addi v140 c384_i32_120
  let c0_i32_121 : BitVec 32 := 0#32
  ![v141.toNat, 0]
def k1_off15 (i : grid1.Coords) (k1_t1 : Fin k1_t1_loop.trips) (c0_i32_92 : BitVec 32) : Fin 2 → Nat :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c16384_i32_91 : BitVec 32 := 16384#32
  let v109 : BitVec 32 := Scalar.muli v27 c16384_i32_91
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v110 : BitVec 32 := Scalar.addi v109 v2
  let v111 : BitVec 32 := Scalar.addi v110 c0_i32_92
  let c0_i32_93 : BitVec 32 := 0#32
  ![v111.toNat, 0]
def k1_cond10 (k1_t1 : Fin k1_t1_loop.trips) : BitVec 1 :=
  let c0_i32_0 : BitVec 32 := 0#32
  let c1_i32 : BitVec 32 := 1#32
  let arg21 : BitVec 32 := Scf.iv c0_i32_0 c1_i32 k1_t1
  let c24_i32_116 : BitVec 32 := 24#32
  let v135 : BitVec 1 := Scalar.cmpi .slt arg21 c24_i32_116
  let v136 : BitVec 32 := Scalar.extui v135
  let c0_i32_117 : BitVec 32 := 0#32
  let v137 : BitVec 1 := Scalar.cmpi .ne v136 c0_i32_117
  v137

def k1_off16 (i : grid1.Coords) (k1_t1 : Fin k1_t1_loop.trips) : Fin 1 → Nat :=
  let c2_i32_15 : BitVec 32 := 2#32
  let c0_i32_0 : BitVec 32 := 0#32
  let c1_i32 : BitVec 32 := 1#32
  let arg21 : BitVec 32 := Scf.iv c0_i32_0 c1_i32 k1_t1
  let v26 : BitVec 32 := Scalar.muli c2_i32_15 arg21
  let c1_i32_16 : BitVec 32 := 1#32
  let v27 : BitVec 32 := Scalar.addi v26 c1_i32_16
  let c2_i32_118 : BitVec 32 := 2#32
  let v138 : BitVec 32 := Scalar.addi v27 c2_i32_118
  let c16384_i32_119 : BitVec 32 := 16384#32
  let v139 : BitVec 32 := Scalar.muli v138 c16384_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v140 : BitVec 32 := Scalar.addi v139 v2
  ![v140.toNat]
def k1_off17 (i : grid1.Coords) (c0_i32_2 : BitVec 32) : Fin 2 → Nat :=
  let c802816_i32 : BitVec 32 := 802816#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi c802816_i32 v2
  let v10 : BitVec 32 := Scalar.addi v9 c0_i32_2
  let c0_i32_3 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Gather.Tile.lean ====
/-
  One vector subcore's task of the row gather (`cc0__gather_kernel`), at a symbolic (SparseCore, subcore) pair.

  The task fetches 512 indices of each of the 50 columns, two columns ahead, gathers the table rows they name into four
  row buffers of 128 rows, and copies each buffer out to its block of the result, waiting for that copy one column
  later. What it holds: four read tokens of the table, the 50 windows of the flat index array that are its own, and the
  200 blocks of the result that are its own.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Arrays, buffers and cells -/

abbrev tLoc (d : Dev nD) : Loc nD τ sig := (SparseCore.T d).loc main_arg0
abbrev iLoc (d : Dev nD) : Loc nD τ sig := (SparseCore.T d).loc main_v1
abbrev oLoc (d : Dev nD) : Loc nD τ sig := (SparseCore.T d).loc main_v2

local notation "tV" => (Memref.whole Cert.GatherIdeal.main_arg0_scv : Memref Cert.GatherIdeal.sig Kind.scVector Space.hbm Cert.GatherIdeal.S100000x128 EltTy.f32)
local notation "iV" => (Memref.whole Cert.GatherIdeal.main_v1_scv : Memref Cert.GatherIdeal.sig Kind.scVector Space.hbm Cert.GatherIdeal.S819200 EltTy.i32)
local notation "oV" => (Memref.whole Cert.GatherIdeal.main_v2_scv : Memref Cert.GatherIdeal.sig Kind.scVector Space.hbm Cert.GatherIdeal.S819200x128 EltTy.f32)
local notation "aV" => (Memref.whole Cert.GatherIdeal.cc0_scratch0 : Memref Cert.GatherIdeal.sig Kind.scVector Space.vmem Cert.GatherIdeal.S512 EltTy.i32)
local notation "bV" => (Memref.whole Cert.GatherIdeal.cc0_scratch1 : Memref Cert.GatherIdeal.sig Kind.scVector Space.vmem Cert.GatherIdeal.S512 EltTy.i32)
local notation "r0V" => (Memref.whole Cert.GatherIdeal.cc0_scratch2 : Memref Cert.GatherIdeal.sig Kind.scVector Space.vmem Cert.GatherIdeal.S128x128 EltTy.f32)
local notation "r1V" => (Memref.whole Cert.GatherIdeal.cc0_scratch3 : Memref Cert.GatherIdeal.sig Kind.scVector Space.vmem Cert.GatherIdeal.S128x128 EltTy.f32)
local notation "r2V" => (Memref.whole Cert.GatherIdeal.cc0_scratch4 : Memref Cert.GatherIdeal.sig Kind.scVector Space.vmem Cert.GatherIdeal.S128x128 EltTy.f32)
local notation "r3V" => (Memref.whole Cert.GatherIdeal.cc0_scratch5 : Memref Cert.GatherIdeal.sig Kind.scVector Space.vmem Cert.GatherIdeal.S128x128 EltTy.f32)

abbrev cV (L : grid0.Coords) : Fin τ.nSC := (L 0).castLE hcore0
abbrev jV (L : grid0.Coords) : Fin τ.nSub := (L 1).castLE hsub0
/-- The thread of the task at coordinates `L` of device `d`. -/
abbrev VT (d : Dev nD) (L : grid0.Coords) : Thread nD τ := V d (cV L) (jV L)

theorem L0_lt (L : grid0.Coords) : (L 0).val < 2 := (L 0).isLt
theorem L1_lt (L : grid0.Coords) : (L 1).val < 16 := (L 1).isLt

/-! ## The task's windows -/

/-- Where the task's 512 indices of column `j` start in the flat index array. -/
def iOff (L : grid0.Coords) (j : ℕ) : Fin 1 → ℕ := ![1024 * (L 1).val + 512 * (L 0).val + 16384 * j]
theorem iOff_inb (L : grid0.Coords) {j : ℕ} (hj : j < 50) : ∀ a, iOff L j a + S512.size a ≤ S819200.size a := by
  have := L0_lt L; have := L1_lt L
  intro a; match a with | 0 => show 1024 * (L 1).val + 512 * (L 0).val + 16384 * j + 512 ≤ 819200; omega
/-- Where block `u` of the task's rows of column `j` starts in the result. -/
def oOff (L : grid0.Coords) (j u : ℕ) : Fin 2 → ℕ := ![1024 * (L 1).val + 512 * (L 0).val + 16384 * j + 128 * u, 0]
theorem oOff_inb (L : grid0.Coords) {j u : ℕ} (hj : j < 50) (hu : u < 4) : ∀ a, oOff L j u a + S128x128.size a ≤ S819200x128.size a := by
  have := L0_lt L; have := L1_lt L
  intro a; match a with
  | 0 => show 1024 * (L 1).val + 512 * (L 0).val + 16384 * j + 128 * u + 128 ≤ 819200; omega
  | 1 => show 0 + 128 ≤ 128; omega

abbrev iWin (L : grid0.Coords) {j : ℕ} (hj : j < 50) : Memref sig .scVector .hbm S512 .i32 :=
  (iV).slice (Rect.unit (s := S819200) (iOff L j) S512.size (iOff_inb L hj)) (fun _ => rfl)
abbrev oBlk (L : grid0.Coords) {j u : ℕ} (hj : j < 50) (hu : u < 4) : Memref sig .scVector .hbm S128x128 .f32 :=
  (oV).slice (Rect.unit (s := S819200x128) (oOff L j u) S128x128.size (oOff_inb L hj hu)) (fun _ => rfl)

/-- A window of the index array at offsets `off`, spelt as the body spells it, is the named one. -/
theorem iWin_of (L : grid0.Coords) {off : Fin 1 → ℕ} {j : ℕ} (hj : j < 50) (e : off = iOff L j) (h : ∀ a, off a + S512.size a ≤ S819200.size a) :
    (iV).slice (Rect.unit (s := S819200) off S512.size h) (fun _ => rfl) = iWin L hj := by subst e; rfl
theorem oBlk_of (L : grid0.Coords) {off : Fin 2 → ℕ} {j u : ℕ} (hj : j < 50) (hu : u < 4) (e : off = oOff L j u)
    (h : ∀ a, off a + S128x128.size a ≤ S819200x128.size a) :
    (oV).slice (Rect.unit (s := S819200x128) off S128x128.size h) (fun _ => rfl) = oBlk L hj hu := by subst e; rfl

/-! ## Values -/

/-- Entry `n` of the index array, as a row of the table. -/
def rowIx (w : BitVec 32) : Fin 100000 := ⟨w.toNat % 100000, Nat.mod_lt _ (by decide)⟩

/-- What the gather leaves in the result: row `n` is the table's row that entry `n` of the index array names. -/
def gRows (fT : S100000x128.Idx → Elt F .f32) (fI : S819200.Idx → BitVec 32) : S819200x128.Idx → Elt F .f32 :=
  fun x => fT (fun a => match a with
    | ⟨0, _⟩ => rowIx (fI (fun a => match a with | ⟨0, _⟩ => (x 0 : Fin 819200)))
    | ⟨1, _⟩ => (x 1 : Fin 128))

/-- The 128 rows a list of 128 indices names. -/
def gPay (fT : S100000x128.Idx → Elt F .f32) (w : S128.Idx → BitVec 32) : S128x128.Idx → Elt F .f32 :=
  fun x => fT (fun a => match a with
    | ⟨0, _⟩ => rowIx (w (fun a => match a with | ⟨0, _⟩ => (x 0 : Fin 128)))
    | ⟨1, _⟩ => (x 1 : Fin 128))

/-! ## What the task holds of a window -/

/-- The window `M` of the task's, holding `w`. -/
def At (c : Thread nD τ) {sp : Space} {s : Shape} {e : EltTy} (M : Memref sig c.2.kind sp s e) (w : s.Idx → Elt F e) : sProp 𝕄 :=
  iprop(∃ f, ⌜M.view.read (Elt F) f = w⌝ ∗ (M.view.loc c ↦[M.view.set]{fullShare} f))
/-- The window `M` of the task's, holding anything. -/
def Own (c : Thread nD τ) {sp : Space} {s : Shape} {e : EltTy} (M : Memref sig c.2.kind sp s e) : sProp 𝕄 :=
  iprop(∃ f, M.view.loc c ↦[M.view.set]{fullShare} f)
theorem At_Own (c : Thread nD τ) {sp : Space} {s : Shape} {e : EltTy} (M : Memref sig c.2.kind sp s e) (w : s.Idx → Elt F e) :
    (At c M w : sProp 𝕄) ⊢ Own c M := by
  unfold At Own; iintro ⟨%f, %h, H⟩; iexists f; iexact H
theorem At_intro (c : Thread nD τ) {sp : Space} {s : Shape} {e : EltTy} (M : Memref sig c.2.kind sp s e) (f : Buf (Elt F) (M.view.loc c)) :
    (M.view.loc c ↦[M.view.set]{fullShare} f : sProp 𝕄) ⊢ At c M (M.view.read (Elt F) f) := by
  unfold At; iintro H; iexists f; isplitr; · ipureintro; rfl
  iexact H
theorem Own_intro (c : Thread nD τ) {sp : Space} {s : Shape} {e : EltTy} (M : Memref sig c.2.kind sp s e) (f : Buf (Elt F) (M.view.loc c)) :
    (M.view.loc c ↦[M.view.set]{fullShare} f : sProp 𝕄) ⊢ Own c M := by
  unfold Own; iintro H; iexists f; iexact H
/-- A window holding what `f` has there is the window at `f`. -/
theorem At_elim (c : Thread nD τ) {sp : Space} {s : Shape} {e : EltTy} (M : Memref sig c.2.kind sp s e) (f : Buf (Elt F) (M.view.loc c)) :
    (At c M (M.view.read (Elt F) f) : sProp 𝕄) ⊢ (M.view.loc c ↦[M.view.set]{fullShare} f) := by
  unfold At
  iintro ⟨%g, %h, H⟩
  iapply (Entails.of_eq (pointsTo_congr (Name := ℕ) (U := UU) (Lvl := ℕ) (Ix := HIx 1) (f := g) (g := f) (fun i hi => ?_)))
  · obtain ⟨x, -, rfl⟩ := Finset.mem_map.mp hi
    have := congrFun h x
    rw [View.read_apply, View.read_apply] at this
    simpa using this
  iexact H

/-- What the task owes, and the waits it has made over those it started with. -/
def OW (c : Thread nD τ) (O : CellTallies nD τ sig (HIx 1)) (W : Waits sig (HIx 1)) : sProp 𝕄 :=
  iprop(∃ W', ⌜∀ p ∈ W', p ∈ W ∨ p.2 = none⌝ ∗ owes c O W')

abbrev LV : sProp 𝕄 := levAts (K (F := F)).L (K (F := F)).lev

section Steps

variable [FloatOps F] (c : Thread nD τ) (O : CellTallies nD τ sig (HIx 1)) (W : Waits sig (HIx 1))

/-- A wait for a transfer the task has in flight. -/
theorem step_wait {α : Type} {Q : α → sProp 𝕄} (hO : ∀ g, O g none = 0) {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (hN : dstw.view.dmaCredit = N) {D : sProp 𝕄} :
    iprop(LV (F := F) ∗ Transfers.Flight countersEmb c (.dma sem) (default : HIx 1) N D ∗ OW c O W)
      ⊢ iprop((iprop(D ∗ semVal (c, .dma sem) 0 ∗ OW c O W) -∗ wp frame (wpE defs₀ 𝒱₀ c none) Set.univ (k ⟨⟩) Q)
          -∗ wp frame (wpE defs₀ 𝒱₀ c none) Set.univ (.op (.waitDma2 sem srcw dstw hsrc hdst) k) Q) := by
  unfold OW
  iintro ⟨#Hlv, Hfl, ⟨%W', %hW', HO⟩⟩ Hk
  ihave Hmw := (show LV (F := F) ⊢ Transfers.MayWaits c (default : HIx 1) O from (K (F := F)).mayWaits_none (thr := c) hO) $$ Hlv
  iapply (Transfers.wp_waitLocalO countersEmb 𝒱₀ c none (default : HIx 1) hN) $$ [Hfl HO Hmw]
  · isplitl [Hfl]; · iexact Hfl
    isplitl [HO]; · iexact HO
    iapply (Transfers.MayWaits.elim (SemLoc.dma sem)) $$ Hmw
  iintro ⟨HD, Hs, HO⟩
  iapply Hk
  isplitl [HD]; · iexact HD
  isplitl [Hs]; · iexact Hs
  iexists (insert (SemLoc.dma sem, (default : HIx 1)) W'); isplitr
  · ipureintro; intro p hp
    rcases Finset.mem_insert.mp hp with rfl | hp
    · exact Or.inr rfl
    · exact hW' p hp
  iexact HO

/-- A copy of one window into another, on a cell at zero. -/
theorem step_dma {α : Type} {Q : α → sProp 𝕄} {sp sp' : Space} {s : Shape} {e : EltTy} {src src' : Memref sig c.2.kind sp s e} {dst dst' : Memref sig c.2.kind sp' s e} (hsr : src = src') (hd : dst = dst') {sem : DmaSem sig}
    {hsrc : src.view.WordExact} {hdst : dst.view.WordExact} {hsem : DmaTarget.Typed (nD := nD) sp (.dma sem) (.here dst)}
    {k : PUnit → Prog (TpuEff nD τ sig (Elt F) Λ₀ c.2) α} {w : s.Idx → Elt F e} (N : ℕ) (hN : dst'.view.amount (.dma sem) = N) (hN0 : 0 < N) :
    iprop(At c src' w ∗ Own c dst' ∗ semVal (c, .dma sem) 0)
      ⊢ iprop((Transfers.Flight countersEmb c (.dma sem) (default : HIx 1) N iprop(At c dst' w ∗ At c src' w) -∗ wp frame (wpE defs₀ 𝒱₀ c none) Set.univ (k ⟨⟩) Q)
          -∗ wp frame (wpE defs₀ 𝒱₀ c none) Set.univ (.op (.enqueueDma src (.here dst) (.dma sem) hsrc hdst hsem) k) Q) := by
  subst hd; subst hsr
  unfold Own
  iintro ⟨Hs, ⟨%fd, Hd⟩, Hv⟩ Hk
  ihave Hs' := (show (At c src w : sProp 𝕄) ⊢ iprop(∃ f, ⌜src.view.read (Elt F) f = w⌝ ∗ (src.view.loc c ↦[src.view.set]{fullShare} f)) from by unfold At; exact BI.Entails.refl _) $$ Hs
  icases Hs' with ⟨%fs, %hs, Hs⟩
  have hmono : (iprop((dst.view.loc c ↦[dst.view.set]{fullShare} (dst.view.write (Elt F) fd (ReadAs.same.apply (src.view.read (Elt F) fs)) Finset.univ))
      ∗ (src.view.loc c ↦[src.view.set]{fullShare} fs)) : sProp 𝕄) ⊢ iprop(At c dst w ∗ At c src w) := by
    refine BI.sep_mono ((At_intro c dst _).trans (Entails.of_eq ?_)) ((At_intro c src _).trans (Entails.of_eq ?_))
    · rw [View.read_write_univ, ReadAs.apply_same, hs]
    · rw [hs]
  iapply (Transfers.wp_dmaLocal countersEmb 𝒱₀ c none (via := .same) (default : HIx 1) N hN hN0 (Finset.Subset.refl _)) $$ [Hs Hd Hv]
  · isplitl [Hs]; · iexact Hs
    isplitl [Hd]; · iexact Hd
    iexact Hv
  iintro Hfl
  iapply Hk
  iapply (Transfers.Flight_mono countersEmb c hmono) $$ Hfl

/-- The whole table, as the body slices it. -/
abbrev tAll : Memref sig .scVector .hbm S100000x128 .f32 :=
  (tV).slice (Rect.unit (s := S100000x128) ![0, 0] S100000x128.size inb_S100000x128_S100000x128_0_0) (fun _ => rfl)

omit [FloatOps F] in
theorem tAll_emb (x : S100000x128.Idx) : (tAll).view.emb x = x := by
  funext a
  refine Fin.ext ?_
  match a with
  | 0 => show 0 + 1 * (x 0).val = _; omega
  | 1 => show 0 + 1 * (x 1).val = _; omega
omit [FloatOps F] in
theorem tAll_set : (tAll).view.set = Finset.univ := by
  refine Finset.eq_univ_iff_forall.mpr fun x => ?_
  rw [← tAll_emb x]; exact Finset.mem_map_of_mem _ (Finset.mem_univ x)
omit [FloatOps F] in
theorem tAll_read (f : S100000x128.Idx → Elt F .f32) : (tAll).view.read (Elt F) f = f := by
  funext x; show f ((tAll).view.emb x) = f x; rw [tAll_emb]

omit [FloatOps F] in
/-- What a stream over a list of indices below the table's height delivers. -/
theorem pay_eq (fT : S100000x128.Idx → Elt F .f32) (w : S128.Idx → BitVec 32) (hin : ∀ x, (w x).toNat < 100000) :
    SparseCore.gatherPayload gathers_S100000x128_S128x128 fT (SparseCore.rows (si := S128) (F := F) w rfl hin) = gPay fT w := by
  funext x
  unfold SparseCore.gatherPayload gPay
  congr 1
  funext a
  match a with
  | 0 =>
    refine Fin.ext ?_
    show _ = (w _).toNat % 100000
    rw [Nat.mod_eq_of_lt (hin _)]
    show (w _).toNat = _
    congr 2
    refine (Equiv.symm_apply_eq _).mpr (Fin.ext ?_)
    rw [Shape.rowMajor_val_one]; rfl
  | 1 => rfl

omit [FloatOps F] in
theorem pay_at (fT : S100000x128.Idx → Elt F .f32) (w v : S128.Idx → BitVec 32) (hv : v = w) (hn : S128.numel = S128x128.size gathers_S100000x128_S128x128.axis')
    (hin : ∀ x, (v x).toNat < S100000x128.size gathers_S100000x128_S128x128.axis) :
    SparseCore.gatherPayload gathers_S100000x128_S128x128 ((tAll).view.read (Elt F) fT) (SparseCore.rows (si := S128) (F := F) v hn hin) = gPay fT w := by
  subst hv
  rw [tAll_read]
  exact pay_eq fT v hin

theorem gN_eq {M : Memref sig .scVector .vmem S128x128 .f32} (N : ℕ) (hM : ∀ h : S100000x128.Gathers 0 S128x128,
    ∑ j, (M.slice (S128x128.rowRect h.axis' j) (S128x128.stride_rowRect h.axis' j)).view.dmaCredit = N) :
    ∑ j, (M.slice (S128x128.rowRect gathers_S100000x128_S128x128.axis' j) (S128x128.stride_rowRect gathers_S100000x128_S128x128.axis' j)).view.dmaCredit = N := hM _

/-- A stream of table rows into a row buffer, over a list of 128 indices, on a cell at zero. -/
theorem step_gather {d : Dev nD} {i : Fin τ.nSC} {j : Fin τ.nSub} {α : Type} {Q : α → sProp 𝕄}
    {rM : Memref sig .scVector .vmem S128x128 .f32} {offs : Memref sig .scVector .vmem S128 .i32} {sem : DmaSem sig}
    {hp : (V d i j : Thread nD τ).2.kind = .scVector} {hn : S128.numel = S128x128.size gathers_S100000x128_S128x128.axis'}
    {hsrc : (tAll).view.WordExact} {he : (EltTy.f32).bits = 32} {hsp : Space.hbm = .hbm ∨ Space.hbm = .shared} {hr : S100000x128.StreamRows 0}
    {k : PUnit → Prog (TpuEff nD τ sig (Elt F) Λ₀ (V d i j).2) α}
    {q : PosShare TreeShare} {fT : Buf (Elt F) (tLoc d)} {w : S128.Idx → BitVec 32} {r : S128x128.Idx → Elt F .f32} (N : ℕ)
    (hN : ∑ j, (rM.slice (S128x128.rowRect gathers_S100000x128_S128x128.axis' j) (S128x128.stride_rowRect gathers_S100000x128_S128x128.axis' j)).view.dmaCredit = N)
    (hin : ∀ x, (w x).toNat < 100000) (hw : gPay fT w = r) :
    iprop((tLoc d ↦{q} fT) ∗ Own (V d i j) rM ∗ At (V d i j) offs w ∗ semVal ((V d i j : Thread nD τ), SemLoc.dma sem) 0)
      ⊢ iprop((Transfers.Flight countersEmb (V d i j) (.dma sem) (default : HIx 1) N
            iprop(At (V d i j) rM r ∗ (tLoc d ↦{q} fT) ∗ At (V d i j) offs w) -∗ wp frame (wpE defs₀ 𝒱₀ (V d i j) none) Set.univ (k ⟨⟩) Q)
          -∗ wp frame (wpE defs₀ 𝒱₀ (V d i j) none) Set.univ
            (SparseCore.enqueueIndirectGather hp (tAll) rM gathers_S100000x128_S128x128 offs hn sem hsrc he hsp hr >>= k) Q) := by
  subst hw
  unfold Own
  iintro ⟨Ht, ⟨%fd, Hd⟩, Ho, Hv⟩ Hk
  ihave Ho' := (show (At (V d i j) offs w : sProp 𝕄) ⊢ iprop(∃ f, ⌜offs.view.read (Elt F) f = w⌝ ∗ (offs.view.loc (V d i j) ↦[offs.view.set]{fullShare} f)) from by unfold At; exact BI.Entails.refl _) $$ Ho
  icases Ho' with ⟨%fo, %ho, Ho⟩
  have hin' : ∀ x, (offs.view.read (Elt F) fo x).toNat < S100000x128.size gathers_S100000x128_S128x128.axis := by
    intro x; rw [ho]; exact hin x
  have ht : (tLoc d ↦{q} fT : sProp 𝕄) = ((tAll).view.loc (V d i j) ↦[(tAll).view.set]{q} fT) := by rw [tAll_set]
  have hmono : (iprop((rM.view.loc (V d i j) ↦[rM.view.set]{fullShare} (rM.view.write (Elt F) fd (SparseCore.gatherPayload gathers_S100000x128_S128x128
        ((tAll).view.read (Elt F) fT) (SparseCore.rows (offs.view.read (Elt F) fo) hn hin')) Finset.univ))
      ∗ ((tAll).view.loc (V d i j) ↦[(tAll).view.set]{q} fT) ∗ (offs.view.loc (V d i j) ↦[offs.view.set]{fullShare} fo)) : sProp 𝕄)
      ⊢ iprop(At (V d i j) rM (gPay fT w) ∗ (tLoc d ↦{q} fT) ∗ At (V d i j) offs w) := by
    refine BI.sep_mono ((At_intro (V d i j) rM _).trans (Entails.of_eq ?_)) (BI.sep_mono (Entails.of_eq ht.symm) ((At_intro (V d i j) offs _).trans (Entails.of_eq ?_)))
    · exact congrArg (At (V d i j) rM) ((View.read_write_univ _ _).trans (pay_at fT w _ ho hn hin'))
    · rw [ho]
  ihave Ht' := (Entails.of_eq ht) $$ Ht
  iapply (SparseCore.wp_indirectGatherLocal countersEmb 𝒱₀ (V d i j) none (hg := gathers_S100000x128_S128x128) (default : HIx 1) N hN (by decide) hin') $$ [Ht' Hd Ho Hv]
  · isplitl [Ht']; · iexact Ht'
    isplitl [Hd]; · iexact Hd
    isplitl [Ho]; · iexact Ho
    iexact Hv
  iintro Hfl
  iapply Hk
  iapply (Transfers.Flight_mono countersEmb (V d i j) hmono) $$ Hfl

end Steps

end Cert.Proof.Gather
end
-- ==== Proof.Gather.Cols.lean ====
/-
  The task's windows by columns: which of its index windows and result blocks it holds at a point of its loop, the
  transfers it has in flight, and the index buffer by its four lists.
-/
module

public import proofs.«01_k».proof.Proof.Gather.Tile

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.GatherIdeal.main_arg0_scv : Memref Cert.GatherIdeal.sig Kind.scVector Space.hbm Cert.GatherIdeal.S100000x128 EltTy.f32)
local notation "iV" => (Memref.whole Cert.GatherIdeal.main_v1_scv : Memref Cert.GatherIdeal.sig Kind.scVector Space.hbm Cert.GatherIdeal.S819200 EltTy.i32)
local notation "oV" => (Memref.whole Cert.GatherIdeal.main_v2_scv : Memref Cert.GatherIdeal.sig Kind.scVector Space.hbm Cert.GatherIdeal.S819200x128 EltTy.f32)
local notation "aV" => (Memref.whole Cert.GatherIdeal.cc0_scratch0 : Memref Cert.GatherIdeal.sig Kind.scVector Space.vmem Cert.GatherIdeal.S512 EltTy.i32)
local notation "bV" => (Memref.whole Cert.GatherIdeal.cc0_scratch1 : Memref Cert.GatherIdeal.sig Kind.scVector Space.vmem Cert.GatherIdeal.S512 EltTy.i32)

/-- One member of a separating product over a finite type, taken out or put back. -/
theorem fam_take {I : Type} [Fintype I] [DecidableEq I] (j : I) {Φ Ψ : I → sProp 𝕄} (h : ∀ i, i ≠ j → Φ i = Ψ i) (hj : Ψ j = iprop(emp)) :
    bigSep Finset.univ Φ = iprop(Φ j ∗ bigSep Finset.univ Ψ) := by
  rw [BI.bigSep_erase (Finset.mem_univ j) (Φ := Φ), BI.bigSep_erase (Finset.mem_univ j) (Φ := Ψ), hj]
  have : bigSep (Finset.univ.erase j) Φ = bigSep (Finset.univ.erase j) Ψ := BI.bigSep_congr fun i hi => h i (Finset.ne_of_mem_erase hi)
  rw [this]
  exact congrArg (fun X : sProp 𝕄 => iprop(Φ j ∗ X)) (BI.Entails.antisymm (BI.emp_sep.2) (BI.emp_sep.1))

section

variable (d : Dev nD) (L : grid0.Coords) (fT : S100000x128.Idx → Elt F .f32) (fI : S819200.Idx → BitVec 32)

/-- What the index windows hold: the flat index array's entries. -/
abbrev iRd {j : ℕ} (hj : j < 50) : S512.Idx → Elt F .i32 := (iWin L hj).view.read (Elt F) (fI : Buf (Elt F) ((iWin L hj).view.loc (VT d L)))
/-- What the result's blocks hold in the end. -/
abbrev oRd {j u : ℕ} (hj : j < 50) (hu : u < 4) : S128x128.Idx → Elt F .f32 :=
  (oBlk L hj hu).view.read (Elt F) (gRows fT fI : Buf (Elt F) ((oBlk L hj hu).view.loc (VT d L)))

/-- Index window `n`, if there is one. -/
def iW (n : ℕ) : sProp 𝕄 := if h : n < 50 then At (VT d L) (iWin L h) (iRd L fI h) else iprop(emp)
/-- The task's index windows but `a` and `b`. -/
def iFam (a b : ℕ) : sProp 𝕄 := bigSep Finset.univ fun j : Fin 50 => if j.val = a ∨ j.val = b then iprop(emp) else At (VT d L) (iWin L j.isLt) (iRd L fI j.isLt)

theorem iFam_swap (a b : ℕ) : (iFam d L fI a b : sProp 𝕄) = iFam d L fI b a := by
  unfold iFam; simp only [or_comm]

theorem iFam_take (a n : ℕ) (hn : n ≠ a) (b : ℕ) (hb : 50 ≤ b) : (iFam d L fI a b : sProp 𝕄) = iprop(iW d L fI n ∗ iFam d L fI a n) := by
  unfold iW
  by_cases h : n < 50
  · rw [dif_pos h]
    unfold iFam
    rw [fam_take (⟨n, h⟩ : Fin 50) (Ψ := fun j : Fin 50 => if j.val = a ∨ j.val = n then iprop(emp) else At (VT d L) (iWin L j.isLt) (iRd L fI j.isLt))]
    · rw [if_neg]; show ¬(n = a ∨ n = b); omega
    · intro i hi
      have hi' : i.val ≠ n := fun e => hi (Fin.ext e)
      have hib : i.val ≠ b := by have := i.isLt; omega
      simp only [hi', hib]
    · exact if_pos (Or.inr rfl)
  · rw [dif_neg h]
    refine Eq.trans ?_ (BI.Entails.antisymm (BI.emp_sep.2) (BI.emp_sep.1))
    unfold iFam
    congr 1; funext i
    have h1 : i.val ≠ n := by have := i.isLt; omega
    have h2 : i.val ≠ b := by have := i.isLt; omega
    simp only [h1, h2]

/-- The four blocks of column `j`, holding anything. -/
def own4 {j : ℕ} (hj : j < 50) : sProp 𝕄 :=
  iprop(Own (VT d L) (oBlk L hj (show 0 < 4 by decide)) ∗ Own (VT d L) (oBlk L hj (show 1 < 4 by decide)) ∗ Own (VT d L) (oBlk L hj (show 2 < 4 by decide)) ∗ Own (VT d L) (oBlk L hj (show 3 < 4 by decide)))
/-- One block of column `j`, gathered. -/
def oDone {j u : ℕ} (hj : j < 50) (hu : u < 4) : sProp 𝕄 := At (VT d L) (oBlk L hj hu) (oRd L fT fI hj hu)
/-- The four blocks of column `j`, gathered. -/
def done4 {j : ℕ} (hj : j < 50) : sProp 𝕄 :=
  iprop(oDone d L fT fI hj (show 0 < 4 by decide) ∗ oDone d L fT fI hj (show 1 < 4 by decide) ∗ oDone d L fT fI hj (show 2 < 4 by decide) ∗ oDone d L fT fI hj (show 3 < 4 by decide))
/-- The task's blocks of the result but those of columns `lo … hi - 1`: gathered below `lo`. -/
def oFam (lo hi : ℕ) : sProp 𝕄 := bigSep Finset.univ fun j : Fin 50 =>
  if j.val < lo then done4 d L fT fI j.isLt else if j.val < hi then iprop(emp) else own4 d L j.isLt

theorem oFam_take (lo n : ℕ) (hlo : lo ≤ n) (h : n < 50) : (oFam d L fT fI lo n : sProp 𝕄) = iprop(own4 d L h ∗ oFam d L fT fI lo (n + 1)) := by
  unfold oFam
  rw [fam_take (⟨n, h⟩ : Fin 50) (Ψ := fun j : Fin 50 => if j.val < lo then done4 d L fT fI j.isLt else if j.val < n + 1 then iprop(emp) else own4 d L j.isLt)]
  · rw [if_neg (show ¬ n < lo by omega), if_neg (show ¬ n < n by omega)]
  · intro i hi
    have hi' : i.val ≠ n := fun e => hi (Fin.ext e)
    split_ifs <;> first | rfl | (exfalso; omega)
  · show (if n < lo then _ else if n < n + 1 then _ else _) = _
    rw [if_neg (by omega), if_pos (by omega)]
theorem oFam_put (n hi : ℕ) (hhi : n < hi) (h : n < 50) : iprop(done4 d L fT fI h ∗ oFam d L fT fI n hi) = (oFam d L fT fI (n + 1) hi : sProp 𝕄) := by
  unfold oFam
  symm
  rw [fam_take (⟨n, h⟩ : Fin 50) (Ψ := fun j : Fin 50 => if j.val < n then done4 d L fT fI j.isLt else if j.val < hi then iprop(emp) else own4 d L j.isLt)]
  · rw [if_pos (show n < n + 1 by omega)]
  · intro i hi
    have hi' : i.val ≠ n := fun e => hi (Fin.ext e)
    split_ifs <;> first | rfl | (exfalso; omega)
  · show (if n < n then _ else if n < hi then _ else _) = _
    rw [if_neg (by omega), if_pos (by omega)]

/-- The block a copy out delivered, when `n` columns had been issued before the wait. -/
def oBack (n : ℕ) {u : ℕ} (hu : u < 4) : sProp 𝕄 := if h : 0 < n ∧ n - 1 < 50 then oDone d L fT fI h.2 hu else iprop(emp)
theorem oFam_back (n : ℕ) (h : n ≤ 50) :
    iprop(oBack d L fT fI n (show 0 < 4 by decide) ∗ oBack d L fT fI n (show 1 < 4 by decide) ∗ oBack d L fT fI n (show 2 < 4 by decide) ∗ oBack d L fT fI n (show 3 < 4 by decide) ∗ oFam d L fT fI (n - 1) n)
      ⊢ (oFam d L fT fI n n : sProp 𝕄) := by
  unfold oBack
  cases n with
  | zero =>
    simp only [dif_neg (show ¬(0 < 0 ∧ 0 - 1 < 50) by omega)]
    iintro ⟨-, -, -, -, H⟩; iexact H
  | succ n =>
    simp only [dif_pos (show 0 < n + 1 ∧ n + 1 - 1 < 50 by omega)]
    iintro ⟨H0, H1, H2, H3, H⟩
    iapply (Entails.of_eq (oFam_put d L fT fI n (n + 1) (by omega) (by omega)))
    unfold done4
    isplitl [H0 H1 H2 H3]
    · isplitl [H0]; · iexact H0
      isplitl [H1]; · iexact H1
      isplitl [H2]; · iexact H2
      iexact H3
    · iexact H

/-! ## Transfers in flight -/

/-- The fetch of index window `n` into `M`, if there is a window `n`; else the buffer and the cell at rest. -/
def ixFl (M : Memref sig .scVector .vmem S512 .i32) (sem : DmaSem sig) (n : ℕ) : sProp 𝕄 :=
  if h : n < 50 then Transfers.Flight countersEmb (VT d L) (.dma sem) (default : HIx 1) (M.view.amount (.dma sem)) iprop(At (VT d L) M (iRd L fI h) ∗ At (VT d L) (iWin L h) (iRd L fI h))
  else iprop(Own (VT d L) M ∗ semVal ((VT d L, SemLoc.dma sem) : GSem nD τ sig) 0)

/-- What one copy of 128 rows into the result credits. -/
abbrev oN : ℕ := sig.dmaCredit .scVector (Kind.table .scVector .hbm) (oV).view.buf S128x128 .f32

/-- The copy out of row buffer `u` of the last column issued, if one was. -/
def outFl (M : Memref sig .scVector .vmem S128x128 .f32) (sem : DmaSem sig) (n : ℕ) {u : ℕ} (hu : u < 4) : sProp 𝕄 :=
  if h : 0 < n ∧ n - 1 < 50 then Transfers.Flight countersEmb (VT d L) (.dma sem) (default : HIx 1) oN iprop(oDone d L fT fI h.2 hu ∗ At (VT d L) M (oRd L fT fI h.2 hu))
  else iprop(Own (VT d L) M ∗ semVal ((VT d L, SemLoc.dma sem) : GSem nD τ sig) 0)

/-! ## An index buffer by its four lists -/

theorem inbSl (u : Fin 4) : ∀ a, (![128 * u.val] : Fin 1 → ℕ) a + S128.size a ≤ S512.size a := by
  intro a; match a with | 0 => show 128 * u.val + 128 ≤ 512; omega
/-- List `u` of an index buffer. -/
abbrev sl (M : Memref sig .scVector .vmem S512 .i32) (u : Fin 4) : Memref sig .scVector .vmem S128 .i32 :=
  M.slice (Rect.unit (s := S512) ![128 * u.val] S128.size (inbSl u)) (fun _ => rfl)
/-- What list `u` of an index buffer holding `w` holds. -/
def slRd (w : S512.Idx → BitVec 32) (u : Fin 4) : S128.Idx → BitVec 32 :=
  fun x => w (fun a => match a with | ⟨0, _⟩ => (⟨128 * u.val + (x 0).val, by have := (x 0).isLt; have := u.isLt; change (x 0).val < 128 at *; omega⟩ : Fin 512))

theorem sl_union (M : Memref sig .scVector .vmem S512 .i32) : Finset.univ.biUnion (fun u : Fin 4 => (sl M u).view.set) = M.view.set := by
  have h : ∀ u, (sl M u).view.set = (Rect.unit (s := S512) ![128 * u.val] S128.size (inbSl u)).set.map M.view.emb := fun u => View.set_slice _ _
  simp only [h]
  ext y
  simp only [Finset.mem_biUnion, Finset.mem_univ, true_and, Finset.mem_map, Rect.mem_set_unit, View.set]
  constructor
  · rintro ⟨u, x, -, rfl⟩; exact ⟨x, rfl⟩
  · rintro ⟨x, rfl⟩
    have hx : (x 0).val < 512 := (x 0).isLt
    refine ⟨⟨(x 0).val / 128, by omega⟩, x, fun a => ?_, rfl⟩
    match a with | 0 => show 128 * ((x 0).val / 128) ≤ (x 0).val ∧ (x 0).val < 128 * ((x 0).val / 128) + 128; omega
theorem sl_disj (M : Memref sig .scVector .vmem S512 .i32) (u v : Fin 4) (h : u ≠ v) : Disjoint (sl M u).view.set (sl M v).view.set := by
  rw [show (sl M u).view.set = _ from View.set_slice _ _, show (sl M v).view.set = _ from View.set_slice _ _]
  rw [Finset.disjoint_map, Finset.disjoint_left]
  intro x hx hy
  have h1 := Rect.mem_set_unit.mp hx 0
  have h2 := Rect.mem_set_unit.mp hy 0
  change 128 * u.val ≤ (x 0).val ∧ (x 0).val < 128 * u.val + 128 at h1
  change 128 * v.val ≤ (x 0).val ∧ (x 0).val < 128 * v.val + 128 at h2
  exact h (Fin.ext (by omega))

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- An index buffer at what was fetched is its four lists. -/
theorem sl_split (i : Fin τ.nSC) (j : Fin τ.nSub) (M : Memref sig .scVector .vmem S512 .i32) (w : S512.Idx → Elt F .i32) :
    (At (V d i j) M w : sProp 𝕄) ⊢ iprop(At (V d i j) (sl M 0) (slRd w 0) ∗ At (V d i j) (sl M 1) (slRd w 1) ∗ At (V d i j) (sl M 2) (slRd w 2) ∗ At (V d i j) (sl M 3) (slRd w 3)) := by
  unfold At
  iintro ⟨%f, %hf, H⟩
  subst hf
  ihave H' := (Entails.of_eq ((congrArg (fun S => (M.view.loc (V d i j) ↦[S]{fullShare} f : sProp 𝕄)) (sl_union M).symm).trans
    ((pointsTo_biUnion _ _ (fun u _ v _ h => sl_disj M u v h)).trans (fin4 _)))) $$ H
  have hr : ∀ u, (sl M u).view.read (Elt F) f = slRd (M.view.read (Elt F) f) u := by
    intro u; funext x
    show _ = M.view.read (Elt F) f _
    rw [show (sl M u).view.read (Elt F) f x = M.view.read (Elt F) f ((Rect.unit (s := S512) ![128 * u.val] S128.size (inbSl u)).emb x) from rfl]
    congr 1; funext a
    match a with | 0 => exact Fin.ext (show 128 * u.val + 1 * (x 0).val = 128 * u.val + (x 0).val by omega)
  icases H' with ⟨H0, H1, H2, H3⟩
  isplitl [H0]; · iexists f; isplitr; · ipureintro; exact hr 0
                  iexact H0
  isplitl [H1]; · iexists f; isplitr; · ipureintro; exact hr 1
                  iexact H1
  isplitl [H2]; · iexists f; isplitr; · ipureintro; exact hr 2
                  iexact H2
  iexists f; isplitr; · ipureintro; exact hr 3
  iexact H3

/-- Four disjoint parts of an array, each at its own contents, are the whole at some contents. -/
theorem join4 {ℓ : Loc nD τ sig} (K : Fin 4 → Finset (Idx ℓ)) (S : Finset (Idx ℓ)) (hS : Finset.univ.biUnion K = S) (hK : ∀ u v, u ≠ v → Disjoint (K u) (K v)) :
    iprop((∃ f : Buf (Elt F) ℓ, ℓ ↦[K 0]{fullShare} f) ∗ (∃ f : Buf (Elt F) ℓ, ℓ ↦[K 1]{fullShare} f) ∗ (∃ f : Buf (Elt F) ℓ, ℓ ↦[K 2]{fullShare} f)
      ∗ (∃ f : Buf (Elt F) ℓ, ℓ ↦[K 3]{fullShare} f)) ⊢ (iprop(∃ g : Buf (Elt F) ℓ, ℓ ↦[S]{fullShare} g) : sProp 𝕄) := by
  subst hS
  iintro ⟨⟨%f0, H0⟩, ⟨%f1, H1⟩, ⟨%f2, H2⟩, ⟨%f3, H3⟩⟩
  have key := (Entails.of_eq (fin4 (fun u : Fin 4 => (ℓ ↦[K u]{fullShare} (![f0, f1, f2, f3] : Fin 4 → Buf (Elt F) ℓ) u : sProp 𝕄))).symm).trans
    (pointsTo_biUnion_join Finset.univ K ![f0, f1, f2, f3] f0 (fun u _ v _ h => hK u v h))
  ihave H := key $$ [H0 H1 H2 H3]
  · isplitl [H0]; · iexact H0
    isplitl [H1]; · iexact H1
    isplitl [H2]; · iexact H2
    iexact H3
  icases H with ⟨%g, -, H⟩
  iexists g; iexact H

/-- Four lists of an index buffer are the buffer. -/
theorem sl_join (i : Fin τ.nSC) (j : Fin τ.nSub) (M : Memref sig .scVector .vmem S512 .i32) :
    iprop(Own (V d i j) (sl M 0) ∗ Own (V d i j) (sl M 1) ∗ Own (V d i j) (sl M 2) ∗ Own (V d i j) (sl M 3)) ⊢ (Own (V d i j) M : sProp 𝕄) :=
  join4 (ℓ := M.view.loc (V d i j)) (fun u => (sl M u).view.set) M.view.set (sl_union M) (sl_disj M)

/-! ## The rows a list names are the result's -/

theorem slRd_lt (F : FTy → Type) (hI : ∀ x, (fI x).toNat < 100000) {j : ℕ} (hj : j < 50) (u : Fin 4) : ∀ x, (slRd (iRd (F := F) L fI hj) u x).toNat < 100000 := by
  intro x; unfold slRd; exact hI _

theorem pay_block {j : ℕ} (hj : j < 50) (u : Fin 4) : gPay fT (slRd (iRd (F := F) L fI hj) u) = oRd L fT fI hj u.isLt := by
  funext x
  have e : oRd L fT fI hj u.isLt x = gRows fT fI ((Rect.unit (s := S819200x128) (oOff L j u) S128x128.size (oOff_inb L hj u.isLt)).emb x) := rfl
  rw [e]
  unfold gPay gRows
  congr 1; funext a
  match a with
  | 0 =>
    show rowIx (slRd (iRd (F := F) L fI hj) u _) = rowIx (fI _)
    congr 1
    unfold slRd
    show fI ((Rect.unit (s := S819200) (iOff L j) S512.size (iOff_inb L hj)).emb _) = fI _
    congr 1; funext b
    match b with
    | 0 =>
      refine Fin.ext ?_
      show 1024 * (L 1).val + 512 * (L 0).val + 16384 * j + 1 * (128 * u.val + (x 0).val) = 1024 * (L 1).val + 512 * (L 0).val + 16384 * j + 128 * u.val + 1 * (x 0).val
      omega
  | 1 =>
    refine Fin.ext ?_
    show (x 1).val = 0 + 1 * (x 1).val
    omega

end

end Cert.Proof.Gather
end
-- ==== Proof.Gather.Trip.lean ====
/-
  One trip of the task's loop: two columns gathered and sent out, the next two columns' indices fetched.
-/
module

public import proofs.«01_k».proof.Proof.Gather.Cols

@[expose] public section

set_option maxRecDepth 16384
set_option pp.maxSteps 100

noncomputable section

namespace Cert.Proof.Gather

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.GatherIdeal.main_arg0_scv : Memref Cert.GatherIdeal.sig Kind.scVector Space.hbm Cert.GatherIdeal.S100000x128 EltTy.f32)
local notation "iV" => (Memref.whole Cert.GatherIdeal.main_v1_scv : Memref Cert.GatherIdeal.sig Kind.scVector Space.hbm Cert.GatherIdeal.S819200 EltTy.i32)
local notation "oV" => (Memref.whole Cert.GatherIdeal.main_v2_scv : Memref Cert.GatherIdeal.sig Kind.scVector Space.hbm Cert.GatherIdeal.S819200x128 EltTy.f32)
local notation "aV" => (Memref.whole Cert.GatherIdeal.cc0_scratch0 : Memref Cert.GatherIdeal.sig Kind.scVector Space.vmem Cert.GatherIdeal.S512 EltTy.i32)
local notation "bV" => (Memref.whole Cert.GatherIdeal.cc0_scratch1 : Memref Cert.GatherIdeal.sig Kind.scVector Space.vmem Cert.GatherIdeal.S512 EltTy.i32)
local notation "r0V" => (Memref.whole Cert.GatherIdeal.cc0_scratch2 : Memref Cert.GatherIdeal.sig Kind.scVector Space.vmem Cert.GatherIdeal.S128x128 EltTy.f32)
local notation "r1V" => (Memref.whole Cert.GatherIdeal.cc0_scratch3 : Memref Cert.GatherIdeal.sig Kind.scVector Space.vmem Cert.GatherIdeal.S128x128 EltTy.f32)
local notation "r2V" => (Memref.whole Cert.GatherIdeal.cc0_scratch4 : Memref Cert.GatherIdeal.sig Kind.scVector Space.vmem Cert.GatherIdeal.S128x128 EltTy.f32)
local notation "r3V" => (Memref.whole Cert.GatherIdeal.cc0_scratch5 : Memref Cert.GatherIdeal.sig Kind.scVector Space.vmem Cert.GatherIdeal.S128x128 EltTy.f32)

variable [FloatOps F] (d : Dev nD) (L : grid0.Coords) (fT : S100000x128.Idx → Elt F .f32) (fI : S819200.Idx → BitVec 32)
  (qs : Fin 4 → PosShare TreeShare) (O : CellTallies nD τ sig (HIx 1)) (W : Waits sig (HIx 1))

/-- The counter of one of the task's cells, at zero. -/
abbrev z (sem : DmaSem sig) : sProp 𝕄 := semVal ((VT d L, SemLoc.dma sem) : GSem nD τ sig) 0

/-- The task's four read tokens of the table. -/
abbrev tok (u : Fin 4) : sProp 𝕄 := tLoc d ↦{qs u} (fT : Buf (Elt F) (tLoc d))

/-- What the task holds before trip `p`. -/
def inv (p : ℕ) (_ : Unit) : sProp 𝕄 :=
  iprop(LV (F := F)
    ∗ (tok d fT qs 0 ∗ tok d fT qs 1 ∗ tok d fT qs 2 ∗ tok d fT qs 3)
    ∗ (z d L cc0_scratch8.sem ∗ z d L cc0_scratch9.sem ∗ z d L cc0_scratch10.sem ∗ z d L cc0_scratch11.sem)
    ∗ ixFl d L fI (aV) cc0_scratch6.sem (2 * p) ∗ ixFl d L fI (bV) cc0_scratch7.sem (2 * p + 1)
    ∗ (outFl d L fT fI (r0V) cc0_scratch12.sem (2 * p) (show 0 < 4 by decide) ∗ outFl d L fT fI (r1V) cc0_scratch13.sem (2 * p) (show 1 < 4 by decide)
      ∗ outFl d L fT fI (r2V) cc0_scratch14.sem (2 * p) (show 2 < 4 by decide) ∗ outFl d L fT fI (r3V) cc0_scratch15.sem (2 * p) (show 3 < 4 by decide))
    ∗ iFam d L fI (2 * p) (2 * p + 1) ∗ oFam d L fT fI (2 * p - 1) (2 * p)
    ∗ OW (VT d L) O W)

/-! ## The conditional steps -/

/-- A conditional step of a program: what it does when the condition holds, nothing otherwise. -/
def ifDo {E : Type → Type} (cond : Prop) [Decidable cond] (P : cond → Prog E PUnit) : Prog E PUnit := if h : cond then P h else .ret ⟨⟩

/-- A program that repeats its continuation in both branches of a conditional is the conditional step, then the continuation. -/
theorem ifDo_join {E : Type → Type} {α : Type} {cond : Prop} [Decidable cond] (e : cond → E PUnit) (k : Prog E α) :
    (if h : cond then Prog.op (e h) (fun _ => k) else k) = ifDo cond (fun h => Prog.op (e h) fun _ => .ret ⟨⟩) >>= fun _ => k := by
  unfold ifDo
  split_ifs <;> rfl

theorem step_if {α : Type} {Q : α → sProp 𝕄} {cond : Prop} [Decidable cond] {P : cond → Prog (TpuEff nD τ sig (Elt F) Λ₀ (VT d L).2) PUnit}
    {k : PUnit → Prog (TpuEff nD τ sig (Elt F) Λ₀ (VT d L).2) α} {R R' : sProp 𝕄}
    (h1 : ∀ h : cond, R ⊢ iprop((R' -∗ wp frame (wpE defs₀ 𝒱₀ (VT d L) none) Set.univ (k ⟨⟩) Q) -∗ wp frame (wpE defs₀ 𝒱₀ (VT d L) none) Set.univ (P h >>= k) Q))
    (h0 : ¬cond → R ⊢ R') :
    R ⊢ iprop((R' -∗ wp frame (wpE defs₀ 𝒱₀ (VT d L) none) Set.univ (k ⟨⟩) Q)
      -∗ wp frame (wpE defs₀ 𝒱₀ (VT d L) none) Set.univ (ifDo cond P >>= k) Q) := by
  unfold ifDo
  by_cases h : cond
  · rw [dif_pos h]; exact h1 h
  · rw [dif_neg h, Prog.bind_ret]
    refine (h0 h).trans ?_
    iintro HR Hk
    iapply Hk
    iexact HR

/-- The wait for a row buffer's last copy out, made when a column was issued before. -/
theorem step_ifout (hO : ∀ g, O g none = 0) {α : Type} {Q : α → sProp 𝕄} {cond : Prop} [Decidable cond] {P : cond → Prog (TpuEff nD τ sig (Elt F) Λ₀ (VT d L).2) PUnit}
    {k : PUnit → Prog (TpuEff nD τ sig (Elt F) Λ₀ (VT d L).2) α} {M : Memref sig .scVector .vmem S128x128 .f32} {sem : DmaSem sig} {n u : ℕ} {hu : u < 4}
    (hn : cond ↔ 0 < n) (h50 : n - 1 < 50)
    (hP : ∀ h, ∃ (srcw : Memref sig .scVector .vmem S128x128 .f32) (dstw : Memref sig .scVector .hbm S128x128 .f32) (hs : srcw.view.WordExact) (hd : dstw.view.WordExact),
      P h = .op (.waitDma2 sem srcw dstw hs hd) (fun _ => .ret ⟨⟩) ∧ dstw.view.dmaCredit = oN) :
    iprop(LV (F := F) ∗ outFl d L fT fI M sem n hu ∗ OW (VT d L) O W)
      ⊢ iprop((iprop(oBack d L fT fI n hu ∗ Own (VT d L) M ∗ z d L sem ∗ OW (VT d L) O W) -∗ wp frame (wpE defs₀ 𝒱₀ (VT d L) none) Set.univ (k ⟨⟩) Q)
        -∗ wp frame (wpE defs₀ 𝒱₀ (VT d L) none) Set.univ (ifDo cond P >>= k) Q) := by
  refine step_if d L (fun h => ?_) (fun h => ?_)
  · obtain ⟨srcw, dstw, hs, hd, hPe, hN⟩ := hP h
    have h' : 0 < n ∧ n - 1 < 50 := ⟨hn.mp h, h50⟩
    unfold outFl oBack
    rw [hPe, dif_pos h', dif_pos h']
    iintro ⟨#Hlv, Hfl, HO⟩ Hk
    iapply (step_wait (VT d L) O W hO hN) $$ [Hfl HO]
    · isplitr; · iexact Hlv
      isplitl [Hfl]; · iexact Hfl
      iexact HO
    iintro ⟨⟨Hb, Hr⟩, Hz, HO⟩
    iapply Hk
    isplitl [Hb]; · iexact Hb
    isplitl [Hr]; · iapply (At_Own (VT d L) M _) $$ Hr
    isplitl [Hz]; · iexact Hz
    iexact HO
  · have h' : ¬(0 < n ∧ n - 1 < 50) := fun e => h (hn.mpr e.1)
    unfold outFl oBack
    rw [dif_neg h', dif_neg h']
    iintro ⟨-, ⟨Hr, Hz⟩, HO⟩
    isplitr; · iempintro
    isplitl [Hr]; · iexact Hr
    isplitl [Hz]; · iexact Hz
    iexact HO

/-- The fetch of a later column's indices, made when there is such a column. -/
theorem step_ifix {α : Type} {Q : α → sProp 𝕄} {cond : Prop} [Decidable cond] {P : cond → Prog (TpuEff nD τ sig (Elt F) Λ₀ (VT d L).2) PUnit}
    {k : PUnit → Prog (TpuEff nD τ sig (Elt F) Λ₀ (VT d L).2) α} {M : Memref sig .scVector .vmem S512 .i32} {sem : DmaSem sig} {n : ℕ}
    (hn : cond ↔ n < 50) (hM : 0 < M.view.amount (.dma sem))
    (hP : ∀ h, ∃ (off : Fin 1 → ℕ) (inb : ∀ a, off a + S512.size a ≤ S819200.size a)
      (hs : ((iV).slice (Rect.unit (s := S819200) off S512.size inb) (fun _ => rfl)).view.WordExact) (hd : M.view.WordExact) (ht : DmaTarget.Typed (nD := nD) Space.hbm (.dma sem) (.here M : DmaTarget nD τ sig (VT d L).2 .vmem S512 .i32)),
      P h = .op (.enqueueDma ((iV).slice (Rect.unit (s := S819200) off S512.size inb) (fun _ => rfl)) (.here (p := (VT d L).2) M) (.dma sem) hs hd ht) (fun _ => .ret ⟨⟩) ∧ off = iOff L n) :
    iprop(iW d L fI n ∗ Own (VT d L) M ∗ z d L sem)
      ⊢ iprop((ixFl d L fI M sem n -∗ wp frame (wpE defs₀ 𝒱₀ (VT d L) none) Set.univ (k ⟨⟩) Q)
        -∗ wp frame (wpE defs₀ 𝒱₀ (VT d L) none) Set.univ (ifDo cond P >>= k) Q) := by
  refine step_if d L (fun h => ?_) (fun h => ?_)
  · obtain ⟨off, inb, hs, hd, ht, hPe, ho⟩ := hP h
    have h' : n < 50 := hn.mp h
    unfold ixFl iW
    rw [hPe, dif_pos h', dif_pos h']
    exact step_dma (VT d L) (iWin_of L h' ho inb) rfl _ rfl hM
  · have h' : ¬(n < 50) := fun e => h (hn.mpr e)
    unfold ixFl iW
    rw [dif_neg h', dif_neg h']
    iintro ⟨-, Hr, Hz⟩
    isplitl [Hr]; · iexact Hr
    iexact Hz

/-- The wait for a column's indices. -/
theorem step_ixwait (hO : ∀ g, O g none = 0) {α : Type} {Q : α → sProp 𝕄} {k : PUnit → Prog (TpuEff nD τ sig (Elt F) Λ₀ (VT d L).2) α}
    {M : Memref sig .scVector .vmem S512 .i32} {sem : DmaSem sig} {n : ℕ} (hn : n < 50) (hM : M.view.dmaCredit = M.view.amount (.dma sem))
    {srcw : Memref sig .scVector .hbm S512 .i32} {hs : srcw.view.WordExact} {hd : M.view.WordExact} :
    iprop(LV (F := F) ∗ ixFl d L fI M sem n ∗ OW (VT d L) O W)
      ⊢ iprop((iprop(At (VT d L) M (iRd L fI hn) ∗ iW d L fI n ∗ z d L sem ∗ OW (VT d L) O W) -∗ wp frame (wpE defs₀ 𝒱₀ (VT d L) none) Set.univ (k ⟨⟩) Q)
        -∗ wp frame (wpE defs₀ 𝒱₀ (VT d L) none) Set.univ (.op (.waitDma2 sem srcw M hs hd) k) Q) := by
  unfold ixFl iW
  rw [dif_pos hn, dif_pos hn]
  iintro ⟨#Hlv, Hfl, HO⟩ Hk
  iapply (step_wait (VT d L) O W hO hM) $$ [Hfl HO]
  · isplitr; · iexact Hlv
    isplitl [Hfl]; · iexact Hfl
    iexact HO
  iintro ⟨⟨Ha, Hw⟩, Hz, HO⟩
  iapply Hk
  isplitl [Ha]; · iexact Ha
  isplitl [Hw]; · iexact Hw
  isplitl [Hz]; · iexact Hz
  iexact HO

/-- The wait for a gather. -/
theorem step_gwait (hO : ∀ g, O g none = 0) {α : Type} {Q : α → sProp 𝕄} {k : PUnit → Prog (TpuEff nD τ sig (Elt F) Λ₀ (VT d L).2) α} {sem : DmaSem sig}
    {src : Memref sig .scVector .hbm S100000x128 .f32} {M : Memref sig .scVector .vmem S128x128 .f32} {hs : src.view.WordExact} {hd : M.view.WordExact}
    {N : ℕ} (hN : M.view.dmaCredit = N) {R : sProp 𝕄} :
    iprop(LV (F := F) ∗ Transfers.Flight countersEmb (VT d L) (.dma sem) (default : HIx 1) N R ∗ OW (VT d L) O W)
      ⊢ iprop((iprop(R ∗ z d L sem ∗ OW (VT d L) O W) -∗ wp frame (wpE defs₀ 𝒱₀ (VT d L) none) Set.univ (k ⟨⟩) Q)
          -∗ wp frame (wpE defs₀ 𝒱₀ (VT d L) none) Set.univ (SparseCore.waitIndirectGather sem src M hs hd >>= k) Q) := by
  exact step_wait (VT d L) O W hO hN

/-- The copy of a gathered row buffer out to its block. -/
theorem step_out {α : Type} {Q : α → sProp 𝕄} {k : PUnit → Prog (TpuEff nD τ sig (Elt F) Λ₀ (VT d L).2) α} {M : Memref sig .scVector .vmem S128x128 .f32} {sem : DmaSem sig} {n u : ℕ} (hu : u < 4)
    (hn : n < 50) {off : Fin 2 → ℕ} {inb : ∀ a, off a + S128x128.size a ≤ S819200x128.size a} (ho : off = oOff L n u) {hs : M.view.WordExact}
    {hd : ((oV).slice (Rect.unit (s := S819200x128) off S128x128.size inb) (fun _ => rfl)).view.WordExact}
    {ht : DmaTarget.Typed (nD := nD) Space.vmem (.dma sem) (.here ((oV).slice (Rect.unit (s := S819200x128) off S128x128.size inb) (fun _ => rfl)) : DmaTarget nD τ sig (VT d L).2 .hbm S128x128 .f32)} :
    iprop(At (VT d L) M (oRd L fT fI hn hu) ∗ Own (VT d L) (oBlk L hn hu) ∗ z d L sem)
      ⊢ iprop((outFl d L fT fI M sem (n + 1) hu -∗ wp frame (wpE defs₀ 𝒱₀ (VT d L) none) Set.univ (k ⟨⟩) Q)
        -∗ wp frame (wpE defs₀ 𝒱₀ (VT d L) none) Set.univ
          (.op (.enqueueDma M (.here (p := (VT d L).2) ((oV).slice (Rect.unit (s := S819200x128) off S128x128.size inb) (fun _ => rfl))) (.dma sem) hs hd ht) k) Q) := by
  unfold outFl oDone
  rw [dif_pos (show 0 < n + 1 ∧ n + 1 - 1 < 50 by omega)]
  exact step_dma (VT d L) rfl (oBlk_of L hn hu ho inb) oN rfl (by decide)

/-! ## The trip's conditions and offsets -/

omit [FloatOps F] in
theorem trips_eq : k0_t1_loop.trips = 25 := rfl
theorem cond1_iff (t : Fin k0_t1_loop.trips) : k0_cond1 t = 1#1 ↔ 0 < 2 * t.val := by revert t; decide
theorem cond2_iff (t : Fin k0_t1_loop.trips) : k0_cond2 t = 1#1 ↔ 0 < 2 * t.val := by revert t; decide
theorem cond3_iff (t : Fin k0_t1_loop.trips) : k0_cond3 t = 1#1 ↔ 0 < 2 * t.val := by revert t; decide
theorem cond4_iff (t : Fin k0_t1_loop.trips) : k0_cond4 t = 1#1 ↔ 0 < 2 * t.val := by revert t; decide
theorem cond6_iff (t : Fin k0_t1_loop.trips) : k0_cond6 t = 1#1 ↔ 0 < 2 * t.val + 1 := by revert t; decide
theorem cond7_iff (t : Fin k0_t1_loop.trips) : k0_cond7 t = 1#1 ↔ 0 < 2 * t.val + 1 := by revert t; decide
theorem cond8_iff (t : Fin k0_t1_loop.trips) : k0_cond8 t = 1#1 ↔ 0 < 2 * t.val + 1 := by revert t; decide
theorem cond9_iff (t : Fin k0_t1_loop.trips) : k0_cond9 t = 1#1 ↔ 0 < 2 * t.val + 1 := by revert t; decide
theorem cond5_iff (t : Fin k0_t1_loop.trips) : k0_cond5 t = 1#1 ↔ 2 * t.val + 2 < 50 := by revert t; decide
theorem cond10_iff (t : Fin k0_t1_loop.trips) : k0_cond10 t = 1#1 ↔ 2 * t.val + 3 < 50 := by revert t; decide
theorem cond5_off (L : grid0.Coords) (t : Fin k0_t1_loop.trips) : k0_off9 L t = iOff L (2 * t.val + 2) := by
  rw [k0_off9_eq]; unfold iOff; exact congrArg (fun x : ℕ => (![x] : Fin 1 → ℕ)) (by omega)
theorem cond10_off (L : grid0.Coords) (t : Fin k0_t1_loop.trips) : k0_off16 L t = iOff L (2 * t.val + 3) := by
  rw [k0_off16_eq]; unfold iOff; exact congrArg (fun x : ℕ => (![x] : Fin 1 → ℕ)) (by omega)
theorem off8_at (L : grid0.Coords) (t : Fin k0_t1_loop.trips) (r : Fin 4) : k0_off8 L t (BitVec.ofNat 32 (128 * r.val)) = oOff L (2 * t.val) r.val := by
  rw [k0_off8_eq]; unfold oOff; congr 1; omega
theorem off15_at (L : grid0.Coords) (t : Fin k0_t1_loop.trips) (r : Fin 4) : k0_off15 L t (BitVec.ofNat 32 (128 * r.val)) = oOff L (2 * t.val + 1) r.val := by
  rw [k0_off15_eq]; unfold oOff; congr 1; omega
theorem sumN0 : ∀ h : S100000x128.Gathers 0 S128x128, ∑ j, ((r0V).slice (S128x128.rowRect h.axis' j) (S128x128.stride_rowRect h.axis' j)).view.dmaCredit = (r0V).view.dmaCredit := by
  decide
theorem sumN1 : ∀ h : S100000x128.Gathers 0 S128x128, ∑ j, ((r1V).slice (S128x128.rowRect h.axis' j) (S128x128.stride_rowRect h.axis' j)).view.dmaCredit = (r1V).view.dmaCredit := by
  decide
theorem sumN2 : ∀ h : S100000x128.Gathers 0 S128x128, ∑ j, ((r2V).slice (S128x128.rowRect h.axis' j) (S128x128.stride_rowRect h.axis' j)).view.dmaCredit = (r2V).view.dmaCredit := by
  decide
theorem sumN3 : ∀ h : S100000x128.Gathers 0 S128x128, ∑ j, ((r3V).slice (S128x128.rowRect h.axis' j) (S128x128.stride_rowRect h.axis' j)).view.dmaCredit = (r3V).view.dmaCredit := by
  decide
theorem iFam_put (n a : ℕ) (h : n ≠ a) : iprop(iW d L fI n ∗ iFam d L fI n a) ⊢ (iFam d L fI a 99 : sProp 𝕄) := by
  exact Entails.of_eq (by rw [iFam_swap d L fI n a]; exact (iFam_take d L fI a n h 99 (by decide)).symm)

set_option maxHeartbeats 4000000 in
theorem trip (hI : ∀ x, (fI x).toNat < 100000) (hO : ∀ g, O g none = 0) (v2 : BitVec 32) (t : Fin k0_t1_loop.trips) (acc : Unit) :
    inv d L fT fI qs O W t.val acc
    ⊢ wp frame (wpE defs₀ 𝒱₀ (VT d L) none) Set.univ
        (k0_t1_body (F := F) L (tV) (Memref.isWhole_whole _) (iV) (Memref.isWhole_whole _) (oV) (Memref.isWhole_whole _) (aV) (Memref.isWhole_whole _) (bV) (Memref.isWhole_whole _)
          (r0V) (Memref.isWhole_whole _) (r1V) (Memref.isWhole_whole _) (r2V) (Memref.isWhole_whole _) (r3V) (Memref.isWhole_whole _)
          cc0_scratch6 cc0_scratch7 cc0_scratch8 cc0_scratch9 cc0_scratch10 cc0_scratch11 cc0_scratch12 cc0_scratch13 cc0_scratch14 cc0_scratch15 v2 t acc)
        (fun a => inv d L fT fI qs O W (t.val + 1) a) := by
  unfold k0_t1_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, Prog.bind_assoc, ifDo_join]
  have ht : t.val < 25 := t.isLt
  have h0 : 2 * t.val < 50 := by omega
  have h1 : 2 * t.val + 1 < 50 := by omega
  unfold inv
  iintro ⟨#Hlv, ⟨Ht0, Ht1, Ht2, Ht3⟩, ⟨Hz0, Hz1, Hz2, Hz3⟩, Hxa, Hxb, ⟨Hf0, Hf1, Hf2, Hf3⟩, Hif, Hof, HO⟩
  -- column 2 * t.val: its indices arrive
  iapply (step_ixwait d L fI O W hO (M := (aV)) (n := 2 * t.val) h0 rfl) $$ [Hxa HO]
  · isplitr; · iexact Hlv
    isplitl [Hxa]; · iexact Hxa
    iexact HO
  iintro ⟨Ha, Hw, Hzx, HO⟩
  ihave Ha' := (sl_split d (cV L) (jV L) (aV) (iRd L fI h0)) $$ Ha
  icases Ha' with ⟨Hs0, Hs1, Hs2, Hs3⟩
  -- row buffer 0: its last copy out has landed; its rows are gathered
  iapply (step_ifout d L fT fI O W hO (M := r0V) (n := 2 * t.val) (hu := show 0 < 4 by decide) (cond1_iff t) (by omega) (fun h => ⟨_, _, _, _, rfl, rfl⟩)) $$ [Hf0 HO]
  · isplitr; · iexact Hlv
    isplitl [Hf0]; · iexact Hf0
    iexact HO
  iintro ⟨Hb0, Hr0, Hzo0, HO⟩
  iapply (step_gather (offs := sl (aV) 0) (q := qs 0) (fT := fT) (w := slRd (iRd (F := F) L fI h0) 0) (r := oRd L fT fI h0 (show 0 < 4 by decide)) (r0V).view.dmaCredit (sumN0 _) (slRd_lt L fI F hI h0 0) (pay_block L fT fI h0 0)) $$ [Ht0 Hr0 Hs0 Hz0]
  · isplitl [Ht0]; · iexact Ht0
    isplitl [Hr0]; · iexact Hr0
    isplitl [Hs0]; · iexact Hs0
    iexact Hz0
  iintro Hg0
  -- row buffer 1: its last copy out has landed; its rows are gathered
  iapply (step_ifout d L fT fI O W hO (M := r1V) (n := 2 * t.val) (hu := show 1 < 4 by decide) (cond2_iff t) (by omega) (fun h => ⟨_, _, _, _, rfl, rfl⟩)) $$ [Hf1 HO]
  · isplitr; · iexact Hlv
    isplitl [Hf1]; · iexact Hf1
    iexact HO
  iintro ⟨Hb1, Hr1, Hzo1, HO⟩
  iapply (step_gather (offs := sl (aV) 1) (q := qs 1) (fT := fT) (w := slRd (iRd (F := F) L fI h0) 1) (r := oRd L fT fI h0 (show 1 < 4 by decide)) (r1V).view.dmaCredit (sumN1 _) (slRd_lt L fI F hI h0 1) (pay_block L fT fI h0 1)) $$ [Ht1 Hr1 Hs1 Hz1]
  · isplitl [Ht1]; · iexact Ht1
    isplitl [Hr1]; · iexact Hr1
    isplitl [Hs1]; · iexact Hs1
    iexact Hz1
  iintro Hg1
  -- row buffer 2: its last copy out has landed; its rows are gathered
  iapply (step_ifout d L fT fI O W hO (M := r2V) (n := 2 * t.val) (hu := show 2 < 4 by decide) (cond3_iff t) (by omega) (fun h => ⟨_, _, _, _, rfl, rfl⟩)) $$ [Hf2 HO]
  · isplitr; · iexact Hlv
    isplitl [Hf2]; · iexact Hf2
    iexact HO
  iintro ⟨Hb2, Hr2, Hzo2, HO⟩
  iapply (step_gather (offs := sl (aV) 2) (q := qs 2) (fT := fT) (w := slRd (iRd (F := F) L fI h0) 2) (r := oRd L fT fI h0 (show 2 < 4 by decide)) (r2V).view.dmaCredit (sumN2 _) (slRd_lt L fI F hI h0 2) (pay_block L fT fI h0 2)) $$ [Ht2 Hr2 Hs2 Hz2]
  · isplitl [Ht2]; · iexact Ht2
    isplitl [Hr2]; · iexact Hr2
    isplitl [Hs2]; · iexact Hs2
    iexact Hz2
  iintro Hg2
  -- row buffer 3: its last copy out has landed; its rows are gathered
  iapply (step_ifout d L fT fI O W hO (M := r3V) (n := 2 * t.val) (hu := show 3 < 4 by decide) (cond4_iff t) (by omega) (fun h => ⟨_, _, _, _, rfl, rfl⟩)) $$ [Hf3 HO]
  · isplitr; · iexact Hlv
    isplitl [Hf3]; · iexact Hf3
    iexact HO
  iintro ⟨Hb3, Hr3, Hzo3, HO⟩
  iapply (step_gather (offs := sl (aV) 3) (q := qs 3) (fT := fT) (w := slRd (iRd (F := F) L fI h0) 3) (r := oRd L fT fI h0 (show 3 < 4 by decide)) (r3V).view.dmaCredit (sumN3 _) (slRd_lt L fI F hI h0 3) (pay_block L fT fI h0 3)) $$ [Ht3 Hr3 Hs3 Hz3]
  · isplitl [Ht3]; · iexact Ht3
    isplitl [Hr3]; · iexact Hr3
    isplitl [Hs3]; · iexact Hs3
    iexact Hz3
  iintro Hg3
  -- the column before is complete
  ihave Hof := (oFam_back d L fT fI (2 * t.val) (by omega)) $$ [Hb0 Hb1 Hb2 Hb3 Hof]
  · isplitl [Hb0]; · iexact Hb0
    isplitl [Hb1]; · iexact Hb1
    isplitl [Hb2]; · iexact Hb2
    isplitl [Hb3]; · iexact Hb3
    iexact Hof
  ihave Hof := (Entails.of_eq (oFam_take d L fT fI (2 * t.val) (2 * t.val) (le_refl _) h0)) $$ Hof
  icases Hof with ⟨Hown, Hof⟩
  unfold own4
  icases Hown with ⟨Hb0, Hb1, Hb2, Hb3⟩
  -- row buffer 0: gathered, and sent out
  iapply (step_gwait d L O W hO (rfl : (r0V).view.dmaCredit = _)) $$ [Hg0 HO]
  · isplitr; · iexact Hlv
    isplitl [Hg0]; · iexact Hg0
    iexact HO
  iintro ⟨⟨Hr0, Ht0, Hs0⟩, Hz0, HO⟩
  iapply (step_out d L fT fI (M := r0V) (n := 2 * t.val) (show 0 < 4 by decide) h0 (off8_at L t 0)) $$ [Hr0 Hb0 Hzo0]
  · isplitl [Hr0]; · iexact Hr0
    isplitl [Hb0]; · iexact Hb0
    iexact Hzo0
  iintro Hf0
  -- row buffer 1: gathered, and sent out
  iapply (step_gwait d L O W hO (rfl : (r1V).view.dmaCredit = _)) $$ [Hg1 HO]
  · isplitr; · iexact Hlv
    isplitl [Hg1]; · iexact Hg1
    iexact HO
  iintro ⟨⟨Hr1, Ht1, Hs1⟩, Hz1, HO⟩
  iapply (step_out d L fT fI (M := r1V) (n := 2 * t.val) (show 1 < 4 by decide) h0 (off8_at L t 1)) $$ [Hr1 Hb1 Hzo1]
  · isplitl [Hr1]; · iexact Hr1
    isplitl [Hb1]; · iexact Hb1
    iexact Hzo1
  iintro Hf1
  -- row buffer 2: gathered, and sent out
  iapply (step_gwait d L O W hO (rfl : (r2V).view.dmaCredit = _)) $$ [Hg2 HO]
  · isplitr; · iexact Hlv
    isplitl [Hg2]; · iexact Hg2
    iexact HO
  iintro ⟨⟨Hr2, Ht2, Hs2⟩, Hz2, HO⟩
  iapply (step_out d L fT fI (M := r2V) (n := 2 * t.val) (show 2 < 4 by decide) h0 (off8_at L t 2)) $$ [Hr2 Hb2 Hzo2]
  · isplitl [Hr2]; · iexact Hr2
    isplitl [Hb2]; · iexact Hb2
    iexact Hzo2
  iintro Hf2
  -- row buffer 3: gathered, and sent out
  iapply (step_gwait d L O W hO (rfl : (r3V).view.dmaCredit = _)) $$ [Hg3 HO]
  · isplitr; · iexact Hlv
    isplitl [Hg3]; · iexact Hg3
    iexact HO
  iintro ⟨⟨Hr3, Ht3, Hs3⟩, Hz3, HO⟩
  iapply (step_out d L fT fI (M := r3V) (n := 2 * t.val) (show 3 < 4 by decide) h0 (off8_at L t 3)) $$ [Hr3 Hb3 Hzo3]
  · isplitl [Hr3]; · iexact Hr3
    isplitl [Hb3]; · iexact Hb3
    iexact Hzo3
  iintro Hf3
  -- the index buffer is whole again, its window back
  ihave Hs0 := (At_Own (VT d L) (sl (aV) 0) _) $$ Hs0
  ihave Hs1 := (At_Own (VT d L) (sl (aV) 1) _) $$ Hs1
  ihave Hs2 := (At_Own (VT d L) (sl (aV) 2) _) $$ Hs2
  ihave Hs3 := (At_Own (VT d L) (sl (aV) 3) _) $$ Hs3
  ihave Ha := (sl_join d (cV L) (jV L) (aV)) $$ [Hs0 Hs1 Hs2 Hs3]
  · isplitl [Hs0]; · iexact Hs0
    isplitl [Hs1]; · iexact Hs1
    isplitl [Hs2]; · iexact Hs2
    iexact Hs3
  ihave Hif := (iFam_put d L fI (2 * t.val) (2 * t.val + 1) (by omega)) $$ [Hw Hif]
  · isplitl [Hw]; · iexact Hw
    iexact Hif
  ihave Hif := (Entails.of_eq (iFam_take d L fI (2 * t.val + 1) (2 * t.val + 2) (by omega) 99 (by omega))) $$ Hif
  icases Hif with ⟨Hw, Hif⟩
  iapply (step_ifix d L fI (M := aV) (n := 2 * t.val + 2) (cond5_iff t) (by decide) (fun h => ⟨_, _, _, _, _, rfl, cond5_off L t⟩)) $$ [Hw Ha Hzx]
  · isplitl [Hw]; · iexact Hw
    isplitl [Ha]; · iexact Ha
    iexact Hzx
  iintro Hxa
  -- column 2 * t.val + 1: its indices arrive
  iapply (step_ixwait d L fI O W hO (M := (bV)) (n := 2 * t.val + 1) h1 rfl) $$ [Hxb HO]
  · isplitr; · iexact Hlv
    isplitl [Hxb]; · iexact Hxb
    iexact HO
  iintro ⟨Ha, Hw, Hzx, HO⟩
  ihave Ha' := (sl_split d (cV L) (jV L) (bV) (iRd L fI h1)) $$ Ha
  icases Ha' with ⟨Hs0, Hs1, Hs2, Hs3⟩
  -- row buffer 0: its last copy out has landed; its rows are gathered
  iapply (step_ifout d L fT fI O W hO (M := r0V) (n := 2 * t.val + 1) (hu := show 0 < 4 by decide) (cond6_iff t) (by omega) (fun h => ⟨_, _, _, _, rfl, rfl⟩)) $$ [Hf0 HO]
  · isplitr; · iexact Hlv
    isplitl [Hf0]; · iexact Hf0
    iexact HO
  iintro ⟨Hb0, Hr0, Hzo0, HO⟩
  iapply (step_gather (offs := sl (bV) 0) (q := qs 0) (fT := fT) (w := slRd (iRd (F := F) L fI h1) 0) (r := oRd L fT fI h1 (show 0 < 4 by decide)) (r0V).view.dmaCredit (sumN0 _) (slRd_lt L fI F hI h1 0) (pay_block L fT fI h1 0)) $$ [Ht0 Hr0 Hs0 Hz0]
  · isplitl [Ht0]; · iexact Ht0
    isplitl [Hr0]; · iexact Hr0
    isplitl [Hs0]; · iexact Hs0
    iexact Hz0
  iintro Hg0
  -- row buffer 1: its last copy out has landed; its rows are gathered
  iapply (step_ifout d L fT fI O W hO (M := r1V) (n := 2 * t.val + 1) (hu := show 1 < 4 by decide) (cond7_iff t) (by omega) (fun h => ⟨_, _, _, _, rfl, rfl⟩)) $$ [Hf1 HO]
  · isplitr; · iexact Hlv
    isplitl [Hf1]; · iexact Hf1
    iexact HO
  iintro ⟨Hb1, Hr1, Hzo1, HO⟩
  iapply (step_gather (offs := sl (bV) 1) (q := qs 1) (fT := fT) (w := slRd (iRd (F := F) L fI h1) 1) (r := oRd L fT fI h1 (show 1 < 4 by decide)) (r1V).view.dmaCredit (sumN1 _) (slRd_lt L fI F hI h1 1) (pay_block L fT fI h1 1)) $$ [Ht1 Hr1 Hs1 Hz1]
  · isplitl [Ht1]; · iexact Ht1
    isplitl [Hr1]; · iexact Hr1
    isplitl [Hs1]; · iexact Hs1
    iexact Hz1
  iintro Hg1
  -- row buffer 2: its last copy out has landed; its rows are gathered
  iapply (step_ifout d L fT fI O W hO (M := r2V) (n := 2 * t.val + 1) (hu := show 2 < 4 by decide) (cond8_iff t) (by omega) (fun h => ⟨_, _, _, _, rfl, rfl⟩)) $$ [Hf2 HO]
  · isplitr; · iexact Hlv
    isplitl [Hf2]; · iexact Hf2
    iexact HO
  iintro ⟨Hb2, Hr2, Hzo2, HO⟩
  iapply (step_gather (offs := sl (bV) 2) (q := qs 2) (fT := fT) (w := slRd (iRd (F := F) L fI h1) 2) (r := oRd L fT fI h1 (show 2 < 4 by decide)) (r2V).view.dmaCredit (sumN2 _) (slRd_lt L fI F hI h1 2) (pay_block L fT fI h1 2)) $$ [Ht2 Hr2 Hs2 Hz2]
  · isplitl [Ht2]; · iexact Ht2
    isplitl [Hr2]; · iexact Hr2
    isplitl [Hs2]; · iexact Hs2
    iexact Hz2
  iintro Hg2
  -- row buffer 3: its last copy out has landed; its rows are gathered
  iapply (step_ifout d L fT fI O W hO (M := r3V) (n := 2 * t.val + 1) (hu := show 3 < 4 by decide) (cond9_iff t) (by omega) (fun h => ⟨_, _, _, _, rfl, rfl⟩)) $$ [Hf3 HO]
  · isplitr; · iexact Hlv
    isplitl [Hf3]; · iexact Hf3
    iexact HO
  iintro ⟨Hb3, Hr3, Hzo3, HO⟩
  iapply (step_gather (offs := sl (bV) 3) (q := qs 3) (fT := fT) (w := slRd (iRd (F := F) L fI h1) 3) (r := oRd L fT fI h1 (show 3 < 4 by decide)) (r3V).view.dmaCredit (sumN3 _) (slRd_lt L fI F hI h1 3) (pay_block L fT fI h1 3)) $$ [Ht3 Hr3 Hs3 Hz3]
  · isplitl [Ht3]; · iexact Ht3
    isplitl [Hr3]; · iexact Hr3
    isplitl [Hs3]; · iexact Hs3
    iexact Hz3
  iintro Hg3
  -- the column before is complete
  ihave Hof := (oFam_back d L fT fI (2 * t.val + 1) (by omega)) $$ [Hb0 Hb1 Hb2 Hb3 Hof]
  · isplitl [Hb0]; · iexact Hb0
    isplitl [Hb1]; · iexact Hb1
    isplitl [Hb2]; · iexact Hb2
    isplitl [Hb3]; · iexact Hb3
    iexact Hof
  ihave Hof := (Entails.of_eq (oFam_take d L fT fI (2 * t.val + 1) (2 * t.val + 1) (le_refl _) h1)) $$ Hof
  icases Hof with ⟨Hown, Hof⟩
  unfold own4
  icases Hown with ⟨Hb0, Hb1, Hb2, Hb3⟩
  -- row buffer 0: gathered, and sent out
  iapply (step_gwait d L O W hO (rfl : (r0V).view.dmaCredit = _)) $$ [Hg0 HO]
  · isplitr; · iexact Hlv
    isplitl [Hg0]; · iexact Hg0
    iexact HO
  iintro ⟨⟨Hr0, Ht0, Hs0⟩, Hz0, HO⟩
  iapply (step_out d L fT fI (M := r0V) (n := 2 * t.val + 1) (show 0 < 4 by decide) h1 (off15_at L t 0)) $$ [Hr0 Hb0 Hzo0]
  · isplitl [Hr0]; · iexact Hr0
    isplitl [Hb0]; · iexact Hb0
    iexact Hzo0
  iintro Hf0
  -- row buffer 1: gathered, and sent out
  iapply (step_gwait d L O W hO (rfl : (r1V).view.dmaCredit = _)) $$ [Hg1 HO]
  · isplitr; · iexact Hlv
    isplitl [Hg1]; · iexact Hg1
    iexact HO
  iintro ⟨⟨Hr1, Ht1, Hs1⟩, Hz1, HO⟩
  iapply (step_out d L fT fI (M := r1V) (n := 2 * t.val + 1) (show 1 < 4 by decide) h1 (off15_at L t 1)) $$ [Hr1 Hb1 Hzo1]
  · isplitl [Hr1]; · iexact Hr1
    isplitl [Hb1]; · iexact Hb1
    iexact Hzo1
  iintro Hf1
  -- row buffer 2: gathered, and sent out
  iapply (step_gwait d L O W hO (rfl : (r2V).view.dmaCredit = _)) $$ [Hg2 HO]
  · isplitr; · iexact Hlv
    isplitl [Hg2]; · iexact Hg2
    iexact HO
  iintro ⟨⟨Hr2, Ht2, Hs2⟩, Hz2, HO⟩
  iapply (step_out d L fT fI (M := r2V) (n := 2 * t.val + 1) (show 2 < 4 by decide) h1 (off15_at L t 2)) $$ [Hr2 Hb2 Hzo2]
  · isplitl [Hr2]; · iexact Hr2
    isplitl [Hb2]; · iexact Hb2
    iexact Hzo2
  iintro Hf2
  -- row buffer 3: gathered, and sent out
  iapply (step_gwait d L O W hO (rfl : (r3V).view.dmaCredit = _)) $$ [Hg3 HO]
  · isplitr; · iexact Hlv
    isplitl [Hg3]; · iexact Hg3
    iexact HO
  iintro ⟨⟨Hr3, Ht3, Hs3⟩, Hz3, HO⟩
  iapply (step_out d L fT fI (M := r3V) (n := 2 * t.val + 1) (show 3 < 4 by decide) h1 (off15_at L t 3)) $$ [Hr3 Hb3 Hzo3]
  · isplitl [Hr3]; · iexact Hr3
    isplitl [Hb3]; · iexact Hb3
    iexact Hzo3
  iintro Hf3
  -- the index buffer is whole again, its window back
  ihave Hs0 := (At_Own (VT d L) (sl (bV) 0) _) $$ Hs0
  ihave Hs1 := (At_Own (VT d L) (sl (bV) 1) _) $$ Hs1
  ihave Hs2 := (At_Own (VT d L) (sl (bV) 2) _) $$ Hs2
  ihave Hs3 := (At_Own (VT d L) (sl (bV) 3) _) $$ Hs3
  ihave Ha := (sl_join d (cV L) (jV L) (bV)) $$ [Hs0 Hs1 Hs2 Hs3]
  · isplitl [Hs0]; · iexact Hs0
    isplitl [Hs1]; · iexact Hs1
    isplitl [Hs2]; · iexact Hs2
    iexact Hs3
  ihave Hif := (iFam_put d L fI (2 * t.val + 1) (2 * t.val + 2) (by omega)) $$ [Hw Hif]
  · isplitl [Hw]; · iexact Hw
    iexact Hif
  ihave Hif := (Entails.of_eq (iFam_take d L fI (2 * t.val + 2) (2 * t.val + 3) (by omega) 99 (by omega))) $$ Hif
  icases Hif with ⟨Hw, Hif⟩
  iapply (step_ifix d L fI (M := bV) (n := 2 * t.val + 3) (cond10_iff t) (by decide) (fun h => ⟨_, _, _, _, _, rfl, cond10_off L t⟩)) $$ [Hw Ha Hzx]
  · isplitl [Hw]; · iexact Hw
    isplitl [Ha]; · iexact Ha
    iexact Hzx
  iintro Hxb
  sl_step
  rw [show 2 * (t.val + 1) = 2 * t.val + 2 by omega, show 2 * t.val + 2 + 1 = 2 * t.val + 3 by omega, show 2 * t.val + 2 - 1 = 2 * t.val + 1 by omega]
  isplitr; · iexact Hlv
  isplitl [Ht0 Ht1 Ht2 Ht3]
  · isplitl [Ht0]; · iexact Ht0
    isplitl [Ht1]; · iexact Ht1
    isplitl [Ht2]; · iexact Ht2
    iexact Ht3
  isplitl [Hz0 Hz1 Hz2 Hz3]
  · isplitl [Hz0]; · iexact Hz0
    isplitl [Hz1]; · iexact Hz1
    isplitl [Hz2]; · iexact Hz2
    iexact Hz3
  isplitl [Hxa]; · iexact Hxa
  isplitl [Hxb]; · iexact Hxb
  isplitl [Hf0 Hf1 Hf2 Hf3]
  · isplitl [Hf0]; · iexact Hf0
    isplitl [Hf1]; · iexact Hf1
    isplitl [Hf2]; · iexact Hf2
    iexact Hf3
  isplitl [Hif]; · iexact Hif
  isplitl [Hof]; · iexact Hof
  iexact HO

end Cert.Proof.Gather
end
-- ==== Proof.Gather.Body.lean ====
/-
  The whole task of one vector subcore: the first two fetches, the loop, the last waits.
-/
module

public import proofs.«01_k».proof.Proof.Gather.Trip

@[expose] public section

set_option maxRecDepth 16384
set_option pp.maxSteps 100

noncomputable section

namespace Cert.Proof.Gather

open Cert.GatherIdeal Cert.GatherIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.GatherIdeal.main_arg0_scv : Memref Cert.GatherIdeal.sig Kind.scVector Space.hbm Cert.GatherIdeal.S100000x128 EltTy.f32)
local notation "iV" => (Memref.whole Cert.GatherIdeal.main_v1_scv : Memref Cert.GatherIdeal.sig Kind.scVector Space.hbm Cert.GatherIdeal.S819200 EltTy.i32)
local notation "oV" => (Memref.whole Cert.GatherIdeal.main_v2_scv : Memref Cert.GatherIdeal.sig Kind.scVector Space.hbm Cert.GatherIdeal.S819200x128 EltTy.f32)
local notation "aV" => (Memref.whole Cert.GatherIdeal.cc0_scratch0 : Memref Cert.GatherIdeal.sig Kind.scVector Space.vmem Cert.GatherIdeal.S512 EltTy.i32)
local notation "bV" => (Memref.whole Cert.GatherIdeal.cc0_scratch1 : Memref Cert.GatherIdeal.sig Kind.scVector Space.vmem Cert.GatherIdeal.S512 EltTy.i32)
local notation "r0V" => (Memref.whole Cert.GatherIdeal.cc0_scratch2 : Memref Cert.GatherIdeal.sig Kind.scVector Space.vmem Cert.GatherIdeal.S128x128 EltTy.f32)
local notation "r1V" => (Memref.whole Cert.GatherIdeal.cc0_scratch3 : Memref Cert.GatherIdeal.sig Kind.scVector Space.vmem Cert.GatherIdeal.S128x128 EltTy.f32)
local notation "r2V" => (Memref.whole Cert.GatherIdeal.cc0_scratch4 : Memref Cert.GatherIdeal.sig Kind.scVector Space.vmem Cert.GatherIdeal.S128x128 EltTy.f32)
local notation "r3V" => (Memref.whole Cert.GatherIdeal.cc0_scratch5 : Memref Cert.GatherIdeal.sig Kind.scVector Space.vmem Cert.GatherIdeal.S128x128 EltTy.f32)

/-! ## The task's own cells and buffers -/

/-- A separating product over `n + 1` indices: the first, and the rest. -/
theorem fam_succ {n : ℕ} (Φ : Fin (n + 1) → sProp 𝕄) : bigSep Finset.univ Φ = iprop(Φ 0 ∗ bigSep Finset.univ fun i : Fin n => Φ i.succ) := by
  rw [Fin.univ_succ, Finset.cons_eq_insert, BI.bigSep_insert (by simp [Fin.succ_ne_zero]), BI.bigSep_map]
  rfl
theorem fam_zero (Φ : Fin 0 → sProp 𝕄) : bigSep Finset.univ Φ = iprop(emp) := by
  rw [Finset.univ_eq_empty, BI.bigSep_empty]; rfl

/-- The members of a family that `f` names, and the rest. -/
theorem fam_image {I J : Type} [DecidableEq I] [DecidableEq J] {s : Finset I} {t : Finset J} {f : J → I} (inj : Set.InjOn f t) (sub : ∀ j ∈ t, f j ∈ s)
    {Φ : I → sProp 𝕄} : bigSep s Φ = iprop(bigSep t (fun j => Φ (f j)) ∗ bigSep (s \ t.image f) Φ) := by
  rw [BI.bigSep_sdiff_split (s := s) (t := t.image f) (fun x hx => by obtain ⟨j, hj, rfl⟩ := Finset.mem_image.mp hx; exact sub j hj),
    bigSep_image_of_injOn inj]
  rfl

/-- The task's ten transfer cells. -/
def cell : Fin 10 → DmaSem sig
  | 0 => cc0_scratch6.sem | 1 => cc0_scratch7.sem | 2 => cc0_scratch8.sem | 3 => cc0_scratch9.sem | 4 => cc0_scratch10.sem
  | 5 => cc0_scratch11.sem | 6 => cc0_scratch12.sem | 7 => cc0_scratch13.sem | 8 => cc0_scratch14.sem | 9 => cc0_scratch15.sem
theorem cell_inj : Function.Injective cell := by decide
theorem cell_scoped : ∀ i, (SemLoc.dma (cell i) : SemLoc sig).isScoped .scVector = true := by decide
/-- The task's six scratch buffers. -/
def buf : Fin 6 → Ref sig .scVector
  | 0 => cc0_scratch0 | 1 => cc0_scratch1 | 2 => cc0_scratch2 | 3 => cc0_scratch3 | 4 => cc0_scratch4 | 5 => cc0_scratch5
theorem buf_inj : Function.Injective buf := by decide

section
variable (d : Dev nD) (L : grid0.Coords)

theorem ownSems_split : ∃ R : sProp 𝕄, (ownSems0 (VT d L) : sProp 𝕄)
    = iprop(bigSep Finset.univ (fun i : Fin 10 => (semVal ((VT d L, SemLoc.dma (cell i)) : GSem nD τ sig) 0 : sProp 𝕄)) ∗ R) := by
  unfold SparseCore.Cfg.ownSems0
  exact ⟨_, fam_image (t := Finset.univ) (f := fun i : Fin 10 => ((VT d L, SemLoc.dma (cell i)) : GSem nD τ sig))
    (fun i _ j _ e => cell_inj (by have := (Prod.mk.inj e).2; exact SemLoc.dma.inj this))
    (fun i _ => mem_ownCells.mpr ⟨rfl, cell_scoped i⟩)⟩

theorem ownBufs_split : ∃ R : sProp 𝕄, (ownBufs (VT d L) : sProp 𝕄)
    = iprop(bigSep Finset.univ (fun i : Fin 6 => (iprop(∃ f, (VT d L).loc (buf i) ↦{fullShare} f) : sProp 𝕄)) ∗ R) := by
  unfold SparseCore.Cfg.ownBufs
  exact ⟨_, fam_image (t := Finset.univ) (f := fun i : Fin 6 => (VT d L).2.devRef (buf i))
    (fun i _ j _ e => buf_inj (Proc.devRef_injective _ e))
    (fun i _ => SparseCore.Cfg.mem_ownRefs_of_owner (p := Proc.scVector (cV L) (jV L)) (b := (Proc.scVector (cV L) (jV L)).devRef (buf i)) (match i with | 0 => rfl | 1 => rfl | 2 => rfl | 3 => rfl | 4 => rfl | 5 => rfl))⟩

theorem own_0 : (Own (VT d L) (aV) : sProp 𝕄) = iprop(∃ f, (VT d L).loc (buf 0) ↦{fullShare} f) := by
  unfold Own; rw [show (aV).view.set = Finset.univ from View.set_whole _]; rfl
theorem own_1 : (Own (VT d L) (bV) : sProp 𝕄) = iprop(∃ f, (VT d L).loc (buf 1) ↦{fullShare} f) := by
  unfold Own; rw [show (bV).view.set = Finset.univ from View.set_whole _]; rfl
theorem own_2 : (Own (VT d L) (r0V) : sProp 𝕄) = iprop(∃ f, (VT d L).loc (buf 2) ↦{fullShare} f) := by
  unfold Own; rw [show (r0V).view.set = Finset.univ from View.set_whole _]; rfl
theorem own_3 : (Own (VT d L) (r1V) : sProp 𝕄) = iprop(∃ f, (VT d L).loc (buf 3) ↦{fullShare} f) := by
  unfold Own; rw [show (r1V).view.set = Finset.univ from View.set_whole _]; rfl
theorem own_4 : (Own (VT d L) (r2V) : sProp 𝕄) = iprop(∃ f, (VT d L).loc (buf 4) ↦{fullShare} f) := by
  unfold Own; rw [show (r2V).view.set = Finset.univ from View.set_whole _]; rfl
theorem own_5 : (Own (VT d L) (r3V) : sProp 𝕄) = iprop(∃ f, (VT d L).loc (buf 5) ↦{fullShare} f) := by
  unfold Own; rw [show (r3V).view.set = Finset.univ from View.set_whole _]; rfl

theorem bufs_own : (bigSep Finset.univ (fun i : Fin 6 => (iprop(∃ f, (VT d L).loc (buf i) ↦{fullShare} f) : sProp 𝕄)) : sProp 𝕄)
    = iprop(Own (VT d L) (aV) ∗ Own (VT d L) (bV) ∗ Own (VT d L) (r0V) ∗ Own (VT d L) (r1V) ∗ Own (VT d L) (r2V) ∗ Own (VT d L) (r3V) ∗ emp) := by
  rw [fam_succ, fam_succ, fam_succ, fam_succ, fam_succ, fam_succ, fam_zero, own_0, own_1, own_2, own_3, own_4, own_5]
  rfl

end

section
variable [FloatOps F] (d : Dev nD) (L : grid0.Coords) (fT : S100000x128.Idx → Elt F .f32) (fI : S819200.Idx → BitVec 32)
  (qs : Fin 4 → PosShare TreeShare) (O : CellTallies nD τ sig (HIx 1)) (W : Waits sig (HIx 1))

theorem cells_z : (bigSep Finset.univ (fun i : Fin 10 => (semVal ((VT d L, SemLoc.dma (cell i)) : GSem nD τ sig) 0 : sProp 𝕄)) : sProp 𝕄)
    = iprop(z d L cc0_scratch6.sem ∗ z d L cc0_scratch7.sem ∗ z d L cc0_scratch8.sem ∗ z d L cc0_scratch9.sem ∗ z d L cc0_scratch10.sem
      ∗ z d L cc0_scratch11.sem ∗ z d L cc0_scratch12.sem ∗ z d L cc0_scratch13.sem ∗ z d L cc0_scratch14.sem ∗ z d L cc0_scratch15.sem ∗ emp) := by
  rw [fam_succ, fam_succ, fam_succ, fam_succ, fam_succ, fam_succ, fam_succ, fam_succ, fam_succ, fam_succ, fam_zero]
  rfl

/-- What the task starts from: its read tokens of the table, its windows of the indices, its blocks of the result. -/
def GO : sProp 𝕄 := iprop((tok d fT qs 0 ∗ tok d fT qs 1 ∗ tok d fT qs 2 ∗ tok d fT qs 3) ∗ iFam d L fI 99 99 ∗ oFam d L fT fI 0 0)
/-- What it ends with: the same, every block gathered. -/
def TD : sProp 𝕄 := iprop((tok d fT qs 0 ∗ tok d fT qs 1 ∗ tok d fT qs 2 ∗ tok d fT qs 3) ∗ iFam d L fI 99 99 ∗ oFam d L fT fI 50 50)

/-- The wait for a row buffer's last copy out, at the task's end. -/
theorem step_outwait (hO : ∀ g, O g none = 0) {α : Type} {Q : α → sProp 𝕄} {k : PUnit → Prog (TpuEff nD τ sig (Elt F) Λ₀ (VT d L).2) α}
    {M : Memref sig .scVector .vmem S128x128 .f32} {sem : DmaSem sig} {n u : ℕ} {hu : u < 4} (hn : 0 < n ∧ n - 1 < 50)
    {srcw : Memref sig .scVector .vmem S128x128 .f32} {dstw : Memref sig .scVector .hbm S128x128 .f32} {hs : srcw.view.WordExact} {hd : dstw.view.WordExact}
    (hN : dstw.view.dmaCredit = oN) :
    iprop(LV (F := F) ∗ outFl d L fT fI M sem n hu ∗ OW (VT d L) O W)
      ⊢ iprop((iprop(oBack d L fT fI n hu ∗ Own (VT d L) M ∗ z d L sem ∗ OW (VT d L) O W) -∗ wp frame (wpE defs₀ 𝒱₀ (VT d L) none) Set.univ (k ⟨⟩) Q)
        -∗ wp frame (wpE defs₀ 𝒱₀ (VT d L) none) Set.univ (.op (.waitDma2 sem srcw dstw hs hd) k) Q) := by
  unfold outFl oBack
  rw [dif_pos hn, dif_pos hn]
  iintro ⟨#Hlv, Hfl, HO⟩ Hk
  iapply (step_wait (VT d L) O W hO hN) $$ [Hfl HO]
  · isplitr; · iexact Hlv
    isplitl [Hfl]; · iexact Hfl
    iexact HO
  iintro ⟨⟨Hb, Hr⟩, Hz, HO⟩
  iapply Hk
  isplitl [Hb]; · iexact Hb
  isplitl [Hr]; · iapply (At_Own (VT d L) M _) $$ Hr
  isplitl [Hz]; · iexact Hz
  iexact HO

theorem step_ixdma {α : Type} {Q : α → sProp 𝕄} {k : PUnit → Prog (TpuEff nD τ sig (Elt F) Λ₀ (VT d L).2) α}
    {M : Memref sig .scVector .vmem S512 .i32} {sem : DmaSem sig} {n : ℕ} (hn : n < 50) (hM : 0 < M.view.amount (.dma sem))
    {off : Fin 1 → ℕ} (ho : off = iOff L n) {inb : ∀ a, off a + S512.size a ≤ S819200.size a}
    {hs : ((iV).slice (Rect.unit (s := S819200) off S512.size inb) (fun _ => rfl)).view.WordExact} {hd : M.view.WordExact}
    {ht : DmaTarget.Typed (nD := nD) Space.hbm (.dma sem) (.here M : DmaTarget nD τ sig (VT d L).2 .vmem S512 .i32)} :
    iprop(iW d L fI n ∗ Own (VT d L) M ∗ z d L sem)
      ⊢ iprop((ixFl d L fI M sem n -∗ wp frame (wpE defs₀ 𝒱₀ (VT d L) none) Set.univ (k ⟨⟩) Q)
        -∗ wp frame (wpE defs₀ 𝒱₀ (VT d L) none) Set.univ
          (.op (.enqueueDma ((iV).slice (Rect.unit (s := S819200) off S512.size inb) (fun _ => rfl)) (.here (p := (VT d L).2) M) (.dma sem) hs hd ht) k) Q) := by
  unfold ixFl iW
  rw [dif_pos hn, dif_pos hn]
  exact step_dma (VT d L) (iWin_of L hn ho inb) rfl _ rfl hM

theorem off1_at : k0_off1 L = iOff L 0 := by rw [k0_off1_eq]; unfold iOff; exact congrArg (fun x : ℕ => (![x] : Fin 1 → ℕ)) (by omega)
theorem off2_at : k0_off2 L = iOff L 1 := by rw [k0_off2_eq]; unfold iOff; exact congrArg (fun x : ℕ => (![x] : Fin 1 → ℕ)) (by omega)

theorem outFl_rest (M : Memref sig .scVector .vmem S128x128 .f32) (sem : DmaSem sig) {u : ℕ} (hu : u < 4) :
    (outFl d L fT fI M sem 0 hu : sProp 𝕄) = iprop(Own (VT d L) M ∗ z d L sem) := by
  unfold outFl; rw [dif_neg (by omega)]
theorem ixFl_rest (M : Memref sig .scVector .vmem S512 .i32) (sem : DmaSem sig) {n : ℕ} (hn : ¬n < 50) :
    (ixFl d L fI M sem n : sProp 𝕄) = iprop(Own (VT d L) M ∗ z d L sem) := by
  unfold ixFl; rw [dif_neg hn]

theorem iFam_none : (iFam d L fI (2 * 25) (2 * 25 + 1) : sProp 𝕄) = iFam d L fI 99 99 := by
  unfold iFam
  congr 1; funext j
  have := j.isLt
  rw [if_neg (by omega), if_neg (by omega)]

set_option maxHeartbeats 4000000 in
/-- The task on one vector subcore. -/
theorem tile_body (hF : (K (F := F)).Facts) (hI : ∀ x, (fI x).toNat < 100000) (hO : ∀ g, O g none = 0) :
    iprop(LV (F := F) ∗ emp ∗ GO d L fT fI qs ∗ scopedBufs (VT d L) ∗ scopedSems0 (VT d L) ∗ owes (VT d L) O W)
      ⊢ wp frame (wpE (defs₀ (F := F)) 𝒱₀ (VT d L) none) Set.univ
          (cc0__gather_kernel (F := F) L (tV) (Memref.isWhole_whole _) (iV) (Memref.isWhole_whole _) (oV) (Memref.isWhole_whole _) (aV) (Memref.isWhole_whole _) (bV) (Memref.isWhole_whole _)
            (r0V) (Memref.isWhole_whole _) (r1V) (Memref.isWhole_whole _) (r2V) (Memref.isWhole_whole _) (r3V) (Memref.isWhole_whole _)
            cc0_scratch6 cc0_scratch7 cc0_scratch8 cc0_scratch9 cc0_scratch10 cc0_scratch11 cc0_scratch12 cc0_scratch13 cc0_scratch14 cc0_scratch15)
          fun _ => iprop(TD d L fT fI qs ∗ scopedBufs (VT d L) ∗ scopedSems0 (VT d L)
            ∗ ∃ W', ⌜∀ p ∈ W', p ∈ W ∨ p.2 = none⌝ ∗ owes (VT d L) O W') := by
  obtain ⟨Rs, hRs⟩ := ownSems_split (F := F) d L
  obtain ⟨Rb, hRb⟩ := ownBufs_split (F := F) d L
  simp only [cc0__gather_kernel_eq_skeleton]; unfold cc0__gather_kernel_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), hRs, hRb, bufs_own, cells_z]
  unfold GO TD
  iintro ⟨#Hlv, -, ⟨⟨Ht0, Ht1, Ht2, Ht3⟩, Hif, Hof⟩, ⟨⟨Ha, Hb, Hr0, Hr1, Hr2, Hr3, -⟩, Hbufs⟩, ⟨⟨Hza, Hzb, Hz0, Hz1, Hz2, Hz3, Hy0, Hy1, Hy2, Hy3, -⟩, Hsems⟩, HO⟩
  ihave Hif := (Entails.of_eq (iFam_take d L fI 99 0 (by decide) 99 (by decide))) $$ Hif
  icases Hif with ⟨Hw, Hif⟩
  iapply (step_ixdma d L fI (M := aV) (n := 0) (by decide) (by decide) (off1_at L)) $$ [Hw Ha Hza]
  · isplitl [Hw]; · iexact Hw
    isplitl [Ha]; · iexact Ha
    iexact Hza
  iintro Hxa
  ihave Hif := (Entails.of_eq ((iFam_swap d L fI 99 0).trans (iFam_take d L fI 0 1 (by decide) 99 (by decide)))) $$ Hif
  icases Hif with ⟨Hw, Hif⟩
  iapply (step_ixdma d L fI (M := bV) (n := 1) (by decide) (by decide) (off2_at L)) $$ [Hw Hb Hzb]
  · isplitl [Hw]; · iexact Hw
    isplitl [Hb]; · iexact Hb
    iexact Hzb
  iintro Hxb
  sl_for (inv d L fT fI qs O W) $$ [Ht0 Ht1 Ht2 Ht3 Hif Hof Hr0 Hr1 Hr2 Hr3 Hz0 Hz1 Hz2 Hz3 Hy0 Hy1 Hy2 Hy3 Hxa Hxb HO]
  case region =>
    intro k acc
    exact trip d L fT fI qs O W hI hO _ k acc
  · unfold inv
    rw [outFl_rest, outFl_rest, outFl_rest, outFl_rest]
    isplitr; · iexact Hlv
    isplitl [Ht0 Ht1 Ht2 Ht3]
    · isplitl [Ht0]; · iexact Ht0
      isplitl [Ht1]; · iexact Ht1
      isplitl [Ht2]; · iexact Ht2
      iexact Ht3
    isplitl [Hz0 Hz1 Hz2 Hz3]
    · isplitl [Hz0]; · iexact Hz0
      isplitl [Hz1]; · iexact Hz1
      isplitl [Hz2]; · iexact Hz2
      iexact Hz3
    isplitl [Hxa]; · iexact Hxa
    isplitl [Hxb]; · iexact Hxb
    isplitl [Hr0 Hr1 Hr2 Hr3 Hy0 Hy1 Hy2 Hy3]
    · isplitl [Hr0 Hy0]; · isplitl [Hr0] <;> iassumption
      isplitl [Hr1 Hy1]; · isplitl [Hr1] <;> iassumption
      isplitl [Hr2 Hy2]; · isplitl [Hr2] <;> iassumption
      isplitl [Hr3] <;> iassumption
    isplitl [Hif]; · iexact Hif
    isplitl [Hof]; · iexact Hof
    unfold OW
    iexists W
    isplitr; · ipureintro; exact fun p hp => Or.inl hp
    iexact HO
  iintro %_ HI
  ihave HI := (show inv d L fT fI qs O W k0_t1_loop.trips _ ⊢ inv d L fT fI qs O W 25 () from BI.Entails.refl _) $$ HI
  unfold inv
  icases HI with ⟨-, ⟨Ht0, Ht1, Ht2, Ht3⟩, ⟨Hz0, Hz1, Hz2, Hz3⟩, Hxa, Hxb, ⟨Hf0, Hf1, Hf2, Hf3⟩, Hif, Hof, HO⟩
  ihave Hxa := (Entails.of_eq (ixFl_rest d L fI (aV) cc0_scratch6.sem (n := 2 * 25) (by decide))) $$ Hxa
  ihave Hxb := (Entails.of_eq (ixFl_rest d L fI (bV) cc0_scratch7.sem (n := 2 * 25 + 1) (by decide))) $$ Hxb
  icases Hxa with ⟨Ha, Hza⟩
  icases Hxb with ⟨Hb, Hzb⟩
  iapply (step_outwait d L fT fI O W hO (M := r0V) (n := 2 * 25) (hu := show 0 < 4 by decide) (by decide) rfl) $$ [Hf0 HO]
  · isplitr; · iexact Hlv
    isplitl [Hf0]; · iexact Hf0
    iexact HO
  iintro ⟨Hb0, Hr0, Hy0, HO⟩
  iapply (step_outwait d L fT fI O W hO (M := r1V) (n := 2 * 25) (hu := show 1 < 4 by decide) (by decide) rfl) $$ [Hf1 HO]
  · isplitr; · iexact Hlv
    isplitl [Hf1]; · iexact Hf1
    iexact HO
  iintro ⟨Hb1, Hr1, Hy1, HO⟩
  iapply (step_outwait d L fT fI O W hO (M := r2V) (n := 2 * 25) (hu := show 2 < 4 by decide) (by decide) rfl) $$ [Hf2 HO]
  · isplitr; · iexact Hlv
    isplitl [Hf2]; · iexact Hf2
    iexact HO
  iintro ⟨Hb2, Hr2, Hy2, HO⟩
  iapply (step_outwait d L fT fI O W hO (M := r3V) (n := 2 * 25) (hu := show 3 < 4 by decide) (by decide) rfl) $$ [Hf3 HO]
  · isplitr; · iexact Hlv
    isplitl [Hf3]; · iexact Hf3
    iexact HO
  iintro ⟨Hb3, Hr3, Hy3, HO⟩
  ihave Hof := (oFam_back d L fT fI (2 * 25) (by omega)) $$ [Hb0 Hb1 Hb2 Hb3 Hof]
  · isplitl [Hb0]; · iexact Hb0
    isplitl [Hb1]; · iexact Hb1
    isplitl [Hb2]; · iexact Hb2
    isplitl [Hb3]; · iexact Hb3
    iexact Hof
  ihave Hif := (show iFam d L fI (2 * 25) (2 * 25 + 1) ⊢ iFam d L fI 99 99 from Entails.of_eq (iFam_none d L fI)) $$ Hif
  sl_step
  isplitl [Ht0 Ht1 Ht2 Ht3 Hif Hof]
  · isplitl [Ht0 Ht1 Ht2 Ht3]
    · isplitl [Ht0]; · iexact Ht0
      isplitl [Ht1]; · iexact Ht1
      isplitl [Ht2]; · iexact Ht2
      iexact Ht3
    isplitl [Hif]; · iexact Hif
    iexact Hof
  isplitl [Ha Hb Hr0 Hr1 Hr2 Hr3 Hbufs]
  · isplitr [Hbufs]
    · isplitl [Ha]; · iexact Ha
      isplitl [Hb]; · iexact Hb
      isplitl [Hr0]; · iexact Hr0
      isplitl [Hr1]; · iexact Hr1
      isplitl [Hr2]; · iexact Hr2
      isplitl [Hr3]; · iexact Hr3
      iempintro
    iexact Hbufs
  isplitr [HO]
  · isplitr [Hsems]
    · isplitl [Hza]; · iexact Hza
      isplitl [Hzb]; · iexact Hzb
      isplitl [Hz0]; · iexact Hz0
      isplitl [Hz1]; · iexact Hz1
      isplitl [Hz2]; · iexact Hz2
      isplitl [Hz3]; · iexact Hz3
      isplitl [Hy0]; · iexact Hy0
      isplitl [Hy1]; · iexact Hy1
      isplitl [Hy2]; · iexact Hy2
      isplitl [Hy3]; · iexact Hy3
      iempintro
    iexact Hsems
  unfold OW
  iexact HO

end

end Cert.Proof.Gather
end
-- ==== Proof.Gather.Split.lean ====
/-
  The three arrays, split among the 32 tasks and joined again.
-/
module

public import proofs.«01_k».proof.Proof.Gather.Body

@[expose] public section

set_option maxRecDepth 16384
set_option pp.maxSteps 100

noncomputable section

namespace Cert.Proof.Gather

open Cert.GatherIdeal Cert.GatherIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.GatherIdeal.main_arg0_scv : Memref Cert.GatherIdeal.sig Kind.scVector Space.hbm Cert.GatherIdeal.S100000x128 EltTy.f32)
local notation "iV" => (Memref.whole Cert.GatherIdeal.main_v1_scv : Memref Cert.GatherIdeal.sig Kind.scVector Space.hbm Cert.GatherIdeal.S819200 EltTy.i32)
local notation "oV" => (Memref.whole Cert.GatherIdeal.main_v2_scv : Memref Cert.GatherIdeal.sig Kind.scVector Space.hbm Cert.GatherIdeal.S819200x128 EltTy.f32)
local notation "aV" => (Memref.whole Cert.GatherIdeal.cc0_scratch0 : Memref Cert.GatherIdeal.sig Kind.scVector Space.vmem Cert.GatherIdeal.S512 EltTy.i32)
local notation "bV" => (Memref.whole Cert.GatherIdeal.cc0_scratch1 : Memref Cert.GatherIdeal.sig Kind.scVector Space.vmem Cert.GatherIdeal.S512 EltTy.i32)
local notation "r0V" => (Memref.whole Cert.GatherIdeal.cc0_scratch2 : Memref Cert.GatherIdeal.sig Kind.scVector Space.vmem Cert.GatherIdeal.S128x128 EltTy.f32)
local notation "r1V" => (Memref.whole Cert.GatherIdeal.cc0_scratch3 : Memref Cert.GatherIdeal.sig Kind.scVector Space.vmem Cert.GatherIdeal.S128x128 EltTy.f32)
local notation "r2V" => (Memref.whole Cert.GatherIdeal.cc0_scratch4 : Memref Cert.GatherIdeal.sig Kind.scVector Space.vmem Cert.GatherIdeal.S128x128 EltTy.f32)
local notation "r3V" => (Memref.whole Cert.GatherIdeal.cc0_scratch5 : Memref Cert.GatherIdeal.sig Kind.scVector Space.vmem Cert.GatherIdeal.S128x128 EltTy.f32)

/-- A grid's coordinates. -/
def coordsV (c : Fin (grid0.bound 0)) (s : Fin (grid0.bound 1)) : grid0.Coords :=
  fun | 0 => c | 1 => s | ⟨_ + 2, h⟩ => absurd h (Nat.not_lt.2 (Nat.le_add_left _ _))

/-! ## Storable resources -/

instance At_storable (c : Thread nD τ) {sp : Space} {s : Shape} {e : EltTy} (M : Memref sig c.2.kind sp s e) (w : s.Idx → Elt F e) :
    BI.Storable (upEmb : UEmb _ 𝕄) (At c M w) := by unfold At; infer_instance
instance Own_storable (c : Thread nD τ) {sp : Space} {s : Shape} {e : EltTy} (M : Memref sig c.2.kind sp s e) :
    BI.Storable (upEmb : UEmb _ 𝕄) (Own c M : sProp 𝕄) := by unfold Own; infer_instance
theorem ite_keeps {c : Prop} [Decidable c] {X Y : sProp 𝕄} (hX : BI.Storable (upEmb : UEmb _ 𝕄) X) (hY : BI.Storable (upEmb : UEmb _ 𝕄) Y) :
    BI.Storable (upEmb : UEmb _ 𝕄) (if c then X else Y) := by split <;> assumption

section
variable (d : Dev nD) (L : grid0.Coords) (fT : S100000x128.Idx → Elt F .f32) (fI : S819200.Idx → BitVec 32)
  (qs : Fin 4 → PosShare TreeShare)

instance iFam_storable (a b : ℕ) : BI.Storable (upEmb : UEmb _ 𝕄) (iFam d L fI a b : sProp 𝕄) := by
  unfold iFam
  have (j : Fin 50) : BI.Storable (upEmb : UEmb _ 𝕄) (if j.val = a ∨ j.val = b then iprop(emp) else At (VT d L) (iWin L j.isLt) (iRd L fI j.isLt) : sProp 𝕄) :=
    ite_keeps inferInstance inferInstance
  infer_instance
instance oFam_storable (a b : ℕ) : BI.Storable (upEmb : UEmb _ 𝕄) (oFam d L fT fI a b : sProp 𝕄) := by
  unfold oFam
  have h1 (j : Fin 50) : BI.Storable (upEmb : UEmb _ 𝕄) (done4 d L fT fI j.isLt : sProp 𝕄) := by unfold done4 oDone; infer_instance
  have h2 (j : Fin 50) : BI.Storable (upEmb : UEmb _ 𝕄) (own4 d L j.isLt : sProp 𝕄) := by unfold own4; infer_instance
  have (j : Fin 50) : BI.Storable (upEmb : UEmb _ 𝕄) (if j.val < a then done4 d L fT fI j.isLt else if j.val < b then iprop(emp) else own4 d L j.isLt : sProp 𝕄) :=
    ite_keeps (h1 j) (ite_keeps inferInstance (h2 j))
  infer_instance
instance GO_storable : BI.Storable (upEmb : UEmb _ 𝕄) (GO d L fT fI qs : sProp 𝕄) := by unfold GO; infer_instance
instance TD_storable : BI.Storable (upEmb : UEmb _ 𝕄) (TD d L fT fI qs : sProp 𝕄) := by unfold TD; infer_instance

/-! ## Families of one task, opened -/

theorem iFam_all : (iFam d L fI 99 99 : sProp 𝕄) = bigSep Finset.univ fun j : Fin 50 => At (VT d L) (iWin L j.isLt) (iRd L fI j.isLt) := by
  unfold iFam
  congr 1; funext j
  have := j.isLt
  rw [if_neg (by omega)]
theorem oFam_start : (oFam d L fT fI 0 0 : sProp 𝕄) = bigSep Finset.univ fun j : Fin 50 => bigSep Finset.univ fun u : Fin 4 => Own (VT d L) (oBlk L j.isLt u.isLt) := by
  unfold oFam
  congr 1; funext j
  have := j.isLt
  rw [if_neg (by omega), if_neg (by omega), fin4]
  rfl
theorem oFam_end : (oFam d L fT fI 50 50 : sProp 𝕄) = bigSep Finset.univ fun j : Fin 50 => bigSep Finset.univ fun u : Fin 4 => At (VT d L) (oBlk L j.isLt u.isLt) (oRd L fT fI j.isLt u.isLt) := by
  unfold oFam
  congr 1; funext j
  have := j.isLt
  rw [if_pos (by omega), fin4]
  rfl

end

/-! ## Which entries a window and a block hold -/

theorem mem_iWin (L : grid0.Coords) {j : ℕ} (hj : j < 50) (x : S819200.Idx) :
    x ∈ (iWin L hj).view.set ↔ 1024 * (L 1).val + 512 * (L 0).val + 16384 * j ≤ (x 0).val ∧ (x 0).val < 1024 * (L 1).val + 512 * (L 0).val + 16384 * j + 512 := by
  have h : (iWin L hj).view.set = (Rect.unit (s := S819200) (iOff L j) S512.size (iOff_inb L hj)).set := by
    show ((View.whole (main_v1_scv : Ref sig .scVector)).slice _).set = _
    rw [View.set_slice]; exact Finset.map_refl
  rw [h, Rect.mem_set_unit]
  constructor
  · intro hx; exact hx 0
  · intro hx a; match a with | 0 => exact hx
theorem mem_oBlk (L : grid0.Coords) {j u : ℕ} (hj : j < 50) (hu : u < 4) (x : S819200x128.Idx) :
    x ∈ (oBlk L hj hu).view.set ↔ 1024 * (L 1).val + 512 * (L 0).val + 16384 * j + 128 * u ≤ (x 0).val ∧ (x 0).val < 1024 * (L 1).val + 512 * (L 0).val + 16384 * j + 128 * u + 128 := by
  have h : (oBlk L hj hu).view.set = (Rect.unit (s := S819200x128) (oOff L j u) S128x128.size (oOff_inb L hj hu)).set := by
    show ((View.whole (main_v2_scv : Ref sig .scVector)).slice _).set = _
    rw [View.set_slice]; exact Finset.map_refl
  rw [h, Rect.mem_set_unit]
  constructor
  · intro hx; exact hx 0
  · intro hx a; match a with
    | 0 => exact hx
    | 1 => exact ⟨Nat.zero_le _, by show (x 1).val < 0 + 128; have := (x 1).isLt; change (x 1).val < 128 at this; omega⟩

/-- The windows' places: a task's two coordinates and a column. -/
abbrev IK : Type := Fin 2 × Fin 16 × Fin 50
abbrev iSet (k : IK) : Finset S819200.Idx := (iWin (coordsV k.1 k.2.1) k.2.2.isLt).view.set
/-- The blocks' places: a task's two coordinates, a column and a quarter. -/
abbrev OK : Type := Fin 2 × Fin 16 × Fin 50 × Fin 4
abbrev oSet (k : OK) : Finset S819200x128.Idx := (oBlk (coordsV k.1 k.2.1) k.2.2.1.isLt k.2.2.2.isLt).view.set

theorem mem_iSet (k : IK) (x : S819200.Idx) :
    x ∈ iSet k ↔ 1024 * k.2.1.val + 512 * k.1.val + 16384 * k.2.2.val ≤ (x 0).val ∧ (x 0).val < 1024 * k.2.1.val + 512 * k.1.val + 16384 * k.2.2.val + 512 := mem_iWin _ _ x
theorem mem_oSet (k : OK) (x : S819200x128.Idx) :
    x ∈ oSet k ↔ 1024 * k.2.1.val + 512 * k.1.val + 16384 * k.2.2.1.val + 128 * k.2.2.2.val ≤ (x 0).val
      ∧ (x 0).val < 1024 * k.2.1.val + 512 * k.1.val + 16384 * k.2.2.1.val + 128 * k.2.2.2.val + 128 := mem_oBlk _ _ _ x

theorem iSet_disj (k k' : IK) (h : k ≠ k') : Disjoint (iSet k) (iSet k') := by
  rw [Finset.disjoint_left]
  intro x hx hy
  rw [mem_iSet] at hx hy
  obtain ⟨c, i, j⟩ := k; obtain ⟨c', i', j'⟩ := k'
  have := c.isLt; have := c'.isLt; have := i.isLt; have := i'.isLt; have := j.isLt; have := j'.isLt
  dsimp only at hx hy
  have hj : j.val = j'.val := by omega
  have hi : i.val = i'.val := by omega
  have hc : c.val = c'.val := by omega
  exact h (by rw [Fin.ext hj, Fin.ext hi, Fin.ext hc])
theorem iSet_cover : Finset.univ.biUnion iSet = Finset.univ := by
  ext x
  simp only [Finset.mem_biUnion, Finset.mem_univ, true_and, iff_true]
  have hx : (x 0).val < 819200 := (x 0).isLt
  refine ⟨(⟨(x 0).val / 512 % 2, by omega⟩, ⟨(x 0).val / 1024 % 16, by omega⟩, ⟨(x 0).val / 16384, by omega⟩), ?_⟩
  rw [mem_iSet]; dsimp only; omega
theorem oSet_disj (k k' : OK) (h : k ≠ k') : Disjoint (oSet k) (oSet k') := by
  rw [Finset.disjoint_left]
  intro x hx hy
  rw [mem_oSet] at hx hy
  obtain ⟨c, i, j, u⟩ := k; obtain ⟨c', i', j', u'⟩ := k'
  have := c.isLt; have := c'.isLt; have := i.isLt; have := i'.isLt; have := j.isLt; have := j'.isLt; have := u.isLt; have := u'.isLt
  dsimp only at hx hy
  have hj : j.val = j'.val := by omega
  have hi : i.val = i'.val := by omega
  have hc : c.val = c'.val := by omega
  have hu : u.val = u'.val := by omega
  exact h (by rw [Fin.ext hj, Fin.ext hi, Fin.ext hc, Fin.ext hu])
theorem oSet_cover : Finset.univ.biUnion oSet = Finset.univ := by
  ext x
  simp only [Finset.mem_biUnion, Finset.mem_univ, true_and, iff_true]
  have hx : (x 0).val < 819200 := (x 0).isLt
  refine ⟨(⟨(x 0).val / 512 % 2, by omega⟩, ⟨(x 0).val / 1024 % 16, by omega⟩, ⟨(x 0).val / 16384, by omega⟩, ⟨(x 0).val / 128 % 4, by omega⟩), ?_⟩
  rw [mem_oSet]; dsimp only; omega

/-! ## The arrays, split and joined -/

/-- The share of the table behind a task's read token `u`. -/
def qT (c : Fin 2) (i : Fin 16) (u : Fin 4) : PosShare TreeShare :=
  Idealize.ShloMosaic.pieceOf fullShare (2 * (16 * 4)) (by decide) (finProdFinEquiv (c, finProdFinEquiv (i, u)))

theorem t_split (d : Dev nD) (f : Buf (Elt F) (tLoc d)) :
    (tLoc d ↦{fullShare} f : sProp 𝕄) = bigSep Finset.univ fun c : Fin 2 => bigSep Finset.univ fun i : Fin 16 => bigSep Finset.univ fun u : Fin 4 => tLoc d ↦{qT c i u} f := by
  rw [Idealize.ShloMosaic.pointsTo_piecesOf Finset.univ f (o := 2 * (16 * 4)) (by decide) fullShare,
    BI.bigSep_univ_equiv finProdFinEquiv (fun j : Fin (2 * (16 * 4)) => (tLoc d ↦{Idealize.ShloMosaic.pieceOf fullShare (2 * (16 * 4)) (by decide) j} f : sProp 𝕄)),
    BI.bigSep_univ_prod]
  congr 1; funext c
  rw [BI.bigSep_univ_equiv finProdFinEquiv (fun j : Fin (16 * 4) => (tLoc d ↦{Idealize.ShloMosaic.pieceOf fullShare (2 * (16 * 4)) (by decide) (finProdFinEquiv (c, j))} f : sProp 𝕄)),
    BI.bigSep_univ_prod]
  rfl
theorem i_split (d : Dev nD) (f : Buf (Elt F) (iLoc d)) :
    (iLoc d ↦{fullShare} f : sProp 𝕄) = bigSep Finset.univ fun c : Fin 2 => bigSep Finset.univ fun i : Fin 16 => bigSep Finset.univ fun j : Fin 50 =>
      iLoc d ↦[(iWin (coordsV c i) j.isLt).view.set]{fullShare} f := by
  have h := pointsTo_biUnion (Val := Elt F) (Ix := HIx 1) (Name := ℕ) (U := UU) (Lvl := ℕ) (ℓ := iLoc d) (q := fullShare) (f := f) Finset.univ iSet (fun k _ k' _ hk => iSet_disj k k' hk)
  rw [iSet_cover] at h
  rw [h, BI.bigSep_univ_prod]
  congr 1; funext c
  rw [BI.bigSep_univ_prod]
theorem o_split (d : Dev nD) (f : Buf (Elt F) (oLoc d)) :
    (oLoc d ↦{fullShare} f : sProp 𝕄) = bigSep Finset.univ fun c : Fin 2 => bigSep Finset.univ fun i : Fin 16 => bigSep Finset.univ fun j : Fin 50 => bigSep Finset.univ fun u : Fin 4 =>
      oLoc d ↦[(oBlk (coordsV c i) j.isLt u.isLt).view.set]{fullShare} f := by
  have h := pointsTo_biUnion (Val := Elt F) (Ix := HIx 1) (Name := ℕ) (U := UU) (Lvl := ℕ) (ℓ := oLoc d) (q := fullShare) (f := f) Finset.univ oSet (fun k _ k' _ hk => oSet_disj k k' hk)
  rw [oSet_cover] at h
  rw [h, BI.bigSep_univ_prod]
  congr 1; funext c
  rw [BI.bigSep_univ_prod]
  congr 1; funext i
  rw [BI.bigSep_univ_prod]

variable (d : Dev nD) (fT : S100000x128.Idx → Elt F .f32) (fI : S819200.Idx → BitVec 32)

section
variable (L : grid0.Coords) {j u : ℕ} (hj : j < 50) (hu : u < 4)
theorem i_in : (iLoc d ↦[(iWin L hj).view.set]{fullShare} (fI : Buf (Elt F) (iLoc d)) : sProp 𝕄) ⊢ At (VT d L) (iWin L hj) (iRd L fI hj) :=
  At_intro (VT d L) (iWin L hj) fI
theorem i_out : (At (VT d L) (iWin L hj) (iRd L fI hj) : sProp 𝕄) ⊢ iLoc d ↦[(iWin L hj).view.set]{fullShare} (fI : Buf (Elt F) (iLoc d)) :=
  At_elim (VT d L) (iWin L hj) fI
theorem o_in (f : Buf (Elt F) (oLoc d)) : (oLoc d ↦[(oBlk L hj hu).view.set]{fullShare} f : sProp 𝕄) ⊢ Own (VT d L) (oBlk L hj hu) :=
  Own_intro (VT d L) (oBlk L hj hu) f
theorem o_out : (At (VT d L) (oBlk L hj hu) (oRd L fT fI hj hu) : sProp 𝕄) ⊢ oLoc d ↦[(oBlk L hj hu).view.set]{fullShare} (gRows fT fI : Buf (Elt F) (oLoc d)) :=
  At_elim (VT d L) (oBlk L hj hu) (gRows fT fI)
end

/-- The three arrays, dealt to the tasks. -/
theorem deal (f : Buf (Elt F) (oLoc d)) :
    iprop((tLoc d ↦{fullShare} (fT : Buf (Elt F) (tLoc d))) ∗ (iLoc d ↦{fullShare} (fI : Buf (Elt F) (iLoc d))) ∗ oLoc d ↦{fullShare} f)
      ⊢ (bigSep Finset.univ fun c : Fin 2 => bigSep Finset.univ fun i : Fin 16 => GO d (coordsV c i) fT fI (qT c i) : sProp 𝕄) := by
  rw [t_split, i_split, o_split, ← bigSep_sep', ← bigSep_sep']
  refine BI.bigSep_mono fun c _ => ?_
  rw [← bigSep_sep', ← bigSep_sep']
  refine BI.bigSep_mono fun i _ => ?_
  unfold GO
  rw [fin4, iFam_all, oFam_start]
  exact BI.sep_mono (BI.Entails.refl _) (BI.sep_mono (BI.bigSep_mono fun j _ => i_in d fI _ j.isLt)
    (BI.bigSep_mono fun j _ => BI.bigSep_mono fun u _ => o_in d _ j.isLt u.isLt f))

/-- What the tasks bring back: the three arrays, the result at the gathered rows. -/
theorem gatherUp :
    (bigSep Finset.univ fun c : Fin 2 => bigSep Finset.univ fun i : Fin 16 => TD d (coordsV c i) fT fI (qT c i) : sProp 𝕄)
      ⊢ iprop((tLoc d ↦{fullShare} (fT : Buf (Elt F) (tLoc d))) ∗ (iLoc d ↦{fullShare} (fI : Buf (Elt F) (iLoc d))) ∗ oLoc d ↦{fullShare} (gRows fT fI : Buf (Elt F) (oLoc d))) := by
  rw [t_split, i_split, o_split, ← bigSep_sep', ← bigSep_sep']
  refine BI.bigSep_mono fun c _ => ?_
  rw [← bigSep_sep', ← bigSep_sep']
  refine BI.bigSep_mono fun i _ => ?_
  unfold TD
  rw [fin4, iFam_all, oFam_end]
  exact BI.sep_mono (BI.Entails.refl _) (BI.sep_mono (BI.bigSep_mono fun j _ => i_out d fI _ j.isLt)
    (BI.bigSep_mono fun j _ => BI.bigSep_mono fun u _ => o_out d fT fI _ j.isLt u.isLt))

end Cert.Proof.Gather
end
-- ==== Proof.Gather.Launch.lean ====
/-
  The launch: what each handshake carries, the task's obligation, the TensorCore's program around the call, and the run.
-/
module

public import proofs.«01_k».proof.Proof.Gather.Split

@[expose] public section

set_option maxRecDepth 16384
set_option pp.maxSteps 100

noncomputable section

namespace Cert.Proof.Gather

open Cert.GatherIdeal Cert.GatherIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ
local notation "tV" => (Memref.whole Cert.GatherIdeal.main_arg0_scv : Memref Cert.GatherIdeal.sig Kind.scVector Space.hbm Cert.GatherIdeal.S100000x128 EltTy.f32)
local notation "iV" => (Memref.whole Cert.GatherIdeal.main_v1_scv : Memref Cert.GatherIdeal.sig Kind.scVector Space.hbm Cert.GatherIdeal.S819200 EltTy.i32)
local notation "oV" => (Memref.whole Cert.GatherIdeal.main_v2_scv : Memref Cert.GatherIdeal.sig Kind.scVector Space.hbm Cert.GatherIdeal.S819200x128 EltTy.f32)
local notation "aV" => (Memref.whole Cert.GatherIdeal.cc0_scratch0 : Memref Cert.GatherIdeal.sig Kind.scVector Space.vmem Cert.GatherIdeal.S512 EltTy.i32)
local notation "bV" => (Memref.whole Cert.GatherIdeal.cc0_scratch1 : Memref Cert.GatherIdeal.sig Kind.scVector Space.vmem Cert.GatherIdeal.S512 EltTy.i32)
local notation "r0V" => (Memref.whole Cert.GatherIdeal.cc0_scratch2 : Memref Cert.GatherIdeal.sig Kind.scVector Space.vmem Cert.GatherIdeal.S128x128 EltTy.f32)
local notation "r1V" => (Memref.whole Cert.GatherIdeal.cc0_scratch3 : Memref Cert.GatherIdeal.sig Kind.scVector Space.vmem Cert.GatherIdeal.S128x128 EltTy.f32)
local notation "r2V" => (Memref.whole Cert.GatherIdeal.cc0_scratch4 : Memref Cert.GatherIdeal.sig Kind.scVector Space.vmem Cert.GatherIdeal.S128x128 EltTy.f32)
local notation "r3V" => (Memref.whole Cert.GatherIdeal.cc0_scratch5 : Memref Cert.GatherIdeal.sig Kind.scVector Space.vmem Cert.GatherIdeal.S128x128 EltTy.f32)

variable [FloatOps F]
variable (m : (ℓ : Loc nD τ sig) → Buf (Elt F) ℓ) (ρ : Dev nD → PrngReg)

/-! ## The set-up's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The host's values -/

abbrev a0' : DevRef τ sig := Proc.devRef .tc (main_arg0 : Ref sig .tc)
abbrev a1' : DevRef τ sig := Proc.devRef .tc (main_arg1 : Ref sig .tc)
abbrev b0' : DevRef τ sig := Proc.devRef .tc (main_v0 : Ref sig .tc)
abbrev b1' : DevRef τ sig := Proc.devRef .tc (main_v1 : Ref sig .tc)
abbrev b2' : DevRef τ sig := Proc.devRef .tc (main_v2 : Ref sig .tc)
abbrev b3' : DevRef τ sig := Proc.devRef .tc (main_v3 : Ref sig .tc)
abbrev b4' : DevRef τ sig := Proc.devRef .tc (main_v4 : Ref sig .tc)

/-- The host's four operations: columns first, flat, and back. -/
abbrev opA : HloOp τ sig (Elt F) := StableHlo.unary main_arg1 main_v0 ((transpose S50x16384 [1, 0] · transposes_S16384x50_S50x16384_1_0) : (⟨S16384x50, .i32⟩ : BufTy).Contents (Elt F) → (⟨S50x16384, .i32⟩ : BufTy).Contents (Elt F))
abbrev opB : HloOp τ sig (Elt F) := StableHlo.reshape main_v0 main_v1 (rfl : (.i32 : EltTy) = .i32) shapeCasts_S50x16384_S819200
abbrev opC : HloOp τ sig (Elt F) := StableHlo.reshape main_v2 main_v3 (rfl : (.f32 : EltTy) = .f32) shapeCasts_S819200x128_S50x16384x128
abbrev opD : HloOp τ sig (Elt F) := StableHlo.unary main_v3 main_v4 ((transpose S16384x50x128 [1, 0, 2] · transposes_S50x16384x128_S16384x50x128_1_0_2) : (⟨S50x16384x128, .f32⟩ : BufTy).Contents (Elt F) → (⟨S16384x50x128, .f32⟩ : BufTy).Contents (Elt F))

/-- The arrays of the TensorCore's program. -/
abbrev S7 : Finset (DevRef τ sig) := {a0', a1', b0', b1', b2', b3', b4'}

/-- What the arrays hold at launch and after each operation. -/
def W0 (d : Dev nD) : Valuation τ sig (Elt F) := fun b => m (d, b)
def W1 (d : Dev nD) : Valuation τ sig (Elt F) := (opA (F := F)).result (W0 m d)
def W2 (d : Dev nD) : Valuation τ sig (Elt F) := (opB (F := F)).result (W1 m d)
/-- The flat index array the call reads. -/
def fIx (d : Dev nD) : S819200.Idx → BitVec 32 := W2 m d b1'
def W3 (d : Dev nD) : Valuation τ sig (Elt F) := Function.update (W2 m d) b2' (gRows (m (tLoc d)) (fIx m d))
def W4 (d : Dev nD) : Valuation τ sig (Elt F) := (opC (F := F)).result (W3 m d)
def W5 (d : Dev nD) : Valuation τ sig (Elt F) := (opD (F := F)).result (W4 m d)

theorem hA : (opA (F := F)).bufs ⊆ S7 := show ({a1', b0'} : Finset (DevRef τ sig)) ⊆ S7 by decide
theorem hB : (opB (F := F)).bufs ⊆ S7 := show ({b0', b1'} : Finset (DevRef τ sig)) ⊆ S7 by decide
theorem hC : (opC (F := F)).bufs ⊆ S7 := show ({b2', b3'} : Finset (DevRef τ sig)) ⊆ S7 by decide
theorem hD : (opD (F := F)).bufs ⊆ S7 := show ({b3', b4'} : Finset (DevRef τ sig)) ⊆ S7 by decide

theorem opA_keep (V : Valuation τ sig (Elt F)) {b : DevRef τ sig} (h : b ≠ b0') : (opA (F := F)).result V b = V b :=
  (opA (F := F)).result_of_not_mem V (show b ∉ ({b0'} : Finset (DevRef τ sig)) from fun e => h (Finset.mem_singleton.mp e))
theorem opB_keep (V : Valuation τ sig (Elt F)) {b : DevRef τ sig} (h : b ≠ b1') : (opB (F := F)).result V b = V b :=
  (opB (F := F)).result_of_not_mem V (show b ∉ ({b1'} : Finset (DevRef τ sig)) from fun e => h (Finset.mem_singleton.mp e))
theorem opC_keep (V : Valuation τ sig (Elt F)) {b : DevRef τ sig} (h : b ≠ b3') : (opC (F := F)).result V b = V b :=
  (opC (F := F)).result_of_not_mem V (show b ∉ ({b3'} : Finset (DevRef τ sig)) from fun e => h (Finset.mem_singleton.mp e))
theorem opD_keep (V : Valuation τ sig (Elt F)) {b : DevRef τ sig} (h : b ≠ b4') : (opD (F := F)).result V b = V b :=
  (opD (F := F)).result_of_not_mem V (show b ∉ ({b4'} : Finset (DevRef τ sig)) from fun e => h (Finset.mem_singleton.mp e))

theorem W2_a0 (d : Dev nD) : W2 m d a0' = m (tLoc d) := by
  unfold W2 W1; rw [opB_keep _ (by decide), opA_keep _ (by decide)]; rfl
theorem W2_a1 (d : Dev nD) : W2 m d a1' = m (d, a1') := by
  unfold W2 W1; rw [opB_keep _ (by decide), opA_keep _ (by decide)]; rfl
theorem W3_of (d : Dev nD) {b : DevRef τ sig} (h : b ≠ b2') : W3 m d b = W2 m d b := Function.update_of_ne h _ _
theorem W3_b2 (d : Dev nD) : W3 m d b2' = gRows (m (tLoc d)) (fIx m d) := Function.update_self _ _ _
theorem W5_a0 (d : Dev nD) : W5 m d a0' = m (tLoc d) := by
  unfold W5 W4; rw [opD_keep _ (by decide), opC_keep _ (by decide), W3_of m d (by decide), W2_a0]
theorem W5_a1 (d : Dev nD) : W5 m d a1' = m (d, a1') := by
  unfold W5 W4; rw [opD_keep _ (by decide), opC_keep _ (by decide), W3_of m d (by decide), W2_a1]

/-- The arrays held at `V`, one by one. -/
theorem held_S7 (d : Dev nD) (V : Valuation τ sig (Elt F)) :
    (held (T d) S7 V : sProp 𝕄) = iprop((tLoc d ↦{fullShare} V a0') ∗ ((SparseCore.T d).loc main_arg1 ↦{fullShare} V a1')
      ∗ ((SparseCore.T d).loc main_v0 ↦{fullShare} V b0') ∗ (iLoc d ↦{fullShare} V b1') ∗ (oLoc d ↦{fullShare} V b2')
      ∗ ((SparseCore.T d).loc main_v3 ↦{fullShare} V b3') ∗ (SparseCore.T d).loc main_v4 ↦{fullShare} V b4') := by
  unfold StableHlo.held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem launch_held (d : Dev nD) : (unscopedBufs d (fun b => m ((SparseCore.T d).loc b)) : sProp 𝕄) = held (T d) S7 (W0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## What the handshakes carry -/

/-- What task `i` of SparseCore `c` gets and brings back. -/
abbrev goC (d : Dev nD) (c : Fin 2) (i : Fin 16) : sProp 𝕄 := GO d (coordsV c i) (m (tLoc d)) (fIx m d) (qT c i)
abbrev tdC (d : Dev nD) (c : Fin 2) (i : Fin 16) : sProp 𝕄 := TD d (coordsV c i) (m (tLoc d)) (fIx m d) (qT c i)
/-- SparseCore `c`'s 16 tasks' together. -/
abbrev stC (d : Dev nD) (c : Fin 2) : sProp 𝕄 := bigSep Finset.univ fun i : Fin 16 => goC m d c i
abbrev dnC (d : Dev nD) (c : Fin 2) : sProp 𝕄 := bigSep Finset.univ fun i : Fin 16 => tdC m d c i

/-- Each task gets what `deal` gives it; the same comes back, the task's part of the result written. -/
def P : (K (F := F)).Pay (nD := nD) (Val := Elt F) (Name := ℕ) (U := UU) where
  st := fun q d c => match q with | 0 => stC m d c
  dn := fun q d c => match q with | 0 => dnC m d c
  go := fun q d c i => match q with | 0 => goC m d c i
  td := fun q d c i => match q with | 0 => tdC m d c i
  x := fun _ _ => iprop(emp)

theorem goC_keeps (d : Dev nD) (c : Fin 2) (i : Fin 16) : BI.Storable (upEmb : UEmb _ 𝕄) (goC m d c i) := inferInstance
theorem tdC_keeps (d : Dev nD) (c : Fin 2) (i : Fin 16) : BI.Storable (upEmb : UEmb _ 𝕄) (tdC m d c i) := inferInstance
theorem stC_keeps (d : Dev nD) (c : Fin 2) : BI.Storable (upEmb : UEmb _ 𝕄) (stC m d c) := by
  have (i : Fin 16) := goC_keeps m d c i
  unfold stC; infer_instance
theorem dnC_keeps (d : Dev nD) (c : Fin 2) : BI.Storable (upEmb : UEmb _ 𝕄) (dnC m d c) := by
  have (i : Fin 16) := tdC_keeps m d c i
  unfold dnC; infer_instance

instance P_storable : (P (F := F) m).IsStorable where
  st q d c := match q with | 0 => stC_keeps m d c
  dn q d c := match q with | 0 => dnC_keeps m d c
  go q d c i := match q with | 0 => goC_keeps m d c i
  td q d c i := match q with | 0 => tdC_keeps m d c i

theorem st0_eq (d : Dev nD) : (bigSep Finset.univ fun c : Fin ((K (F := F)).nCore 0) => (P m).st 0 d c) = (bigSep Finset.univ fun c : Fin 2 => stC m d c : sProp 𝕄) := rfl
theorem dn0_eq (d : Dev nD) : (bigSep Finset.univ fun c : Fin ((K (F := F)).nCore 0) => (P m).dn 0 d c) = (bigSep Finset.univ fun c : Fin 2 => dnC m d c : sProp 𝕄) := rfl

/-- What the proof asks of the launch memory: every flat index names a row of the table. -/
def InRange : Prop := ∀ (d : Dev nD) (x : S819200.Idx), (fIx m d x).toNat < 100000

/-! ## The task's obligation -/

theorem defs₀_vector (c : Fin τ.nSC) (s : Fin τ.nSub) :
    defs₀ (F := F) (.scVector c s) 0 () = SparseCore.onTile hcore0 hsub0 (fun c s => cc0__gather_kernel (coordsV c s)
      tV (Memref.isWhole_whole _) iV (Memref.isWhole_whole _) oV (Memref.isWhole_whole _) aV (Memref.isWhole_whole _) bV (Memref.isWhole_whole _)
      r0V (Memref.isWhole_whole _) r1V (Memref.isWhole_whole _) r2V (Memref.isWhole_whole _) r3V (Memref.isWhole_whole _)
      cc0_scratch6 cc0_scratch7 cc0_scratch8 cc0_scratch9 cc0_scratch10 cc0_scratch11 cc0_scratch12 cc0_scratch13 cc0_scratch14 cc0_scratch15) ⟨⟩ c s := rfl

theorem more_waits {thr : Thread nD τ} {O : CellTallies nD τ sig (HIx 1)} {W : Waits sig (HIx 1)} {q : Fin 1} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (tLoc d)) (fIx m d) (qT c i) O W facts (hpre d) hO).trans
    (wp_mono frame _ _ fun _ => more_waits)

theorem vecSplit : (K (F := F)).VecSplit' (P m) 0 := by
  intro d c
  show stC m d c ⊢ |={Set.univ}=> iprop((bigSep Finset.univ fun i : Fin 16 => goC m d c i) ∗ ((bigSep Finset.univ fun i : Fin 16 => tdC m d c i) -∗ dnC m d c))
  iintro H; imodintro
  isplitl [H]; · iexact H
  iintro H; iexact H

/-! ## The ghost state at launch -/

theorem emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore's program -/

/-- What it leaves: every array, at what the last operation left. -/
abbrev FIN (d : Dev nD) : sProp 𝕄 := held (T d) S7 (W5 m d)

/-- The call, over all the arrays: the three it touches are dealt and gathered up, the rest stays. -/
theorem before_call (d : Dev nD) :
    (held (T d) S7 (W2 m d) : sProp 𝕄) ⊢ iprop((bigSep Finset.univ fun c : Fin 2 => stC m d c)
      ∗ ((bigSep Finset.univ fun c : Fin 2 => dnC m d c) -∗ held (T d) S7 (W3 m d))) := by
  rw [held_S7, held_S7, W3_of m d (b := a0') (by decide), W3_of m d (b := a1') (by decide), W3_of m d (b := b0') (by decide), W3_of m d (b := b1') (by decide),
    W3_of m d (b := b3') (by decide), W3_of m d (b := b4') (by decide), W3_b2, W2_a0]
  iintro ⟨Ht, Ha, H0, Hi, Ho, H3, H4⟩
  isplitl [Ht Hi Ho]
  · iapply (deal d (m (tLoc d)) (fIx m d) (W2 m d b2')) $$ [Ht Hi Ho]
    isplitl [Ht]; · iexact Ht
    isplitl [Hi]; · iexact Hi
    iexact Ho
  iintro Hdn
  ihave H := (gatherUp d (m (tLoc d)) (fIx m d)) $$ Hdn
  icases H with ⟨Ht, Hi, Ho⟩
  isplitl [Ht]; · iexact Ht
  isplitl [Ha]; · iexact Ha
  isplitl [H0]; · iexact H0
  isplitl [Hi]; · iexact Hi
  isplitl [Ho]; · iexact Ho
  isplitl [H3]; · iexact H3
  iexact H4

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  iapply (wp_hlo_within 𝒱 (SparseCore.T d) none Set.univ (op := opA) (S := S7) hA (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opB) (S := S7) hB (V := W1 m d)) $$ [Hb Hheld]
  · isplitl [Hb]; · iexact Hb
    iexact Hheld
  iintro ⟨Hb, Hheld⟩
  rw [wp_ret]; imodintro
  ihave Hc := (show (held (T d) S7 ((opB (F := F)).result (W1 m d)) : sProp 𝕄) ⊢ _ from before_call m d) $$ Hheld
  icases Hc with ⟨Hgo, Hback⟩
  iapply ((K (F := F)).wp_run (D (F := F)) 𝒱 (EH := EH) (P := P m) κ d 0) $$ [Hst Hgo Hback Hb Hts]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ispecialize Hback $$ Hdn'
  iapply (wp_hlo_within 𝒱 (SparseCore.T d) none Set.univ (op := opC) (S := S7) hC (V := W3 m d)) $$ [Hb Hback]
  · isplitl [Hb]; · iexact Hb
    iexact Hback
  iintro ⟨Hb, Hheld⟩
  rw [wp_ret]; imodintro
  iapply (wp_hlo_within 𝒱 (SparseCore.T d) none Set.univ (op := opD) (S := S7) hD (V := W4 m d)) $$ [Hb Hheld]
  · isplitl [Hb]; · iexact Hb
    iexact Hheld
  iintro ⟨Hb, Hheld⟩
  rw [wp_ret]; imodintro; imodintro
  isplitl [Hst]; · iexact Hst
  isplitr [Hb Hts]
  · iexact Hheld
  isplitl [Hb] <;> iassumption

def fq (d : Dev nD) (s' : Phys nD τ sig (Elt F)) : Prop :=
  s'.mem.mem (tLoc d) = W5 m d a0' ∧ s'.mem.mem ((SparseCore.T d).loc main_arg1) = W5 m d a1' ∧ s'.mem.mem ((SparseCore.T d).loc main_v4) = W5 m d b4'

theorem hfin (d : Dev nD) (s' : Phys nD τ sig (Elt F)) : iprop(FIN m d ∗ SI s') ⊢ (⌜fq m d s'⌝ : sProp 𝕄) := by
  unfold FIN
  rw [held_S7]
  iintro ⟨⟨Ht, Ha, -, -, -, -, H4⟩, HSI⟩
  ihave H := (persistent_entails_right (SI_pointsTo_agree (st := s') (ℓ := tLoc d) (I := Finset.univ) (q := fullShare) (f := W5 m d a0'))) $$ [HSI Ht]
  · isplitl [HSI] <;> iassumption
  icases H with ⟨%h1, HSI, -⟩
  ihave H := (persistent_entails_right (SI_pointsTo_agree (st := s') (ℓ := (SparseCore.T d).loc main_arg1) (I := Finset.univ) (q := fullShare) (f := W5 m d a1'))) $$ [HSI Ha]
  · isplitl [HSI] <;> iassumption
  icases H with ⟨%h2, HSI, -⟩
  ihave H := (SI_pointsTo_agree (st := s') (ℓ := (SparseCore.T d).loc main_v4) (I := Finset.univ) (q := fullShare) (f := W5 m d b4')) $$ [HSI H4]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (tLoc c) = W5 m c a0' ∧ r.2.mem ((SparseCore.T c).loc main_arg1) = W5 m c a1' ∧ r.2.mem ((SparseCore.T c).loc main_v4) = W5 m c b4')
    ∧ r.2.sem = fun _ => 0

theorem run_main [∀ e, Nonempty (Elt F e)] (hpre : InRange m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather
end
-- ==== Proof.Gather.Ref.lean ====
/-
  What the reference leaves: row `x1[y0, y1]` of the table, wherever the precondition holds of the index array.
-/
module

public import proofs.«01_k».proof.Proof.Gather.Tile
public import proofs.«01_k».proof.Pre_in_range_rows
public import proofs.«01_k».proof.Proof.Gen.Pre_in_range_rows
public import proofs.«01_k».proof.Proof.Gen.ReferenceIdeal.Read
public import Idealize.ShloMosaic.Lib.ReduceAll
public import Idealize.ShloMosaic.Lib.WordCmp
public import Idealize.ShloMosaic.Lib.ValueIdxCore

@[expose] public section

set_option maxRecDepth 16384

noncomputable section

namespace Cert.Proof.Gather

open Idealize.ShloMosaic

variable {F : FTy → Type} [FloatOps F]

/-! ## The index range -/

/-- A 32-bit word that is at least 0 and below 100000 read signed, is below 100000 read unsigned. -/
theorem word_lt (w : BitVec 32) (h : IntOp.andi (IntOp.cmpi .sge w 0#32) (IntOp.cmpi .slt w 100000#32) = 1#1) : w.toNat < 100000 := by
  simp only [IntOp.cmpi, WordCmp.andi_ofBool, WordCmp.ofBool_eq_one_iff, Bool.and_eq_true, BitVec.sle_eq_decide, BitVec.slt_eq_decide,
    decide_eq_true_eq, BitVec.toInt_eq_toNat_cond, BitVec.toNat_ofNat, Nat.reducePow, Nat.reduceMod] at h
  have := w.isLt
  omega

/-- The precondition says that every entry of the index array names a row of the table. -/
theorem pre_lt (x0 : FVec F Cert.Pre_in_range_rows.S100000x128 .f32) (x1 : IVec Cert.Pre_in_range_rows.S16384x50 32)
    (h : Cert.Pre_in_range_rows.fn x0 x1 = fun _ => 1#1) (i : Cert.Pre_in_range_rows.S16384x50.Idx) : (x1 i).toNat < 100000 := by
  haveI : Subsingleton Cert.Pre_in_range_rows.S_.Idx := ⟨fun a b => funext fun k => k.elim0⟩
  exact word_lt _ (Host.reduce_andi_all _ _ _ _ (fun a => a.elim0) (congrFun h _) i)

/-! ## Rows of the table -/

open Cert.ReferenceIdeal Cert.ReferenceIdeal.Gen Cert.ReferenceIdeal.Read

/-- Entry `(a, b)` of the index array. -/
abbrev at2 (a : Fin 16384) (b : Fin 50) : S16384x50.Idx := fun k => match k with | ⟨0, _⟩ => a | ⟨1, _⟩ => b
/-- Entry `(r, c)` of the table. -/
abbrev tab2 (r : Fin 100000) (c : Fin 128) : S100000x128.Idx := fun k => match k with | ⟨0, _⟩ => r | ⟨1, _⟩ => c

/-- The rows of `fT` that `fN` names, in `fN`'s shape. -/
def taken (fT : S100000x128.Idx → Elt F .f32) (fN : S16384x50.Idx → BitVec 32) : S16384x50x128.Idx → Elt F .f32 :=
  fun y => fT (tab2 (rowIx (fN (at2 (y 0 : Fin 16384) (y 1 : Fin 50)))) (y 2 : Fin 128))

section Gather

local notation "gD" => gather_S100000x128_S16384x50x1_S16384x50x128_2_0_n_n_0_2_1128

/-- The start index of result entry `y`. -/
abbrev at3 (y : S16384x50x128.Idx) : S16384x50x1.Idx :=
  fun a => match a with | ⟨0, _⟩ => (y 0 : Fin 16384) | ⟨1, _⟩ => (y 1 : Fin 50) | ⟨2, _⟩ => (0 : Fin 1)

theorem row_axis (y : S16384x50x128.Idx) (idx : IVec S16384x50x1 32) :
    (gD).start y idx 0 + (gD).batchCoord y 0 + (gD).offCoord y 0 = min (idx (at3 y)).toInt.toNat 99999 := by
  have h0 : (0 : Fin 2) ∈ (gD).startIndexMap := List.mem_singleton.mpr rfl
  rw [(gD).batchCoord_eq_zero y 0 List.not_mem_nil, (gD).offCoord_eq_zero y 0 (fun h => (((gD).mem_sKept 0).mp h).1 (List.mem_singleton.mpr rfl))]
  unfold GatherDims.start
  rw [dif_pos h0]
  have e : (gD).siIdx y ⟨(gD).startIndexMap.idxOf (0 : Fin 2), List.idxOf_lt_length_iff.2 h0⟩ = at3 y := by
    funext b
    match b with
    | ⟨0, _⟩ => rfl
    | ⟨1, _⟩ => rfl
    | ⟨2, _⟩ => rfl
  rw [e]
  rfl

theorem col_axis (y : S16384x50x128.Idx) (idx : IVec S16384x50x1 32) :
    (gD).start y idx 1 + (gD).batchCoord y 1 + (gD).offCoord y 1 = (y 2).val := by
  have h1 : (1 : Fin 2) ∉ (gD).startIndexMap := by decide
  have hk : (1 : Fin 2) ∈ (gD).sKept := ((gD).mem_sKept 1).mpr ⟨by decide, List.not_mem_nil⟩
  rw [(gD).batchCoord_eq_zero y 1 List.not_mem_nil]
  unfold GatherDims.start GatherDims.offCoord
  rw [dif_neg h1, dif_pos hk]
  simp only [Nat.zero_add]
  rfl

/-- The gather reads the row its start index names when that is in range. -/
theorem gather_row {α : Type} (x : S100000x128.Idx → α) (idx : IVec S16384x50x1 32) (y : S16384x50x128.Idx) (h : (idx (at3 y)).toNat < 100000) :
    Host.gather gD x idx y = x (tab2 (rowIx (idx (at3 y))) (y 2 : Fin 128)) := by
  unfold Host.gather
  refine congrArg x (funext fun a => Fin.ext ?_)
  match a with
  | ⟨0, _⟩ =>
    refine (row_axis y idx).trans ?_
    show min (idx (at3 y)).toInt.toNat 99999 = (idx (at3 y)).toNat % 100000
    rw [BitVec.toInt_eq_toNat_cond, if_pos (by omega), Int.toNat_natCast, Nat.mod_eq_of_lt h]
    omega
  | ⟨1, _⟩ => exact col_axis y idx

end Gather

variable (x0 : (⟨S100000x128, .f32⟩ : BufTy).Contents (Elt F)) (x1 : (⟨S16384x50, .i32⟩ : BufTy).Contents (Elt F))

/-- An index in range is not wrapped. -/
theorem v4_eq (hx : ∀ i, (x1 i : BitVec 32).toNat < 100000) : val_main_call0_v4 (F := F) x1 = x1 := by
  funext i
  rw [val_main_call0_v4_apply, val_main_call0_v1_apply, val_main_call0_v0_apply, val_main_call0_c_apply]
  have e : IntOp.cmpi .slt (x1 i) (0#32) ≠ 1#1 := by
    intro h
    have hi := hx i
    simp only [IntOp.cmpi, WordCmp.ofBool_eq_one_iff, BitVec.slt_eq_decide, decide_eq_true_eq, BitVec.toInt_eq_toNat_cond, BitVec.toNat_ofNat,
      Nat.reducePow, Nat.reduceMod] at h
    omega
  unfold Scalar.select
  exact if_neg e

theorem v5_eq (hx : ∀ i, (x1 i : BitVec 32).toNat < 100000) (i : S16384x50x1.Idx) :
    val_main_call0_v5 (F := F) x1 i = x1 (idx_main_call0_v5 i) := by
  rw [val_main_call0_v5_apply, v4_eq x1 hx]

/-- Every index in range passes the reference's own test. -/
theorem v12_eq (hx : ∀ i, (x1 i : BitVec 32).toNat < 100000) (j : S16384x50.Idx) : val_main_call0_v12 (F := F) x1 j = 1#1 := by
  unfold val_main_call0_v12
  refine Host.reduce_andi_one _ _ _ _ j rfl fun i => ?_
  rw [val_main_call0_v11_apply, val_main_call0_v7_apply, val_main_call0_v10_apply, v5_eq x1 hx, val_main_call0_v6_apply, val_main_call0_c_2_apply,
    val_main_call0_v9_apply, val_main_call0_v8_apply, val_main_call0_c_1_apply]
  have hi := hx (idx_main_call0_v5 i)
  generalize (x1 (idx_main_call0_v5 i) : BitVec 32) = w at hi
  simp only [IntOp.cmpi, WordCmp.andi_ofBool, WordCmp.ofBool_eq_one_iff, Bool.and_eq_true, BitVec.sle_eq_decide,
    decide_eq_true_eq, BitVec.toInt_eq_toNat_cond, BitVec.toNat_ofNat, Nat.reducePow, Nat.reduceMod]
  omega

/-- THE REFERENCE'S RESULT is the rows the index array names. -/
theorem ref_eq (hx : ∀ i, (x1 i : BitVec 32).toNat < 100000) : val_main_v0 (F := F) x0 x1 = taken x0 x1 := by
  funext y
  rw [val_main_v0_apply, val_main_call0_v14_apply, v12_eq x1 hx]
  show val_main_call0_v13 (F := F) x0 x1 y = _
  unfold val_main_call0_v13
  have e := v5_eq x1 hx (at3 y)
  rw [gather_row x0 _ y (by rw [e]; exact hx _), e]
  have e2 : idx_main_call0_v5 (at3 y) = at2 (y 0 : Fin 16384) (y 1 : Fin 50) := by
    funext a
    match a with
    | ⟨0, _⟩ => rfl
    | ⟨1, _⟩ => rfl
  rw [e2]
  rfl

end Cert.Proof.Gather

end
-- ==== Proof.Gather.Value.lean ====
/-
  What the kernel leaves: row `x1[y0, y1]` of the table.
-/
module

public import proofs.«01_k».proof.Proof.Gather.Launch
public import proofs.«01_k».proof.Proof.Gather.Ref

@[expose] public section

set_option maxRecDepth 16384

noncomputable section

namespace Cert.Proof.Gather

open Cert.GatherIdeal Cert.GatherIdeal.Gen
open Idealize.ShloMosaic

variable {F : FTy → Type} [FloatOps F]

/-- Entry `(b, a)` of the index array with its columns first, and entry `(n)` of it flat. -/
abbrev at2T (b : Fin 50) (a : Fin 16384) : S50x16384.Idx := fun k => match k with | ⟨0, _⟩ => b | ⟨1, _⟩ => a
/-- Entry `(n, c)` of the gathered rows. -/
abbrev rows2 (n : Fin 819200) (c : Fin 128) : S819200x128.Idx := fun k => match k with | ⟨0, _⟩ => n | ⟨1, _⟩ => c
/-- Entry `(b, a, c)` of the result with its columns first. -/
abbrev at3T (b : Fin 50) (a : Fin 16384) (c : Fin 128) : S50x16384x128.Idx :=
  fun k => match k with | ⟨0, _⟩ => b | ⟨1, _⟩ => a | ⟨2, _⟩ => c

theorem div_lt (n : Fin 819200) : n.val / 16384 < 50 := Nat.div_lt_of_lt_mul n.isLt
theorem mul_lt (b : Fin 50) (a : Fin 16384) : b.val * 16384 + a.val < 819200 := by omega

/-- Entry `n` of the flat index array is entry `(n % 16384, n / 16384)` of the argument. -/
theorem flat_eq (x : S16384x50.Idx → BitVec 32) (j : S819200.Idx) (n : Fin 819200) (hn : n = j 0) :
    shapeCast S819200 (transpose S50x16384 [1, 0] x transposes_S16384x50_S50x16384_1_0) shapeCasts_S50x16384_S819200 j
      = x (at2 ⟨n.val % 16384, Nat.mod_lt _ (Nat.succ_pos _)⟩ ⟨n.val / 16384, div_lt n⟩) := by
  refine (shapeCast_apply _ _ j (at2T ⟨n.val / 16384, div_lt n⟩ ⟨n.val % 16384, Nat.mod_lt _ (Nat.succ_pos _)⟩) ?_).trans ?_
  · rw [Shape.rowMajor_val_two, Shape.rowMajor_val_one, ← hn]
    show n.val / 16384 * 16384 + n.val % 16384 = n.val
    omega
  · exact transpose_apply [1, 0] _ _ _ _ fun b => match b with
      | ⟨0, _⟩ => rfl
      | ⟨1, _⟩ => rfl

/-- Entry `y` of the result is entry `(y1 * 16384 + y0, y2)` of the gathered rows. -/
theorem back_eq {α : Type} (g : S819200x128.Idx → α) (y : S16384x50x128.Idx) (a : Fin 16384) (b : Fin 50) (c : Fin 128)
    (ha : a = y 0) (hb : b = y 1) (hc : c = y 2) :
    transpose S16384x50x128 [1, 0, 2] (shapeCast S50x16384x128 g shapeCasts_S819200x128_S50x16384x128) transposes_S50x16384x128_S16384x50x128_1_0_2 y
      = g (rows2 ⟨b.val * 16384 + a.val, mul_lt b a⟩ c) := by
  subst ha hb hc
  refine (transpose_apply [1, 0, 2] _ _ y (at3T (y 1) (y 0) (y 2)) (fun k => match k with
      | ⟨0, _⟩ => rfl
      | ⟨1, _⟩ => rfl
      | ⟨2, _⟩ => rfl)).trans ?_
  exact shapeCast_apply _ _ _ _ (by rw [Shape.rowMajor_val_two, Shape.rowMajor_val_three]; rfl)

variable (m : (ℓ : Loc nD τ sig) → Buf (Elt F) ℓ)

theorem fIx_eq (d : Dev nD) : fIx m d
    = shapeCast S819200 (transpose S50x16384 [1, 0] (m (d, a1')) transposes_S16384x50_S50x16384_1_0) shapeCasts_S50x16384_S819200 := by
  unfold fIx W2
  rw [StableHlo.reshape_result]
  funext n
  show shapeCast S819200 (W1 m d b0') _ n = _
  unfold W1
  rw [StableHlo.unary_result]
  rfl

theorem inRange_of (h : ∀ d i, (m (d, a1') i : BitVec 32).toNat < 100000) : InRange m := by
  intro d x
  rw [fIx_eq, flat_eq _ x (x 0) rfl]
  exact h d _

theorem W5_b4 (d : Dev nD) : W5 m d b4' = taken (m (tLoc d)) (m (d, a1')) := by
  have e : W5 m d b4' = transpose S16384x50x128 [1, 0, 2]
      (shapeCast S50x16384x128 (gRows (m (tLoc d)) (fIx m d)) shapeCasts_S819200x128_S50x16384x128) transposes_S50x16384x128_S16384x50x128_1_0_2 := by
    unfold W5
    rw [StableHlo.unary_result]
    refine congrArg (fun z => transpose S16384x50x128 [1, 0, 2] z transposes_S50x16384x128_S16384x50x128_1_0_2) ?_
    unfold W4
    show (opC (F := F)).result (W3 m d) b3' = _
    rw [StableHlo.reshape_result]
    funext n
    show shapeCast S50x16384x128 (W3 m d b2') _ n = _
    rw [W3_b2]
  rw [e]
  funext y
  rw [back_eq _ y (y 0) (y 1) (y 2) rfl rfl rfl]
  unfold gRows taken
  rw [fIx_eq]
  refine congrArg (m (tLoc d)) (funext fun a => ?_)
  match a with
  | ⟨1, _⟩ => rfl
  | ⟨0, _⟩ =>
    refine congrArg rowIx ((flat_eq _ _ ⟨_, mul_lt (y 1) (y 0)⟩ rfl).trans (congrArg (m (d, a1')) (funext fun k => Fin.ext ?_)))
    have h0 : (y 0).val < 16384 := (y 0).isLt
    match k with
    | ⟨0, _⟩ => show ((y 1).val * 16384 + (y 0).val) % 16384 = (y 0).val; omega
    | ⟨1, _⟩ => show ((y 1).val * 16384 + (y 0).val) / 16384 = (y 1).val; omega

/-- THE KERNEL'S RUN, its result read: the rows the index array names, and the arguments as they were. -/
theorem run_rows [∀ e, Nonempty (Elt F e)] (ρ : Dev nD → PrngReg) (h : ∀ d i, (m (d, a1') i : BitVec 32).toNat < 100000) :
    θ_run Cert.GatherIdeal.defs Cert.GatherIdeal.threads ⟨m, fun _ => 0, ρ⟩ fun r =>
      (∀ c : Dev nD, r.2.mem ((c.tc : Thread nD τ).loc main_v4) = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run _ _ _).mono (fun _ q => ⟨fun c => ⟨((q.1 c).2.2).trans (W5_b4 m c), ((q.1 c).1).trans (W5_a0 m c), ((q.1 c).2.1).trans (W5_a1 m c)⟩, q.2⟩)
    (run_main m ρ (inRange_of m h))

end Cert.Proof.Gather

end
-- ==== Proof.Gather.Claims.lean ====
/-
  The claims about the gather call and its reference.
-/
module

public import proofs.«01_k».proof.Defs
public import proofs.«01_k».proof.Proof.Gather.Value
public import proofs.«01_k».proof.Proof.Gen.Gather
public import proofs.«01_k».proof.Proof.Gen.Reference
public import proofs.«01_k».proof.Proof.Gen.Reference.Read
public import Idealize.ShloMosaic.PureOps.BitExact
public import Idealize.ShloMosaic.PureOps.Ideal

@[expose] public section

set_option maxRecDepth 16384

noncomputable section

namespace Cert.Proof.Gather

open Idealize.ShloMosaic Idealize.SL.Sem

/-! ## The reference's runs -/

section Reference
open Cert.ReferenceIdeal
variable {F : FTy → Type} [FloatOps F] (m : (ℓ : Loc nD τ sig) → Buf (Elt F) ℓ) (ρ : Dev nD → PrngReg)

/-- The reference's run, its result read under the precondition. -/
theorem ref_rows (h : ∀ (d : Dev nD) i, (m ((d.tc : Thread nD τ).loc main_arg1) i : BitVec 32).toNat < 100000) :
    θ_run defs (onTc (τ := τ) (main (F := F))) ⟨m, fun _ => 0, ρ⟩ fun r => ∀ c : Dev nD,
      r.2.mem ((c.tc : Thread nD τ).loc main_v0) = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ q c => ⟨((q c).1).trans ((Read.val_main_v0_eq _ _).trans (ref_eq _ _ (h c))), (q c).2⟩) (Value.run m ρ)

end Reference

/-! ## Frames -/

theorem frame_gather : Cert.quiescent_Gather := fun m ρ hp =>
  (θ_run Cert.GatherIdeal.defs _ _).mono (fun _ q => ⟨fun c => (q.1 c).2, q.2⟩) (run_rows (F := Bits) m ρ fun d => pre_lt _ _ (hp d))
theorem frame_gather_ideal : Cert.quiescent_GatherIdeal := fun m ρ hp =>
  (θ_run Cert.GatherIdeal.defs _ _).mono (fun _ q => ⟨fun c => (q.1 c).2, q.2⟩) (run_rows (F := Ideal) m ρ fun d => pre_lt _ _ (hp d))
theorem frame_reference : Cert.quiescent_Reference := fun m ρ _ =>
  (θ_run _ _ _).mono (fun r q => ⟨fun c => (q c).2, sem_eq_zero_of_no_sems (by decide) r.2⟩) (Cert.Reference.Value.run m ρ)
theorem frame_reference_pre : Cert.quiescent_Reference_pre_in_range_rows := fun m ρ _ => frame_reference m ρ trivial
theorem frame_reference_ideal : Cert.quiescent_ReferenceIdeal := fun m ρ _ =>
  (θ_run _ _ _).mono (fun r q => ⟨fun c => (q c).2, sem_eq_zero_of_no_sems (by decide) r.2⟩) (Cert.ReferenceIdeal.Value.run m ρ)
theorem frame_reference_ideal_pre : Cert.quiescent_ReferenceIdeal_pre_in_range_rows := fun m ρ _ => frame_reference_ideal m ρ trivial

/-! ## Equal results -/

theorem bitexact : Cert.bitexact_Gather_Reference := fun m g m' g' hp he =>
  ⟨fun c => taken (F := Bits) (m ((c.tc : Thread Cert.GatherIdeal.nD Cert.GatherIdeal.τ).loc Cert.GatherIdeal.main_arg0))
      (m ((c.tc : Thread Cert.GatherIdeal.nD Cert.GatherIdeal.τ).loc Cert.GatherIdeal.main_arg1)),
    (θ_run Cert.GatherIdeal.defs _ _).mono (fun _ q => q.1) (run_rows (F := Bits) m g fun d => pre_lt _ _ (hp d)),
    (θ_run Cert.ReferenceIdeal.defs _ _).mono (fun _ q c => ⟨((q c).1).trans (congrArg₂ (taken (F := Bits)) (he c).1 (he c).2), (q c).2⟩)
      (ref_rows (F := Bits) m' g' fun d i => (congrArg BitVec.toNat (congrFun (he d).2 i)).trans_lt (pre_lt _ _ (hp d) i))⟩

theorem algebraic : Cert.algebraic_GatherIdeal_ReferenceIdeal := fun m g m' g' hp he =>
  ⟨fun c => taken (F := Ideal) (m ((c.tc : Thread Cert.GatherIdeal.nD Cert.GatherIdeal.τ).loc Cert.GatherIdeal.main_arg0))
      (m ((c.tc : Thread Cert.GatherIdeal.nD Cert.GatherIdeal.τ).loc Cert.GatherIdeal.main_arg1)),
    (θ_run Cert.GatherIdeal.defs _ _).mono (fun _ q => q.1) (run_rows (F := Ideal) m g fun d => pre_lt _ _ (hp d)),
    (θ_run Cert.ReferenceIdeal.defs _ _).mono (fun _ q c => ⟨((q c).1).trans (congrArg₂ (taken (F := Ideal)) (he c).1 (he c).2), (q c).2⟩)
      (ref_rows (F := Ideal) m' g' fun d i => (congrArg BitVec.toNat (congrFun (he d).2 i)).trans_lt (pre_lt _ _ (hp d) i))⟩

end Cert.Proof.Gather

end
-- ==== Proof.Kernel.Tile.lean ====
/-
  One vector subcore's task of the row gather (`cc1__gather_kernel`), at a symbolic (SparseCore, subcore) pair.

  The task fetches 512 indices of each of the 50 columns, two columns ahead, gathers the table rows they name into four
  row buffers of 128 rows, and copies each buffer out to its block of the result, waiting for that copy one column
  later. What it holds: four read tokens of the table, the 50 windows of the flat index array that are its own, and the
  200 blocks of the result that are its own.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Kernel

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## Arrays, buffers and cells -/

abbrev tLoc (d : Dev nD) : Loc nD τ sig := (SparseCore.T d).loc main_v2
abbrev iLoc (d : Dev nD) : Loc nD τ sig := (SparseCore.T d).loc main_v1
abbrev oLoc (d : Dev nD) : Loc nD τ sig := (SparseCore.T d).loc main_v3

local notation "tV" => (Memref.whole Cert.KernelIdeal.main_v2_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x128 EltTy.f32)
local notation "aV" => (Memref.whole Cert.KernelIdeal.cc1_scratch0 : Memref Cert.KernelIdeal.sig Kind.scVector Space.vmem Cert.KernelIdeal.S512 EltTy.i32)
local notation "bV" => (Memref.whole Cert.KernelIdeal.cc1_scratch1 : Memref Cert.KernelIdeal.sig Kind.scVector Space.vmem Cert.KernelIdeal.S512 EltTy.i32)
local notation "r0V" => (Memref.whole Cert.KernelIdeal.cc1_scratch2 : Memref Cert.KernelIdeal.sig Kind.scVector Space.vmem Cert.KernelIdeal.S128x128 EltTy.f32)
local notation "r1V" => (Memref.whole Cert.KernelIdeal.cc1_scratch3 : Memref Cert.KernelIdeal.sig Kind.scVector Space.vmem Cert.KernelIdeal.S128x128 EltTy.f32)
local notation "r2V" => (Memref.whole Cert.KernelIdeal.cc1_scratch4 : Memref Cert.KernelIdeal.sig Kind.scVector Space.vmem Cert.KernelIdeal.S128x128 EltTy.f32)
local notation "r3V" => (Memref.whole Cert.KernelIdeal.cc1_scratch5 : Memref Cert.KernelIdeal.sig Kind.scVector Space.vmem Cert.KernelIdeal.S128x128 EltTy.f32)

abbrev cV (L : grid1.Coords) : Fin τ.nSC := (L 0).castLE hcore1
abbrev jV (L : grid1.Coords) : Fin τ.nSub := (L 1).castLE hsub1
/-- The thread of the task at coordinates `L` of device `d`. -/
abbrev VT (d : Dev nD) (L : grid1.Coords) : Thread nD τ := V d (cV L) (jV L)

theorem L0_lt (L : grid1.Coords) : (L 0).val < 2 := (L 0).isLt
theorem L1_lt (L : grid1.Coords) : (L 1).val < 16 := (L 1).isLt

/-! ## The task's windows -/

/-- Where the task's 512 indices of column `j` start in the flat index array. -/
def iOff (L : grid1.Coords) (j : ℕ) : Fin 1 → ℕ := ![1024 * (L 1).val + 512 * (L 0).val + 16384 * j]
theorem iOff_inb (L : grid1.Coords) {j : ℕ} (hj : j < 50) : ∀ a, iOff L j a + S512.size a ≤ S819200.size a := by
  have := L0_lt L; have := L1_lt L
  intro a; match a with | 0 => show 1024 * (L 1).val + 512 * (L 0).val + 16384 * j + 512 ≤ 819200; omega
/-- Where block `u` of the task's rows of column `j` starts in the result. -/
def oOff (L : grid1.Coords) (j u : ℕ) : Fin 2 → ℕ := ![1024 * (L 1).val + 512 * (L 0).val + 16384 * j + 128 * u, 0]
theorem oOff_inb (L : grid1.Coords) {j u : ℕ} (hj : j < 50) (hu : u < 4) : ∀ a, oOff L j u a + S128x128.size a ≤ S819200x128.size a := by
  have := L0_lt L; have := L1_lt L
  intro a; match a with
  | 0 => show 1024 * (L 1).val + 512 * (L 0).val + 16384 * j + 128 * u + 128 ≤ 819200; omega
  | 1 => show 0 + 128 ≤ 128; omega

abbrev iWin (L : grid1.Coords) {j : ℕ} (hj : j < 50) : Memref sig .scVector .hbm S512 .i32 :=
  (iV).slice (Rect.unit (s := S819200) (iOff L j) S512.size (iOff_inb L hj)) (fun _ => rfl)
abbrev oBlk (L : grid1.Coords) {j u : ℕ} (hj : j < 50) (hu : u < 4) : Memref sig .scVector .hbm S128x128 .f32 :=
  (oV).slice (Rect.unit (s := S819200x128) (oOff L j u) S128x128.size (oOff_inb L hj hu)) (fun _ => rfl)

/-- A window of the index array at offsets `off`, spelt as the body spells it, is the named one. -/
theorem iWin_of (L : grid1.Coords) {off : Fin 1 → ℕ} {j : ℕ} (hj : j < 50) (e : off = iOff L j) (h : ∀ a, off a + S512.size a ≤ S819200.size a) :
    (iV).slice (Rect.unit (s := S819200) off S512.size h) (fun _ => rfl) = iWin L hj := by subst e; rfl
theorem oBlk_of (L : grid1.Coords) {off : Fin 2 → ℕ} {j u : ℕ} (hj : j < 50) (hu : u < 4) (e : off = oOff L j u)
    (h : ∀ a, off a + S128x128.size a ≤ S819200x128.size a) :
    (oV).slice (Rect.unit (s := S819200x128) off S128x128.size h) (fun _ => rfl) = oBlk L hj hu := by subst e; rfl

/-! ## Values -/

/-- Entry `n` of the index array, as a row of the table. -/
def rowIx (w : BitVec 32) : Fin 100000 := ⟨w.toNat % 100000, Nat.mod_lt _ (by decide)⟩

/-- What the gather leaves in the result: row `n` is the table's row that entry `n` of the index array names. -/
def gRows (fT : S100000x128.Idx → Elt F .f32) (fI : S819200.Idx → BitVec 32) : S819200x128.Idx → Elt F .f32 :=
  fun x => fT (fun a => match a with
    | ⟨0, _⟩ => rowIx (fI (fun a => match a with | ⟨0, _⟩ => (x 0 : Fin 819200)))
    | ⟨1, _⟩ => (x 1 : Fin 128))

/-- The 128 rows a list of 128 indices names. -/
def gPay (fT : S100000x128.Idx → Elt F .f32) (w : S128.Idx → BitVec 32) : S128x128.Idx → Elt F .f32 :=
  fun x => fT (fun a => match a with
    | ⟨0, _⟩ => rowIx (w (fun a => match a with | ⟨0, _⟩ => (x 0 : Fin 128)))
    | ⟨1, _⟩ => (x 1 : Fin 128))

/-! ## What the task holds of a window -/

/-- The window `M` of the task's, holding `w`. -/
def At (c : Thread nD τ) {sp : Space} {s : Shape} {e : EltTy} (M : Memref sig c.2.kind sp s e) (w : s.Idx → Elt F e) : sProp 𝕄 :=
  iprop(∃ f, ⌜M.view.read (Elt F) f = w⌝ ∗ (M.view.loc c ↦[M.view.set]{fullShare} f))
/-- The window `M` of the task's, holding anything. -/
def Own (c : Thread nD τ) {sp : Space} {s : Shape} {e : EltTy} (M : Memref sig c.2.kind sp s e) : sProp 𝕄 :=
  iprop(∃ f, M.view.loc c ↦[M.view.set]{fullShare} f)
theorem At_Own (c : Thread nD τ) {sp : Space} {s : Shape} {e : EltTy} (M : Memref sig c.2.kind sp s e) (w : s.Idx → Elt F e) :
    (At c M w : sProp 𝕄) ⊢ Own c M := by
  unfold At Own; iintro ⟨%f, %h, H⟩; iexists f; iexact H
theorem At_intro (c : Thread nD τ) {sp : Space} {s : Shape} {e : EltTy} (M : Memref sig c.2.kind sp s e) (f : Buf (Elt F) (M.view.loc c)) :
    (M.view.loc c ↦[M.view.set]{fullShare} f : sProp 𝕄) ⊢ At c M (M.view.read (Elt F) f) := by
  unfold At; iintro H; iexists f; isplitr; · ipureintro; rfl
  iexact H
theorem Own_intro (c : Thread nD τ) {sp : Space} {s : Shape} {e : EltTy} (M : Memref sig c.2.kind sp s e) (f : Buf (Elt F) (M.view.loc c)) :
    (M.view.loc c ↦[M.view.set]{fullShare} f : sProp 𝕄) ⊢ Own c M := by
  unfold Own; iintro H; iexists f; iexact H
/-- A window holding what `f` has there is the window at `f`. -/
theorem At_elim (c : Thread nD τ) {sp : Space} {s : Shape} {e : EltTy} (M : Memref sig c.2.kind sp s e) (f : Buf (Elt F) (M.view.loc c)) :
    (At c M (M.view.read (Elt F) f) : sProp 𝕄) ⊢ (M.view.loc c ↦[M.view.set]{fullShare} f) := by
  unfold At
  iintro ⟨%g, %h, H⟩
  iapply (Entails.of_eq (pointsTo_congr (Name := ℕ) (U := UU) (Lvl := ℕ) (Ix := HIx 1) (f := g) (g := f) (fun i hi => ?_)))
  · obtain ⟨x, -, rfl⟩ := Finset.mem_map.mp hi
    have := congrFun h x
    rw [View.read_apply, View.read_apply] at this
    simpa using this
  iexact H

/-- What the task owes, and the waits it has made over those it started with. -/
def OW (c : Thread nD τ) (O : CellTallies nD τ sig (HIx 1)) (W : Waits sig (HIx 1)) : sProp 𝕄 :=
  iprop(∃ W', ⌜∀ p ∈ W', p ∈ W ∨ p.2 = none⌝ ∗ owes c O W')

abbrev LV : sProp 𝕄 := levAts (K (F := F)).L (K (F := F)).lev

section Steps

variable [FloatOps F] (c : Thread nD τ) (O : CellTallies nD τ sig (HIx 1)) (W : Waits sig (HIx 1))

/-- A wait for a transfer the task has in flight. -/
theorem step_wait {α : Type} {Q : α → sProp 𝕄} (hO : ∀ g, O g none = 0) {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (hN : dstw.view.dmaCredit = N) {D : sProp 𝕄} :
    iprop(LV (F := F) ∗ Transfers.Flight countersEmb c (.dma sem) (default : HIx 1) N D ∗ OW c O W)
      ⊢ iprop((iprop(D ∗ semVal (c, .dma sem) 0 ∗ OW c O W) -∗ wp frame (wpE defs₀ 𝒱₀ c none) Set.univ (k ⟨⟩) Q)
          -∗ wp frame (wpE defs₀ 𝒱₀ c none) Set.univ (.op (.waitDma2 sem srcw dstw hsrc hdst) k) Q) := by
  unfold OW
  iintro ⟨#Hlv, Hfl, ⟨%W', %hW', HO⟩⟩ Hk
  ihave Hmw := (show LV (F := F) ⊢ Transfers.MayWaits c (default : HIx 1) O from (K (F := F)).mayWaits_none (thr := c) hO) $$ Hlv
  iapply (Transfers.wp_waitLocalO countersEmb 𝒱₀ c none (default : HIx 1) hN) $$ [Hfl HO Hmw]
  · isplitl [Hfl]; · iexact Hfl
    isplitl [HO]; · iexact HO
    iapply (Transfers.MayWaits.elim (SemLoc.dma sem)) $$ Hmw
  iintro ⟨HD, Hs, HO⟩
  iapply Hk
  isplitl [HD]; · iexact HD
  isplitl [Hs]; · iexact Hs
  iexists (insert (SemLoc.dma sem, (default : HIx 1)) W'); isplitr
  · ipureintro; intro p hp
    rcases Finset.mem_insert.mp hp with rfl | hp
    · exact Or.inr rfl
    · exact hW' p hp
  iexact HO

/-- A copy of one window into another, on a cell at zero. -/
theorem step_dma {α : Type} {Q : α → sProp 𝕄} {sp sp' : Space} {s : Shape} {e : EltTy} {src src' : Memref sig c.2.kind sp s e} {dst dst' : Memref sig c.2.kind sp' s e} (hsr : src = src') (hd : dst = dst') {sem : DmaSem sig}
    {hsrc : src.view.WordExact} {hdst : dst.view.WordExact} {hsem : DmaTarget.Typed (nD := nD) sp (.dma sem) (.here dst)}
    {k : PUnit → Prog (TpuEff nD τ sig (Elt F) Λ₀ c.2) α} {w : s.Idx → Elt F e} (N : ℕ) (hN : dst'.view.amount (.dma sem) = N) (hN0 : 0 < N) :
    iprop(At c src' w ∗ Own c dst' ∗ semVal (c, .dma sem) 0)
      ⊢ iprop((Transfers.Flight countersEmb c (.dma sem) (default : HIx 1) N iprop(At c dst' w ∗ At c src' w) -∗ wp frame (wpE defs₀ 𝒱₀ c none) Set.univ (k ⟨⟩) Q)
          -∗ wp frame (wpE defs₀ 𝒱₀ c none) Set.univ (.op (.enqueueDma src (.here dst) (.dma sem) hsrc hdst hsem) k) Q) := by
  subst hd; subst hsr
  unfold Own
  iintro ⟨Hs, ⟨%fd, Hd⟩, Hv⟩ Hk
  ihave Hs' := (show (At c src w : sProp 𝕄) ⊢ iprop(∃ f, ⌜src.view.read (Elt F) f = w⌝ ∗ (src.view.loc c ↦[src.view.set]{fullShare} f)) from by unfold At; exact BI.Entails.refl _) $$ Hs
  icases Hs' with ⟨%fs, %hs, Hs⟩
  have hmono : (iprop((dst.view.loc c ↦[dst.view.set]{fullShare} (dst.view.write (Elt F) fd (ReadAs.same.apply (src.view.read (Elt F) fs)) Finset.univ))
      ∗ (src.view.loc c ↦[src.view.set]{fullShare} fs)) : sProp 𝕄) ⊢ iprop(At c dst w ∗ At c src w) := by
    refine BI.sep_mono ((At_intro c dst _).trans (Entails.of_eq ?_)) ((At_intro c src _).trans (Entails.of_eq ?_))
    · rw [View.read_write_univ, ReadAs.apply_same, hs]
    · rw [hs]
  iapply (Transfers.wp_dmaLocal countersEmb 𝒱₀ c none (via := .same) (default : HIx 1) N hN hN0 (Finset.Subset.refl _)) $$ [Hs Hd Hv]
  · isplitl [Hs]; · iexact Hs
    isplitl [Hd]; · iexact Hd
    iexact Hv
  iintro Hfl
  iapply Hk
  iapply (Transfers.Flight_mono countersEmb c hmono) $$ Hfl

/-- The whole table, as the body slices it. -/
abbrev tAll : Memref sig .scVector .hbm S100000x128 .f32 :=
  (tV).slice (Rect.unit (s := S100000x128) ![0, 0] S100000x128.size inb_S100000x128_S100000x128_0_0) (fun _ => rfl)

omit [FloatOps F] in
theorem tAll_emb (x : S100000x128.Idx) : (tAll).view.emb x = x := by
  funext a
  refine Fin.ext ?_
  match a with
  | 0 => show 0 + 1 * (x 0).val = _; omega
  | 1 => show 0 + 1 * (x 1).val = _; omega
omit [FloatOps F] in
theorem tAll_set : (tAll).view.set = Finset.univ := by
  refine Finset.eq_univ_iff_forall.mpr fun x => ?_
  rw [← tAll_emb x]; exact Finset.mem_map_of_mem _ (Finset.mem_univ x)
omit [FloatOps F] in
theorem tAll_read (f : S100000x128.Idx → Elt F .f32) : (tAll).view.read (Elt F) f = f := by
  funext x; show f ((tAll).view.emb x) = f x; rw [tAll_emb]

omit [FloatOps F] in
/-- What a stream over a list of indices below the table's height delivers. -/
theorem pay_eq (fT : S100000x128.Idx → Elt F .f32) (w : S128.Idx → BitVec 32) (hin : ∀ x, (w x).toNat < 100000) :
    SparseCore.gatherPayload gathers_S100000x128_S128x128 fT (SparseCore.rows (si := S128) (F := F) w rfl hin) = gPay fT w := by
  funext x
  unfold SparseCore.gatherPayload gPay
  congr 1
  funext a
  match a with
  | 0 =>
    refine Fin.ext ?_
    show _ = (w _).toNat % 100000
    rw [Nat.mod_eq_of_lt (hin _)]
    show (w _).toNat = _
    congr 2
    refine (Equiv.symm_apply_eq _).mpr (Fin.ext ?_)
    rw [Shape.rowMajor_val_one]; rfl
  | 1 => rfl

omit [FloatOps F] in
theorem pay_at (fT : S100000x128.Idx → Elt F .f32) (w v : S128.Idx → BitVec 32) (hv : v = w) (hn : S128.numel = S128x128.size gathers_S100000x128_S128x128.axis')
    (hin : ∀ x, (v x).toNat < S100000x128.size gathers_S100000x128_S128x128.axis) :
    SparseCore.gatherPayload gathers_S100000x128_S128x128 ((tAll).view.read (Elt F) fT) (SparseCore.rows (si := S128) (F := F) v hn hin) = gPay fT w := by
  subst hv
  rw [tAll_read]
  exact pay_eq fT v hin

theorem gN_eq {M : Memref sig .scVector .vmem S128x128 .f32} (N : ℕ) (hM : ∀ h : S100000x128.Gathers 0 S128x128,
    ∑ j, (M.slice (S128x128.rowRect h.axis' j) (S128x128.stride_rowRect h.axis' j)).view.dmaCredit = N) :
    ∑ j, (M.slice (S128x128.rowRect gathers_S100000x128_S128x128.axis' j) (S128x128.stride_rowRect gathers_S100000x128_S128x128.axis' j)).view.dmaCredit = N := hM _

/-- A stream of table rows into a row buffer, over a list of 128 indices, on a cell at zero. -/
theorem step_gather {d : Dev nD} {i : Fin τ.nSC} {j : Fin τ.nSub} {α : Type} {Q : α → sProp 𝕄}
    {rM : Memref sig .scVector .vmem S128x128 .f32} {offs : Memref sig .scVector .vmem S128 .i32} {sem : DmaSem sig}
    {hp : (V d i j : Thread nD τ).2.kind = .scVector} {hn : S128.numel = S128x128.size gathers_S100000x128_S128x128.axis'}
    {hsrc : (tAll).view.WordExact} {he : (EltTy.f32).bits = 32} {hsp : Space.hbm = .hbm ∨ Space.hbm = .shared} {hr : S100000x128.StreamRows 0}
    {k : PUnit → Prog (TpuEff nD τ sig (Elt F) Λ₀ (V d i j).2) α}
    {q : PosShare TreeShare} {fT : Buf (Elt F) (tLoc d)} {w : S128.Idx → BitVec 32} {r : S128x128.Idx → Elt F .f32} (N : ℕ)
    (hN : ∑ j, (rM.slice (S128x128.rowRect gathers_S100000x128_S128x128.axis' j) (S128x128.stride_rowRect gathers_S100000x128_S128x128.axis' j)).view.dmaCredit = N)
    (hin : ∀ x, (w x).toNat < 100000) (hw : gPay fT w = r) :
    iprop((tLoc d ↦{q} fT) ∗ Own (V d i j) rM ∗ At (V d i j) offs w ∗ semVal ((V d i j : Thread nD τ), SemLoc.dma sem) 0)
      ⊢ iprop((Transfers.Flight countersEmb (V d i j) (.dma sem) (default : HIx 1) N
            iprop(At (V d i j) rM r ∗ (tLoc d ↦{q} fT) ∗ At (V d i j) offs w) -∗ wp frame (wpE defs₀ 𝒱₀ (V d i j) none) Set.univ (k ⟨⟩) Q)
          -∗ wp frame (wpE defs₀ 𝒱₀ (V d i j) none) Set.univ
            (SparseCore.enqueueIndirectGather hp (tAll) rM gathers_S100000x128_S128x128 offs hn sem hsrc he hsp hr >>= k) Q) := by
  subst hw
  unfold Own
  iintro ⟨Ht, ⟨%fd, Hd⟩, Ho, Hv⟩ Hk
  ihave Ho' := (show (At (V d i j) offs w : sProp 𝕄) ⊢ iprop(∃ f, ⌜offs.view.read (Elt F) f = w⌝ ∗ (offs.view.loc (V d i j) ↦[offs.view.set]{fullShare} f)) from by unfold At; exact BI.Entails.refl _) $$ Ho
  icases Ho' with ⟨%fo, %ho, Ho⟩
  have hin' : ∀ x, (offs.view.read (Elt F) fo x).toNat < S100000x128.size gathers_S100000x128_S128x128.axis := by
    intro x; rw [ho]; exact hin x
  have ht : (tLoc d ↦{q} fT : sProp 𝕄) = ((tAll).view.loc (V d i j) ↦[(tAll).view.set]{q} fT) := by rw [tAll_set]
  have hmono : (iprop((rM.view.loc (V d i j) ↦[rM.view.set]{fullShare} (rM.view.write (Elt F) fd (SparseCore.gatherPayload gathers_S100000x128_S128x128
        ((tAll).view.read (Elt F) fT) (SparseCore.rows (offs.view.read (Elt F) fo) hn hin')) Finset.univ))
      ∗ ((tAll).view.loc (V d i j) ↦[(tAll).view.set]{q} fT) ∗ (offs.view.loc (V d i j) ↦[offs.view.set]{fullShare} fo)) : sProp 𝕄)
      ⊢ iprop(At (V d i j) rM (gPay fT w) ∗ (tLoc d ↦{q} fT) ∗ At (V d i j) offs w) := by
    refine BI.sep_mono ((At_intro (V d i j) rM _).trans (Entails.of_eq ?_)) (BI.sep_mono (Entails.of_eq ht.symm) ((At_intro (V d i j) offs _).trans (Entails.of_eq ?_)))
    · exact congrArg (At (V d i j) rM) ((View.read_write_univ _ _).trans (pay_at fT w _ ho hn hin'))
    · rw [ho]
  ihave Ht' := (Entails.of_eq ht) $$ Ht
  iapply (SparseCore.wp_indirectGatherLocal countersEmb 𝒱₀ (V d i j) none (hg := gathers_S100000x128_S128x128) (default : HIx 1) N hN (by decide) hin') $$ [Ht' Hd Ho Hv]
  · isplitl [Ht']; · iexact Ht'
    isplitl [Hd]; · iexact Hd
    isplitl [Ho]; · iexact Ho
    iexact Hv
  iintro Hfl
  iapply Hk
  iapply (Transfers.Flight_mono countersEmb (V d i j) hmono) $$ Hfl

end Steps

end Cert.Proof.Kernel
end
-- ==== Proof.Kernel.Cols.lean ====
/-
  The task's windows by columns: which of its index windows and result blocks it holds at a point of its loop, the
  transfers it has in flight, and the index buffer by its four lists.
-/
module

public import proofs.«01_k».proof.Proof.Kernel.Tile

@[expose] public section

noncomputable section

namespace Cert.Proof.Kernel

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.KernelIdeal.main_v2_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x128 EltTy.f32)
local notation "aV" => (Memref.whole Cert.KernelIdeal.cc1_scratch0 : Memref Cert.KernelIdeal.sig Kind.scVector Space.vmem Cert.KernelIdeal.S512 EltTy.i32)
local notation "bV" => (Memref.whole Cert.KernelIdeal.cc1_scratch1 : Memref Cert.KernelIdeal.sig Kind.scVector Space.vmem Cert.KernelIdeal.S512 EltTy.i32)

/-- One member of a separating product over a finite type, taken out or put back. -/
theorem fam_take {I : Type} [Fintype I] [DecidableEq I] (j : I) {Φ Ψ : I → sProp 𝕄} (h : ∀ i, i ≠ j → Φ i = Ψ i) (hj : Ψ j = iprop(emp)) :
    bigSep Finset.univ Φ = iprop(Φ j ∗ bigSep Finset.univ Ψ) := by
  rw [BI.bigSep_erase (Finset.mem_univ j) (Φ := Φ), BI.bigSep_erase (Finset.mem_univ j) (Φ := Ψ), hj]
  have : bigSep (Finset.univ.erase j) Φ = bigSep (Finset.univ.erase j) Ψ := BI.bigSep_congr fun i hi => h i (Finset.ne_of_mem_erase hi)
  rw [this]
  exact congrArg (fun X : sProp 𝕄 => iprop(Φ j ∗ X)) (BI.Entails.antisymm (BI.emp_sep.2) (BI.emp_sep.1))

section

variable (d : Dev nD) (L : grid1.Coords) (fT : S100000x128.Idx → Elt F .f32) (fI : S819200.Idx → BitVec 32)

/-- What the index windows hold: the flat index array's entries. -/
abbrev iRd {j : ℕ} (hj : j < 50) : S512.Idx → Elt F .i32 := (iWin L hj).view.read (Elt F) (fI : Buf (Elt F) ((iWin L hj).view.loc (VT d L)))
/-- What the result's blocks hold in the end. -/
abbrev oRd {j u : ℕ} (hj : j < 50) (hu : u < 4) : S128x128.Idx → Elt F .f32 :=
  (oBlk L hj hu).view.read (Elt F) (gRows fT fI : Buf (Elt F) ((oBlk L hj hu).view.loc (VT d L)))

/-- Index window `n`, if there is one. -/
def iW (n : ℕ) : sProp 𝕄 := if h : n < 50 then At (VT d L) (iWin L h) (iRd L fI h) else iprop(emp)
/-- The task's index windows but `a` and `b`. -/
def iFam (a b : ℕ) : sProp 𝕄 := bigSep Finset.univ fun j : Fin 50 => if j.val = a ∨ j.val = b then iprop(emp) else At (VT d L) (iWin L j.isLt) (iRd L fI j.isLt)

theorem iFam_swap (a b : ℕ) : (iFam d L fI a b : sProp 𝕄) = iFam d L fI b a := by
  unfold iFam; simp only [or_comm]

theorem iFam_take (a n : ℕ) (hn : n ≠ a) (b : ℕ) (hb : 50 ≤ b) : (iFam d L fI a b : sProp 𝕄) = iprop(iW d L fI n ∗ iFam d L fI a n) := by
  unfold iW
  by_cases h : n < 50
  · rw [dif_pos h]
    unfold iFam
    rw [fam_take (⟨n, h⟩ : Fin 50) (Ψ := fun j : Fin 50 => if j.val = a ∨ j.val = n then iprop(emp) else At (VT d L) (iWin L j.isLt) (iRd L fI j.isLt))]
    · rw [if_neg]; show ¬(n = a ∨ n = b); omega
    · intro i hi
      have hi' : i.val ≠ n := fun e => hi (Fin.ext e)
      have hib : i.val ≠ b := by have := i.isLt; omega
      simp only [hi', hib]
    · exact if_pos (Or.inr rfl)
  · rw [dif_neg h]
    refine Eq.trans ?_ (BI.Entails.antisymm (BI.emp_sep.2) (BI.emp_sep.1))
    unfold iFam
    congr 1; funext i
    have h1 : i.val ≠ n := by have := i.isLt; omega
    have h2 : i.val ≠ b := by have := i.isLt; omega
    simp only [h1, h2]

/-- The four blocks of column `j`, holding anything. -/
def own4 {j : ℕ} (hj : j < 50) : sProp 𝕄 :=
  iprop(Own (VT d L) (oBlk L hj (show 0 < 4 by decide)) ∗ Own (VT d L) (oBlk L hj (show 1 < 4 by decide)) ∗ Own (VT d L) (oBlk L hj (show 2 < 4 by decide)) ∗ Own (VT d L) (oBlk L hj (show 3 < 4 by decide)))
/-- One block of column `j`, gathered. -/
def oDone {j u : ℕ} (hj : j < 50) (hu : u < 4) : sProp 𝕄 := At (VT d L) (oBlk L hj hu) (oRd L fT fI hj hu)
/-- The four blocks of column `j`, gathered. -/
def done4 {j : ℕ} (hj : j < 50) : sProp 𝕄 :=
  iprop(oDone d L fT fI hj (show 0 < 4 by decide) ∗ oDone d L fT fI hj (show 1 < 4 by decide) ∗ oDone d L fT fI hj (show 2 < 4 by decide) ∗ oDone d L fT fI hj (show 3 < 4 by decide))
/-- The task's blocks of the result but those of columns `lo … hi - 1`: gathered below `lo`. -/
def oFam (lo hi : ℕ) : sProp 𝕄 := bigSep Finset.univ fun j : Fin 50 =>
  if j.val < lo then done4 d L fT fI j.isLt else if j.val < hi then iprop(emp) else own4 d L j.isLt

theorem oFam_take (lo n : ℕ) (hlo : lo ≤ n) (h : n < 50) : (oFam d L fT fI lo n : sProp 𝕄) = iprop(own4 d L h ∗ oFam d L fT fI lo (n + 1)) := by
  unfold oFam
  rw [fam_take (⟨n, h⟩ : Fin 50) (Ψ := fun j : Fin 50 => if j.val < lo then done4 d L fT fI j.isLt else if j.val < n + 1 then iprop(emp) else own4 d L j.isLt)]
  · rw [if_neg (show ¬ n < lo by omega), if_neg (show ¬ n < n by omega)]
  · intro i hi
    have hi' : i.val ≠ n := fun e => hi (Fin.ext e)
    split_ifs <;> first | rfl | (exfalso; omega)
  · show (if n < lo then _ else if n < n + 1 then _ else _) = _
    rw [if_neg (by omega), if_pos (by omega)]
theorem oFam_put (n hi : ℕ) (hhi : n < hi) (h : n < 50) : iprop(done4 d L fT fI h ∗ oFam d L fT fI n hi) = (oFam d L fT fI (n + 1) hi : sProp 𝕄) := by
  unfold oFam
  symm
  rw [fam_take (⟨n, h⟩ : Fin 50) (Ψ := fun j : Fin 50 => if j.val < n then done4 d L fT fI j.isLt else if j.val < hi then iprop(emp) else own4 d L j.isLt)]
  · rw [if_pos (show n < n + 1 by omega)]
  · intro i hi
    have hi' : i.val ≠ n := fun e => hi (Fin.ext e)
    split_ifs <;> first | rfl | (exfalso; omega)
  · show (if n < n then _ else if n < hi then _ else _) = _
    rw [if_neg (by omega), if_pos (by omega)]

/-- The block a copy out delivered, when `n` columns had been issued before the wait. -/
def oBack (n : ℕ) {u : ℕ} (hu : u < 4) : sProp 𝕄 := if h : 0 < n ∧ n - 1 < 50 then oDone d L fT fI h.2 hu else iprop(emp)
theorem oFam_back (n : ℕ) (h : n ≤ 50) :
    iprop(oBack d L fT fI n (show 0 < 4 by decide) ∗ oBack d L fT fI n (show 1 < 4 by decide) ∗ oBack d L fT fI n (show 2 < 4 by decide) ∗ oBack d L fT fI n (show 3 < 4 by decide) ∗ oFam d L fT fI (n - 1) n)
      ⊢ (oFam d L fT fI n n : sProp 𝕄) := by
  unfold oBack
  cases n with
  | zero =>
    simp only [dif_neg (show ¬(0 < 0 ∧ 0 - 1 < 50) by omega)]
    iintro ⟨-, -, -, -, H⟩; iexact H
  | succ n =>
    simp only [dif_pos (show 0 < n + 1 ∧ n + 1 - 1 < 50 by omega)]
    iintro ⟨H0, H1, H2, H3, H⟩
    iapply (Entails.of_eq (oFam_put d L fT fI n (n + 1) (by omega) (by omega)))
    unfold done4
    isplitl [H0 H1 H2 H3]
    · isplitl [H0]; · iexact H0
      isplitl [H1]; · iexact H1
      isplitl [H2]; · iexact H2
      iexact H3
    · iexact H

/-! ## Transfers in flight -/

/-- The fetch of index window `n` into `M`, if there is a window `n`; else the buffer and the cell at rest. -/
def ixFl (M : Memref sig .scVector .vmem S512 .i32) (sem : DmaSem sig) (n : ℕ) : sProp 𝕄 :=
  if h : n < 50 then Transfers.Flight countersEmb (VT d L) (.dma sem) (default : HIx 1) (M.view.amount (.dma sem)) iprop(At (VT d L) M (iRd L fI h) ∗ At (VT d L) (iWin L h) (iRd L fI h))
  else iprop(Own (VT d L) M ∗ semVal ((VT d L, SemLoc.dma sem) : GSem nD τ sig) 0)

/-- What one copy of 128 rows into the result credits. -/
abbrev oN : ℕ := sig.dmaCredit .scVector (Kind.table .scVector .hbm) (oV).view.buf S128x128 .f32

/-- The copy out of row buffer `u` of the last column issued, if one was. -/
def outFl (M : Memref sig .scVector .vmem S128x128 .f32) (sem : DmaSem sig) (n : ℕ) {u : ℕ} (hu : u < 4) : sProp 𝕄 :=
  if h : 0 < n ∧ n - 1 < 50 then Transfers.Flight countersEmb (VT d L) (.dma sem) (default : HIx 1) oN iprop(oDone d L fT fI h.2 hu ∗ At (VT d L) M (oRd L fT fI h.2 hu))
  else iprop(Own (VT d L) M ∗ semVal ((VT d L, SemLoc.dma sem) : GSem nD τ sig) 0)

/-! ## An index buffer by its four lists -/

theorem inbSl (u : Fin 4) : ∀ a, (![128 * u.val] : Fin 1 → ℕ) a + S128.size a ≤ S512.size a := by
  intro a; match a with | 0 => show 128 * u.val + 128 ≤ 512; omega
/-- List `u` of an index buffer. -/
abbrev sl (M : Memref sig .scVector .vmem S512 .i32) (u : Fin 4) : Memref sig .scVector .vmem S128 .i32 :=
  M.slice (Rect.unit (s := S512) ![128 * u.val] S128.size (inbSl u)) (fun _ => rfl)
/-- What list `u` of an index buffer holding `w` holds. -/
def slRd (w : S512.Idx → BitVec 32) (u : Fin 4) : S128.Idx → BitVec 32 :=
  fun x => w (fun a => match a with | ⟨0, _⟩ => (⟨128 * u.val + (x 0).val, by have := (x 0).isLt; have := u.isLt; change (x 0).val < 128 at *; omega⟩ : Fin 512))

theorem sl_union (M : Memref sig .scVector .vmem S512 .i32) : Finset.univ.biUnion (fun u : Fin 4 => (sl M u).view.set) = M.view.set := by
  have h : ∀ u, (sl M u).view.set = (Rect.unit (s := S512) ![128 * u.val] S128.size (inbSl u)).set.map M.view.emb := fun u => View.set_slice _ _
  simp only [h]
  ext y
  simp only [Finset.mem_biUnion, Finset.mem_univ, true_and, Finset.mem_map, Rect.mem_set_unit, View.set]
  constructor
  · rintro ⟨u, x, -, rfl⟩; exact ⟨x, rfl⟩
  · rintro ⟨x, rfl⟩
    have hx : (x 0).val < 512 := (x 0).isLt
    refine ⟨⟨(x 0).val / 128, by omega⟩, x, fun a => ?_, rfl⟩
    match a with | 0 => show 128 * ((x 0).val / 128) ≤ (x 0).val ∧ (x 0).val < 128 * ((x 0).val / 128) + 128; omega
theorem sl_disj (M : Memref sig .scVector .vmem S512 .i32) (u v : Fin 4) (h : u ≠ v) : Disjoint (sl M u).view.set (sl M v).view.set := by
  rw [show (sl M u).view.set = _ from View.set_slice _ _, show (sl M v).view.set = _ from View.set_slice _ _]
  rw [Finset.disjoint_map, Finset.disjoint_left]
  intro x hx hy
  have h1 := Rect.mem_set_unit.mp hx 0
  have h2 := Rect.mem_set_unit.mp hy 0
  change 128 * u.val ≤ (x 0).val ∧ (x 0).val < 128 * u.val + 128 at h1
  change 128 * v.val ≤ (x 0).val ∧ (x 0).val < 128 * v.val + 128 at h2
  exact h (Fin.ext (by omega))

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- An index buffer at what was fetched is its four lists. -/
theorem sl_split (i : Fin τ.nSC) (j : Fin τ.nSub) (M : Memref sig .scVector .vmem S512 .i32) (w : S512.Idx → Elt F .i32) :
    (At (V d i j) M w : sProp 𝕄) ⊢ iprop(At (V d i j) (sl M 0) (slRd w 0) ∗ At (V d i j) (sl M 1) (slRd w 1) ∗ At (V d i j) (sl M 2) (slRd w 2) ∗ At (V d i j) (sl M 3) (slRd w 3)) := by
  unfold At
  iintro ⟨%f, %hf, H⟩
  subst hf
  ihave H' := (Entails.of_eq ((congrArg (fun S => (M.view.loc (V d i j) ↦[S]{fullShare} f : sProp 𝕄)) (sl_union M).symm).trans
    ((pointsTo_biUnion _ _ (fun u _ v _ h => sl_disj M u v h)).trans (fin4 _)))) $$ H
  have hr : ∀ u, (sl M u).view.read (Elt F) f = slRd (M.view.read (Elt F) f) u := by
    intro u; funext x
    show _ = M.view.read (Elt F) f _
    rw [show (sl M u).view.read (Elt F) f x = M.view.read (Elt F) f ((Rect.unit (s := S512) ![128 * u.val] S128.size (inbSl u)).emb x) from rfl]
    congr 1; funext a
    match a with | 0 => exact Fin.ext (show 128 * u.val + 1 * (x 0).val = 128 * u.val + (x 0).val by omega)
  icases H' with ⟨H0, H1, H2, H3⟩
  isplitl [H0]; · iexists f; isplitr; · ipureintro; exact hr 0
                  iexact H0
  isplitl [H1]; · iexists f; isplitr; · ipureintro; exact hr 1
                  iexact H1
  isplitl [H2]; · iexists f; isplitr; · ipureintro; exact hr 2
                  iexact H2
  iexists f; isplitr; · ipureintro; exact hr 3
  iexact H3

/-- Four disjoint parts of an array, each at its own contents, are the whole at some contents. -/
theorem join4 {ℓ : Loc nD τ sig} (K : Fin 4 → Finset (Idx ℓ)) (S : Finset (Idx ℓ)) (hS : Finset.univ.biUnion K = S) (hK : ∀ u v, u ≠ v → Disjoint (K u) (K v)) :
    iprop((∃ f : Buf (Elt F) ℓ, ℓ ↦[K 0]{fullShare} f) ∗ (∃ f : Buf (Elt F) ℓ, ℓ ↦[K 1]{fullShare} f) ∗ (∃ f : Buf (Elt F) ℓ, ℓ ↦[K 2]{fullShare} f)
      ∗ (∃ f : Buf (Elt F) ℓ, ℓ ↦[K 3]{fullShare} f)) ⊢ (iprop(∃ g : Buf (Elt F) ℓ, ℓ ↦[S]{fullShare} g) : sProp 𝕄) := by
  subst hS
  iintro ⟨⟨%f0, H0⟩, ⟨%f1, H1⟩, ⟨%f2, H2⟩, ⟨%f3, H3⟩⟩
  have key := (Entails.of_eq (fin4 (fun u : Fin 4 => (ℓ ↦[K u]{fullShare} (![f0, f1, f2, f3] : Fin 4 → Buf (Elt F) ℓ) u : sProp 𝕄))).symm).trans
    (pointsTo_biUnion_join Finset.univ K ![f0, f1, f2, f3] f0 (fun u _ v _ h => hK u v h))
  ihave H := key $$ [H0 H1 H2 H3]
  · isplitl [H0]; · iexact H0
    isplitl [H1]; · iexact H1
    isplitl [H2]; · iexact H2
    iexact H3
  icases H with ⟨%g, -, H⟩
  iexists g; iexact H

/-- Four lists of an index buffer are the buffer. -/
theorem sl_join (i : Fin τ.nSC) (j : Fin τ.nSub) (M : Memref sig .scVector .vmem S512 .i32) :
    iprop(Own (V d i j) (sl M 0) ∗ Own (V d i j) (sl M 1) ∗ Own (V d i j) (sl M 2) ∗ Own (V d i j) (sl M 3)) ⊢ (Own (V d i j) M : sProp 𝕄) :=
  join4 (ℓ := M.view.loc (V d i j)) (fun u => (sl M u).view.set) M.view.set (sl_union M) (sl_disj M)

/-! ## The rows a list names are the result's -/

theorem slRd_lt (F : FTy → Type) (hI : ∀ x, (fI x).toNat < 100000) {j : ℕ} (hj : j < 50) (u : Fin 4) : ∀ x, (slRd (iRd (F := F) L fI hj) u x).toNat < 100000 := by
  intro x; unfold slRd; exact hI _

theorem pay_block {j : ℕ} (hj : j < 50) (u : Fin 4) : gPay fT (slRd (iRd (F := F) L fI hj) u) = oRd L fT fI hj u.isLt := by
  funext x
  have e : oRd L fT fI hj u.isLt x = gRows fT fI ((Rect.unit (s := S819200x128) (oOff L j u) S128x128.size (oOff_inb L hj u.isLt)).emb x) := rfl
  rw [e]
  unfold gPay gRows
  congr 1; funext a
  match a with
  | 0 =>
    show rowIx (slRd (iRd (F := F) L fI hj) u _) = rowIx (fI _)
    congr 1
    unfold slRd
    show fI ((Rect.unit (s := S819200) (iOff L j) S512.size (iOff_inb L hj)).emb _) = fI _
    congr 1; funext b
    match b with
    | 0 =>
      refine Fin.ext ?_
      show 1024 * (L 1).val + 512 * (L 0).val + 16384 * j + 1 * (128 * u.val + (x 0).val) = 1024 * (L 1).val + 512 * (L 0).val + 16384 * j + 128 * u.val + 1 * (x 0).val
      omega
  | 1 =>
    refine Fin.ext ?_
    show (x 1).val = 0 + 1 * (x 1).val
    omega

end

end Cert.Proof.Kernel
end
-- ==== Proof.Kernel.Trip.lean ====
/-
  One trip of the task's loop: two columns gathered and sent out, the next two columns' indices fetched.
-/
module

public import proofs.«01_k».proof.Proof.Kernel.Cols

@[expose] public section

set_option maxRecDepth 16384
set_option pp.maxSteps 100

noncomputable section

namespace Cert.Proof.Kernel

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.KernelIdeal.main_v2_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x128 EltTy.f32)
local notation "aV" => (Memref.whole Cert.KernelIdeal.cc1_scratch0 : Memref Cert.KernelIdeal.sig Kind.scVector Space.vmem Cert.KernelIdeal.S512 EltTy.i32)
local notation "bV" => (Memref.whole Cert.KernelIdeal.cc1_scratch1 : Memref Cert.KernelIdeal.sig Kind.scVector Space.vmem Cert.KernelIdeal.S512 EltTy.i32)
local notation "r0V" => (Memref.whole Cert.KernelIdeal.cc1_scratch2 : Memref Cert.KernelIdeal.sig Kind.scVector Space.vmem Cert.KernelIdeal.S128x128 EltTy.f32)
local notation "r1V" => (Memref.whole Cert.KernelIdeal.cc1_scratch3 : Memref Cert.KernelIdeal.sig Kind.scVector Space.vmem Cert.KernelIdeal.S128x128 EltTy.f32)
local notation "r2V" => (Memref.whole Cert.KernelIdeal.cc1_scratch4 : Memref Cert.KernelIdeal.sig Kind.scVector Space.vmem Cert.KernelIdeal.S128x128 EltTy.f32)
local notation "r3V" => (Memref.whole Cert.KernelIdeal.cc1_scratch5 : Memref Cert.KernelIdeal.sig Kind.scVector Space.vmem Cert.KernelIdeal.S128x128 EltTy.f32)

variable [FloatOps F] (d : Dev nD) (L : grid1.Coords) (fT : S100000x128.Idx → Elt F .f32) (fI : S819200.Idx → BitVec 32)
  (qs : Fin 4 → PosShare TreeShare) (O : CellTallies nD τ sig (HIx 1)) (W : Waits sig (HIx 1))

/-- The counter of one of the task's cells, at zero. -/
abbrev z (sem : DmaSem sig) : sProp 𝕄 := semVal ((VT d L, SemLoc.dma sem) : GSem nD τ sig) 0

/-- The task's four read tokens of the table. -/
abbrev tok (u : Fin 4) : sProp 𝕄 := tLoc d ↦{qs u} (fT : Buf (Elt F) (tLoc d))

/-- What the task holds before trip `p`. -/
def inv (p : ℕ) (_ : Unit) : sProp 𝕄 :=
  iprop(LV (F := F)
    ∗ (tok d fT qs 0 ∗ tok d fT qs 1 ∗ tok d fT qs 2 ∗ tok d fT qs 3)
    ∗ (z d L cc1_scratch8.sem ∗ z d L cc1_scratch9.sem ∗ z d L cc1_scratch10.sem ∗ z d L cc1_scratch11.sem)
    ∗ ixFl d L fI (aV) cc1_scratch6.sem (2 * p) ∗ ixFl d L fI (bV) cc1_scratch7.sem (2 * p + 1)
    ∗ (outFl d L fT fI (r0V) cc1_scratch12.sem (2 * p) (show 0 < 4 by decide) ∗ outFl d L fT fI (r1V) cc1_scratch13.sem (2 * p) (show 1 < 4 by decide)
      ∗ outFl d L fT fI (r2V) cc1_scratch14.sem (2 * p) (show 2 < 4 by decide) ∗ outFl d L fT fI (r3V) cc1_scratch15.sem (2 * p) (show 3 < 4 by decide))
    ∗ iFam d L fI (2 * p) (2 * p + 1) ∗ oFam d L fT fI (2 * p - 1) (2 * p)
    ∗ OW (VT d L) O W)

/-! ## The conditional steps -/

/-- A conditional step of a program: what it does when the condition holds, nothing otherwise. -/
def ifDo {E : Type → Type} (cond : Prop) [Decidable cond] (P : cond → Prog E PUnit) : Prog E PUnit := if h : cond then P h else .ret ⟨⟩

/-- A program that repeats its continuation in both branches of a conditional is the conditional step, then the continuation. -/
theorem ifDo_join {E : Type → Type} {α : Type} {cond : Prop} [Decidable cond] (e : cond → E PUnit) (k : Prog E α) :
    (if h : cond then Prog.op (e h) (fun _ => k) else k) = ifDo cond (fun h => Prog.op (e h) fun _ => .ret ⟨⟩) >>= fun _ => k := by
  unfold ifDo
  split_ifs <;> rfl

theorem step_if {α : Type} {Q : α → sProp 𝕄} {cond : Prop} [Decidable cond] {P : cond → Prog (TpuEff nD τ sig (Elt F) Λ₀ (VT d L).2) PUnit}
    {k : PUnit → Prog (TpuEff nD τ sig (Elt F) Λ₀ (VT d L).2) α} {R R' : sProp 𝕄}
    (h1 : ∀ h : cond, R ⊢ iprop((R' -∗ wp frame (wpE defs₀ 𝒱₀ (VT d L) none) Set.univ (k ⟨⟩) Q) -∗ wp frame (wpE defs₀ 𝒱₀ (VT d L) none) Set.univ (P h >>= k) Q))
    (h0 : ¬cond → R ⊢ R') :
    R ⊢ iprop((R' -∗ wp frame (wpE defs₀ 𝒱₀ (VT d L) none) Set.univ (k ⟨⟩) Q)
      -∗ wp frame (wpE defs₀ 𝒱₀ (VT d L) none) Set.univ (ifDo cond P >>= k) Q) := by
  unfold ifDo
  by_cases h : cond
  · rw [dif_pos h]; exact h1 h
  · rw [dif_neg h, Prog.bind_ret]
    refine (h0 h).trans ?_
    iintro HR Hk
    iapply Hk
    iexact HR

/-- The wait for a row buffer's last copy out, made when a column was issued before. -/
theorem step_ifout (hO : ∀ g, O g none = 0) {α : Type} {Q : α → sProp 𝕄} {cond : Prop} [Decidable cond] {P : cond → Prog (TpuEff nD τ sig (Elt F) Λ₀ (VT d L).2) PUnit}
    {k : PUnit → Prog (TpuEff nD τ sig (Elt F) Λ₀ (VT d L).2) α} {M : Memref sig .scVector .vmem S128x128 .f32} {sem : DmaSem sig} {n u : ℕ} {hu : u < 4}
    (hn : cond ↔ 0 < n) (h50 : n - 1 < 50)
    (hP : ∀ h, ∃ (srcw : Memref sig .scVector .vmem S128x128 .f32) (dstw : Memref sig .scVector .hbm S128x128 .f32) (hs : srcw.view.WordExact) (hd : dstw.view.WordExact),
      P h = .op (.waitDma2 sem srcw dstw hs hd) (fun _ => .ret ⟨⟩) ∧ dstw.view.dmaCredit = oN) :
    iprop(LV (F := F) ∗ outFl d L fT fI M sem n hu ∗ OW (VT d L) O W)
      ⊢ iprop((iprop(oBack d L fT fI n hu ∗ Own (VT d L) M ∗ z d L sem ∗ OW (VT d L) O W) -∗ wp frame (wpE defs₀ 𝒱₀ (VT d L) none) Set.univ (k ⟨⟩) Q)
        -∗ wp frame (wpE defs₀ 𝒱₀ (VT d L) none) Set.univ (ifDo cond P >>= k) Q) := by
  refine step_if d L (fun h => ?_) (fun h => ?_)
  · obtain ⟨srcw, dstw, hs, hd, hPe, hN⟩ := hP h
    have h' : 0 < n ∧ n - 1 < 50 := ⟨hn.mp h, h50⟩
    unfold outFl oBack
    rw [hPe, dif_pos h', dif_pos h']
    iintro ⟨#Hlv, Hfl, HO⟩ Hk
    iapply (step_wait (VT d L) O W hO hN) $$ [Hfl HO]
    · isplitr; · iexact Hlv
      isplitl [Hfl]; · iexact Hfl
      iexact HO
    iintro ⟨⟨Hb, Hr⟩, Hz, HO⟩
    iapply Hk
    isplitl [Hb]; · iexact Hb
    isplitl [Hr]; · iapply (At_Own (VT d L) M _) $$ Hr
    isplitl [Hz]; · iexact Hz
    iexact HO
  · have h' : ¬(0 < n ∧ n - 1 < 50) := fun e => h (hn.mpr e.1)
    unfold outFl oBack
    rw [dif_neg h', dif_neg h']
    iintro ⟨-, ⟨Hr, Hz⟩, HO⟩
    isplitr; · iempintro
    isplitl [Hr]; · iexact Hr
    isplitl [Hz]; · iexact Hz
    iexact HO

/-- The fetch of a later column's indices, made when there is such a column. -/
theorem step_ifix {α : Type} {Q : α → sProp 𝕄} {cond : Prop} [Decidable cond] {P : cond → Prog (TpuEff nD τ sig (Elt F) Λ₀ (VT d L).2) PUnit}
    {k : PUnit → Prog (TpuEff nD τ sig (Elt F) Λ₀ (VT d L).2) α} {M : Memref sig .scVector .vmem S512 .i32} {sem : DmaSem sig} {n : ℕ}
    (hn : cond ↔ n < 50) (hM : 0 < M.view.amount (.dma sem))
    (hP : ∀ h, ∃ (off : Fin 1 → ℕ) (inb : ∀ a, off a + S512.size a ≤ S819200.size a)
      (hs : ((iV).slice (Rect.unit (s := S819200) off S512.size inb) (fun _ => rfl)).view.WordExact) (hd : M.view.WordExact) (ht : DmaTarget.Typed (nD := nD) Space.hbm (.dma sem) (.here M : DmaTarget nD τ sig (VT d L).2 .vmem S512 .i32)),
      P h = .op (.enqueueDma ((iV).slice (Rect.unit (s := S819200) off S512.size inb) (fun _ => rfl)) (.here (p := (VT d L).2) M) (.dma sem) hs hd ht) (fun _ => .ret ⟨⟩) ∧ off = iOff L n) :
    iprop(iW d L fI n ∗ Own (VT d L) M ∗ z d L sem)
      ⊢ iprop((ixFl d L fI M sem n -∗ wp frame (wpE defs₀ 𝒱₀ (VT d L) none) Set.univ (k ⟨⟩) Q)
        -∗ wp frame (wpE defs₀ 𝒱₀ (VT d L) none) Set.univ (ifDo cond P >>= k) Q) := by
  refine step_if d L (fun h => ?_) (fun h => ?_)
  · obtain ⟨off, inb, hs, hd, ht, hPe, ho⟩ := hP h
    have h' : n < 50 := hn.mp h
    unfold ixFl iW
    rw [hPe, dif_pos h', dif_pos h']
    exact step_dma (VT d L) (iWin_of L h' ho inb) rfl _ rfl hM
  · have h' : ¬(n < 50) := fun e => h (hn.mpr e)
    unfold ixFl iW
    rw [dif_neg h', dif_neg h']
    iintro ⟨-, Hr, Hz⟩
    isplitl [Hr]; · iexact Hr
    iexact Hz

/-- The wait for a column's indices. -/
theorem step_ixwait (hO : ∀ g, O g none = 0) {α : Type} {Q : α → sProp 𝕄} {k : PUnit → Prog (TpuEff nD τ sig (Elt F) Λ₀ (VT d L).2) α}
    {M : Memref sig .scVector .vmem S512 .i32} {sem : DmaSem sig} {n : ℕ} (hn : n < 50) (hM : M.view.dmaCredit = M.view.amount (.dma sem))
    {srcw : Memref sig .scVector .hbm S512 .i32} {hs : srcw.view.WordExact} {hd : M.view.WordExact} :
    iprop(LV (F := F) ∗ ixFl d L fI M sem n ∗ OW (VT d L) O W)
      ⊢ iprop((iprop(At (VT d L) M (iRd L fI hn) ∗ iW d L fI n ∗ z d L sem ∗ OW (VT d L) O W) -∗ wp frame (wpE defs₀ 𝒱₀ (VT d L) none) Set.univ (k ⟨⟩) Q)
        -∗ wp frame (wpE defs₀ 𝒱₀ (VT d L) none) Set.univ (.op (.waitDma2 sem srcw M hs hd) k) Q) := by
  unfold ixFl iW
  rw [dif_pos hn, dif_pos hn]
  iintro ⟨#Hlv, Hfl, HO⟩ Hk
  iapply (step_wait (VT d L) O W hO hM) $$ [Hfl HO]
  · isplitr; · iexact Hlv
    isplitl [Hfl]; · iexact Hfl
    iexact HO
  iintro ⟨⟨Ha, Hw⟩, Hz, HO⟩
  iapply Hk
  isplitl [Ha]; · iexact Ha
  isplitl [Hw]; · iexact Hw
  isplitl [Hz]; · iexact Hz
  iexact HO

/-- The wait for a gather. -/
theorem step_gwait (hO : ∀ g, O g none = 0) {α : Type} {Q : α → sProp 𝕄} {k : PUnit → Prog (TpuEff nD τ sig (Elt F) Λ₀ (VT d L).2) α} {sem : DmaSem sig}
    {src : Memref sig .scVector .hbm S100000x128 .f32} {M : Memref sig .scVector .vmem S128x128 .f32} {hs : src.view.WordExact} {hd : M.view.WordExact}
    {N : ℕ} (hN : M.view.dmaCredit = N) {R : sProp 𝕄} :
    iprop(LV (F := F) ∗ Transfers.Flight countersEmb (VT d L) (.dma sem) (default : HIx 1) N R ∗ OW (VT d L) O W)
      ⊢ iprop((iprop(R ∗ z d L sem ∗ OW (VT d L) O W) -∗ wp frame (wpE defs₀ 𝒱₀ (VT d L) none) Set.univ (k ⟨⟩) Q)
          -∗ wp frame (wpE defs₀ 𝒱₀ (VT d L) none) Set.univ (SparseCore.waitIndirectGather sem src M hs hd >>= k) Q) := by
  exact step_wait (VT d L) O W hO hN

/-- The copy of a gathered row buffer out to its block. -/
theorem step_out {α : Type} {Q : α → sProp 𝕄} {k : PUnit → Prog (TpuEff nD τ sig (Elt F) Λ₀ (VT d L).2) α} {M : Memref sig .scVector .vmem S128x128 .f32} {sem : DmaSem sig} {n u : ℕ} (hu : u < 4)
    (hn : n < 50) {off : Fin 2 → ℕ} {inb : ∀ a, off a + S128x128.size a ≤ S819200x128.size a} (ho : off = oOff L n u) {hs : M.view.WordExact}
    {hd : ((oV).slice (Rect.unit (s := S819200x128) off S128x128.size inb) (fun _ => rfl)).view.WordExact}
    {ht : DmaTarget.Typed (nD := nD) Space.vmem (.dma sem) (.here ((oV).slice (Rect.unit (s := S819200x128) off S128x128.size inb) (fun _ => rfl)) : DmaTarget nD τ sig (VT d L).2 .hbm S128x128 .f32)} :
    iprop(At (VT d L) M (oRd L fT fI hn hu) ∗ Own (VT d L) (oBlk L hn hu) ∗ z d L sem)
      ⊢ iprop((outFl d L fT fI M sem (n + 1) hu -∗ wp frame (wpE defs₀ 𝒱₀ (VT d L) none) Set.univ (k ⟨⟩) Q)
        -∗ wp frame (wpE defs₀ 𝒱₀ (VT d L) none) Set.univ
          (.op (.enqueueDma M (.here (p := (VT d L).2) ((oV).slice (Rect.unit (s := S819200x128) off S128x128.size inb) (fun _ => rfl))) (.dma sem) hs hd ht) k) Q) := by
  unfold outFl oDone
  rw [dif_pos (show 0 < n + 1 ∧ n + 1 - 1 < 50 by omega)]
  exact step_dma (VT d L) rfl (oBlk_of L hn hu ho inb) oN rfl (by decide)

/-! ## The trip's conditions and offsets -/

omit [FloatOps F] in
theorem trips_eq : k1_t1_loop.trips = 25 := rfl
theorem cond1_iff (t : Fin k1_t1_loop.trips) : k1_cond1 t = 1#1 ↔ 0 < 2 * t.val := by revert t; decide
theorem cond2_iff (t : Fin k1_t1_loop.trips) : k1_cond2 t = 1#1 ↔ 0 < 2 * t.val := by revert t; decide
theorem cond3_iff (t : Fin k1_t1_loop.trips) : k1_cond3 t = 1#1 ↔ 0 < 2 * t.val := by revert t; decide
theorem cond4_iff (t : Fin k1_t1_loop.trips) : k1_cond4 t = 1#1 ↔ 0 < 2 * t.val := by revert t; decide
theorem cond6_iff (t : Fin k1_t1_loop.trips) : k1_cond6 t = 1#1 ↔ 0 < 2 * t.val + 1 := by revert t; decide
theorem cond7_iff (t : Fin k1_t1_loop.trips) : k1_cond7 t = 1#1 ↔ 0 < 2 * t.val + 1 := by revert t; decide
theorem cond8_iff (t : Fin k1_t1_loop.trips) : k1_cond8 t = 1#1 ↔ 0 < 2 * t.val + 1 := by revert t; decide
theorem cond9_iff (t : Fin k1_t1_loop.trips) : k1_cond9 t = 1#1 ↔ 0 < 2 * t.val + 1 := by revert t; decide
theorem cond5_iff (t : Fin k1_t1_loop.trips) : k1_cond5 t = 1#1 ↔ 2 * t.val + 2 < 50 := by revert t; decide
theorem cond10_iff (t : Fin k1_t1_loop.trips) : k1_cond10 t = 1#1 ↔ 2 * t.val + 3 < 50 := by revert t; decide
theorem cond5_off (L : grid1.Coords) (t : Fin k1_t1_loop.trips) : k1_off9 L t = iOff L (2 * t.val + 2) := by
  rw [k1_off9_eq]; unfold iOff; exact congrArg (fun x : ℕ => (![x] : Fin 1 → ℕ)) (by omega)
theorem cond10_off (L : grid1.Coords) (t : Fin k1_t1_loop.trips) : k1_off16 L t = iOff L (2 * t.val + 3) := by
  rw [k1_off16_eq]; unfold iOff; exact congrArg (fun x : ℕ => (![x] : Fin 1 → ℕ)) (by omega)
theorem off8_at (L : grid1.Coords) (t : Fin k1_t1_loop.trips) (r : Fin 4) : k1_off8 L t (BitVec.ofNat 32 (128 * r.val)) = oOff L (2 * t.val) r.val := by
  rw [k1_off8_eq]; unfold oOff; congr 1; omega
theorem off15_at (L : grid1.Coords) (t : Fin k1_t1_loop.trips) (r : Fin 4) : k1_off15 L t (BitVec.ofNat 32 (128 * r.val)) = oOff L (2 * t.val + 1) r.val := by
  rw [k1_off15_eq]; unfold oOff; congr 1; omega
theorem sumN0 : ∀ h : S100000x128.Gathers 0 S128x128, ∑ j, ((r0V).slice (S128x128.rowRect h.axis' j) (S128x128.stride_rowRect h.axis' j)).view.dmaCredit = (r0V).view.dmaCredit := by
  decide
theorem sumN1 : ∀ h : S100000x128.Gathers 0 S128x128, ∑ j, ((r1V).slice (S128x128.rowRect h.axis' j) (S128x128.stride_rowRect h.axis' j)).view.dmaCredit = (r1V).view.dmaCredit := by
  decide
theorem sumN2 : ∀ h : S100000x128.Gathers 0 S128x128, ∑ j, ((r2V).slice (S128x128.rowRect h.axis' j) (S128x128.stride_rowRect h.axis' j)).view.dmaCredit = (r2V).view.dmaCredit := by
  decide
theorem sumN3 : ∀ h : S100000x128.Gathers 0 S128x128, ∑ j, ((r3V).slice (S128x128.rowRect h.axis' j) (S128x128.stride_rowRect h.axis' j)).view.dmaCredit = (r3V).view.dmaCredit := by
  decide
theorem iFam_put (n a : ℕ) (h : n ≠ a) : iprop(iW d L fI n ∗ iFam d L fI n a) ⊢ (iFam d L fI a 99 : sProp 𝕄) := by
  exact Entails.of_eq (by rw [iFam_swap d L fI n a]; exact (iFam_take d L fI a n h 99 (by decide)).symm)

set_option maxHeartbeats 4000000 in
theorem trip (hI : ∀ x, (fI x).toNat < 100000) (hO : ∀ g, O g none = 0) (v2 : BitVec 32) (t : Fin k1_t1_loop.trips) (acc : Unit) :
    inv d L fT fI qs O W t.val acc
    ⊢ wp frame (wpE defs₀ 𝒱₀ (VT d L) none) Set.univ
        (k1_t1_body (F := F) L (tV) (Memref.isWhole_whole _) (iV) (Memref.isWhole_whole _) (oV) (Memref.isWhole_whole _) (aV) (Memref.isWhole_whole _) (bV) (Memref.isWhole_whole _)
          (r0V) (Memref.isWhole_whole _) (r1V) (Memref.isWhole_whole _) (r2V) (Memref.isWhole_whole _) (r3V) (Memref.isWhole_whole _)
          cc1_scratch6 cc1_scratch7 cc1_scratch8 cc1_scratch9 cc1_scratch10 cc1_scratch11 cc1_scratch12 cc1_scratch13 cc1_scratch14 cc1_scratch15 v2 t acc)
        (fun a => inv d L fT fI qs O W (t.val + 1) a) := by
  unfold k1_t1_body
  simp only [k1_part1_eq_skeleton, k1_part2_eq_skeleton, k1_part3_eq_skeleton, k1_part4_eq_skeleton]
  unfold k1_part1_skel k1_part2_skel k1_part3_skel k1_part4_skel
  simp only [Prog.lift, Prog.bind_op, Prog.bind_ret, Prog.pure_eq_ret, Prog.bind_assoc, ifDo_join]
  have ht : t.val < 25 := t.isLt
  have h0 : 2 * t.val < 50 := by omega
  have h1 : 2 * t.val + 1 < 50 := by omega
  unfold inv
  iintro ⟨#Hlv, ⟨Ht0, Ht1, Ht2, Ht3⟩, ⟨Hz0, Hz1, Hz2, Hz3⟩, Hxa, Hxb, ⟨Hf0, Hf1, Hf2, Hf3⟩, Hif, Hof, HO⟩
  -- column 2 * t.val: its indices arrive
  iapply (step_ixwait d L fI O W hO (M := (aV)) (n := 2 * t.val) h0 rfl) $$ [Hxa HO]
  · isplitr; · iexact Hlv
    isplitl [Hxa]; · iexact Hxa
    iexact HO
  iintro ⟨Ha, Hw, Hzx, HO⟩
  ihave Ha' := (sl_split d (cV L) (jV L) (aV) (iRd L fI h0)) $$ Ha
  icases Ha' with ⟨Hs0, Hs1, Hs2, Hs3⟩
  -- row buffer 0: its last copy out has landed; its rows are gathered
  iapply (step_ifout d L fT fI O W hO (M := r0V) (n := 2 * t.val) (hu := show 0 < 4 by decide) (cond1_iff t) (by omega) (fun h => ⟨_, _, _, _, rfl, rfl⟩)) $$ [Hf0 HO]
  · isplitr; · iexact Hlv
    isplitl [Hf0]; · iexact Hf0
    iexact HO
  iintro ⟨Hb0, Hr0, Hzo0, HO⟩
  iapply (step_gather (offs := sl (aV) 0) (q := qs 0) (fT := fT) (w := slRd (iRd (F := F) L fI h0) 0) (r := oRd L fT fI h0 (show 0 < 4 by decide)) (r0V).view.dmaCredit (sumN0 _) (slRd_lt L fI F hI h0 0) (pay_block L fT fI h0 0)) $$ [Ht0 Hr0 Hs0 Hz0]
  · isplitl [Ht0]; · iexact Ht0
    isplitl [Hr0]; · iexact Hr0
    isplitl [Hs0]; · iexact Hs0
    iexact Hz0
  iintro Hg0
  -- row buffer 1: its last copy out has landed; its rows are gathered
  iapply (step_ifout d L fT fI O W hO (M := r1V) (n := 2 * t.val) (hu := show 1 < 4 by decide) (cond2_iff t) (by omega) (fun h => ⟨_, _, _, _, rfl, rfl⟩)) $$ [Hf1 HO]
  · isplitr; · iexact Hlv
    isplitl [Hf1]; · iexact Hf1
    iexact HO
  iintro ⟨Hb1, Hr1, Hzo1, HO⟩
  iapply (step_gather (offs := sl (aV) 1) (q := qs 1) (fT := fT) (w := slRd (iRd (F := F) L fI h0) 1) (r := oRd L fT fI h0 (show 1 < 4 by decide)) (r1V).view.dmaCredit (sumN1 _) (slRd_lt L fI F hI h0 1) (pay_block L fT fI h0 1)) $$ [Ht1 Hr1 Hs1 Hz1]
  · isplitl [Ht1]; · iexact Ht1
    isplitl [Hr1]; · iexact Hr1
    isplitl [Hs1]; · iexact Hs1
    iexact Hz1
  iintro Hg1
  -- row buffer 2: its last copy out has landed; its rows are gathered
  iapply (step_ifout d L fT fI O W hO (M := r2V) (n := 2 * t.val) (hu := show 2 < 4 by decide) (cond3_iff t) (by omega) (fun h => ⟨_, _, _, _, rfl, rfl⟩)) $$ [Hf2 HO]
  · isplitr; · iexact Hlv
    isplitl [Hf2]; · iexact Hf2
    iexact HO
  iintro ⟨Hb2, Hr2, Hzo2, HO⟩
  iapply (step_gather (offs := sl (aV) 2) (q := qs 2) (fT := fT) (w := slRd (iRd (F := F) L fI h0) 2) (r := oRd L fT fI h0 (show 2 < 4 by decide)) (r2V).view.dmaCredit (sumN2 _) (slRd_lt L fI F hI h0 2) (pay_block L fT fI h0 2)) $$ [Ht2 Hr2 Hs2 Hz2]
  · isplitl [Ht2]; · iexact Ht2
    isplitl [Hr2]; · iexact Hr2
    isplitl [Hs2]; · iexact Hs2
    iexact Hz2
  iintro Hg2
  -- row buffer 3: its last copy out has landed; its rows are gathered
  iapply (step_ifout d L fT fI O W hO (M := r3V) (n := 2 * t.val) (hu := show 3 < 4 by decide) (cond4_iff t) (by omega) (fun h => ⟨_, _, _, _, rfl, rfl⟩)) $$ [Hf3 HO]
  · isplitr; · iexact Hlv
    isplitl [Hf3]; · iexact Hf3
    iexact HO
  iintro ⟨Hb3, Hr3, Hzo3, HO⟩
  iapply (step_gather (offs := sl (aV) 3) (q := qs 3) (fT := fT) (w := slRd (iRd (F := F) L fI h0) 3) (r := oRd L fT fI h0 (show 3 < 4 by decide)) (r3V).view.dmaCredit (sumN3 _) (slRd_lt L fI F hI h0 3) (pay_block L fT fI h0 3)) $$ [Ht3 Hr3 Hs3 Hz3]
  · isplitl [Ht3]; · iexact Ht3
    isplitl [Hr3]; · iexact Hr3
    isplitl [Hs3]; · iexact Hs3
    iexact Hz3
  iintro Hg3
  -- the column before is complete
  ihave Hof := (oFam_back d L fT fI (2 * t.val) (by omega)) $$ [Hb0 Hb1 Hb2 Hb3 Hof]
  · isplitl [Hb0]; · iexact Hb0
    isplitl [Hb1]; · iexact Hb1
    isplitl [Hb2]; · iexact Hb2
    isplitl [Hb3]; · iexact Hb3
    iexact Hof
  ihave Hof := (Entails.of_eq (oFam_take d L fT fI (2 * t.val) (2 * t.val) (le_refl _) h0)) $$ Hof
  icases Hof with ⟨Hown, Hof⟩
  unfold own4
  icases Hown with ⟨Hb0, Hb1, Hb2, Hb3⟩
  -- row buffer 0: gathered, and sent out
  iapply (step_gwait d L O W hO (rfl : (r0V).view.dmaCredit = _)) $$ [Hg0 HO]
  · isplitr; · iexact Hlv
    isplitl [Hg0]; · iexact Hg0
    iexact HO
  iintro ⟨⟨Hr0, Ht0, Hs0⟩, Hz0, HO⟩
  iapply (step_out d L fT fI (M := r0V) (n := 2 * t.val) (show 0 < 4 by decide) h0 (off8_at L t 0)) $$ [Hr0 Hb0 Hzo0]
  · isplitl [Hr0]; · iexact Hr0
    isplitl [Hb0]; · iexact Hb0
    iexact Hzo0
  iintro Hf0
  -- row buffer 1: gathered, and sent out
  iapply (step_gwait d L O W hO (rfl : (r1V).view.dmaCredit = _)) $$ [Hg1 HO]
  · isplitr; · iexact Hlv
    isplitl [Hg1]; · iexact Hg1
    iexact HO
  iintro ⟨⟨Hr1, Ht1, Hs1⟩, Hz1, HO⟩
  iapply (step_out d L fT fI (M := r1V) (n := 2 * t.val) (show 1 < 4 by decide) h0 (off8_at L t 1)) $$ [Hr1 Hb1 Hzo1]
  · isplitl [Hr1]; · iexact Hr1
    isplitl [Hb1]; · iexact Hb1
    iexact Hzo1
  iintro Hf1
  -- row buffer 2: gathered, and sent out
  iapply (step_gwait d L O W hO (rfl : (r2V).view.dmaCredit = _)) $$ [Hg2 HO]
  · isplitr; · iexact Hlv
    isplitl [Hg2]; · iexact Hg2
    iexact HO
  iintro ⟨⟨Hr2, Ht2, Hs2⟩, Hz2, HO⟩
  iapply (step_out d L fT fI (M := r2V) (n := 2 * t.val) (show 2 < 4 by decide) h0 (off8_at L t 2)) $$ [Hr2 Hb2 Hzo2]
  · isplitl [Hr2]; · iexact Hr2
    isplitl [Hb2]; · iexact Hb2
    iexact Hzo2
  iintro Hf2
  -- row buffer 3: gathered, and sent out
  iapply (step_gwait d L O W hO (rfl : (r3V).view.dmaCredit = _)) $$ [Hg3 HO]
  · isplitr; · iexact Hlv
    isplitl [Hg3]; · iexact Hg3
    iexact HO
  iintro ⟨⟨Hr3, Ht3, Hs3⟩, Hz3, HO⟩
  iapply (step_out d L fT fI (M := r3V) (n := 2 * t.val) (show 3 < 4 by decide) h0 (off8_at L t 3)) $$ [Hr3 Hb3 Hzo3]
  · isplitl [Hr3]; · iexact Hr3
    isplitl [Hb3]; · iexact Hb3
    iexact Hzo3
  iintro Hf3
  -- the index buffer is whole again, its window back
  ihave Hs0 := (At_Own (VT d L) (sl (aV) 0) _) $$ Hs0
  ihave Hs1 := (At_Own (VT d L) (sl (aV) 1) _) $$ Hs1
  ihave Hs2 := (At_Own (VT d L) (sl (aV) 2) _) $$ Hs2
  ihave Hs3 := (At_Own (VT d L) (sl (aV) 3) _) $$ Hs3
  ihave Ha := (sl_join d (cV L) (jV L) (aV)) $$ [Hs0 Hs1 Hs2 Hs3]
  · isplitl [Hs0]; · iexact Hs0
    isplitl [Hs1]; · iexact Hs1
    isplitl [Hs2]; · iexact Hs2
    iexact Hs3
  ihave Hif := (iFam_put d L fI (2 * t.val) (2 * t.val + 1) (by omega)) $$ [Hw Hif]
  · isplitl [Hw]; · iexact Hw
    iexact Hif
  ihave Hif := (Entails.of_eq (iFam_take d L fI (2 * t.val + 1) (2 * t.val + 2) (by omega) 99 (by omega))) $$ Hif
  icases Hif with ⟨Hw, Hif⟩
  iapply (step_ifix d L fI (M := aV) (n := 2 * t.val + 2) (cond5_iff t) (by decide) (fun h => ⟨_, _, _, _, _, rfl, cond5_off L t⟩)) $$ [Hw Ha Hzx]
  · isplitl [Hw]; · iexact Hw
    isplitl [Ha]; · iexact Ha
    iexact Hzx
  iintro Hxa
  -- column 2 * t.val + 1: its indices arrive
  iapply (step_ixwait d L fI O W hO (M := (bV)) (n := 2 * t.val + 1) h1 rfl) $$ [Hxb HO]
  · isplitr; · iexact Hlv
    isplitl [Hxb]; · iexact Hxb
    iexact HO
  iintro ⟨Ha, Hw, Hzx, HO⟩
  ihave Ha' := (sl_split d (cV L) (jV L) (bV) (iRd L fI h1)) $$ Ha
  icases Ha' with ⟨Hs0, Hs1, Hs2, Hs3⟩
  -- row buffer 0: its last copy out has landed; its rows are gathered
  iapply (step_ifout d L fT fI O W hO (M := r0V) (n := 2 * t.val + 1) (hu := show 0 < 4 by decide) (cond6_iff t) (by omega) (fun h => ⟨_, _, _, _, rfl, rfl⟩)) $$ [Hf0 HO]
  · isplitr; · iexact Hlv
    isplitl [Hf0]; · iexact Hf0
    iexact HO
  iintro ⟨Hb0, Hr0, Hzo0, HO⟩
  iapply (step_gather (offs := sl (bV) 0) (q := qs 0) (fT := fT) (w := slRd (iRd (F := F) L fI h1) 0) (r := oRd L fT fI h1 (show 0 < 4 by decide)) (r0V).view.dmaCredit (sumN0 _) (slRd_lt L fI F hI h1 0) (pay_block L fT fI h1 0)) $$ [Ht0 Hr0 Hs0 Hz0]
  · isplitl [Ht0]; · iexact Ht0
    isplitl [Hr0]; · iexact Hr0
    isplitl [Hs0]; · iexact Hs0
    iexact Hz0
  iintro Hg0
  -- row buffer 1: its last copy out has landed; its rows are gathered
  iapply (step_ifout d L fT fI O W hO (M := r1V) (n := 2 * t.val + 1) (hu := show 1 < 4 by decide) (cond7_iff t) (by omega) (fun h => ⟨_, _, _, _, rfl, rfl⟩)) $$ [Hf1 HO]
  · isplitr; · iexact Hlv
    isplitl [Hf1]; · iexact Hf1
    iexact HO
  iintro ⟨Hb1, Hr1, Hzo1, HO⟩
  iapply (step_gather (offs := sl (bV) 1) (q := qs 1) (fT := fT) (w := slRd (iRd (F := F) L fI h1) 1) (r := oRd L fT fI h1 (show 1 < 4 by decide)) (r1V).view.dmaCredit (sumN1 _) (slRd_lt L fI F hI h1 1) (pay_block L fT fI h1 1)) $$ [Ht1 Hr1 Hs1 Hz1]
  · isplitl [Ht1]; · iexact Ht1
    isplitl [Hr1]; · iexact Hr1
    isplitl [Hs1]; · iexact Hs1
    iexact Hz1
  iintro Hg1
  -- row buffer 2: its last copy out has landed; its rows are gathered
  iapply (step_ifout d L fT fI O W hO (M := r2V) (n := 2 * t.val + 1) (hu := show 2 < 4 by decide) (cond8_iff t) (by omega) (fun h => ⟨_, _, _, _, rfl, rfl⟩)) $$ [Hf2 HO]
  · isplitr; · iexact Hlv
    isplitl [Hf2]; · iexact Hf2
    iexact HO
  iintro ⟨Hb2, Hr2, Hzo2, HO⟩
  iapply (step_gather (offs := sl (bV) 2) (q := qs 2) (fT := fT) (w := slRd (iRd (F := F) L fI h1) 2) (r := oRd L fT fI h1 (show 2 < 4 by decide)) (r2V).view.dmaCredit (sumN2 _) (slRd_lt L fI F hI h1 2) (pay_block L fT fI h1 2)) $$ [Ht2 Hr2 Hs2 Hz2]
  · isplitl [Ht2]; · iexact Ht2
    isplitl [Hr2]; · iexact Hr2
    isplitl [Hs2]; · iexact Hs2
    iexact Hz2
  iintro Hg2
  -- row buffer 3: its last copy out has landed; its rows are gathered
  iapply (step_ifout d L fT fI O W hO (M := r3V) (n := 2 * t.val + 1) (hu := show 3 < 4 by decide) (cond9_iff t) (by omega) (fun h => ⟨_, _, _, _, rfl, rfl⟩)) $$ [Hf3 HO]
  · isplitr; · iexact Hlv
    isplitl [Hf3]; · iexact Hf3
    iexact HO
  iintro ⟨Hb3, Hr3, Hzo3, HO⟩
  iapply (step_gather (offs := sl (bV) 3) (q := qs 3) (fT := fT) (w := slRd (iRd (F := F) L fI h1) 3) (r := oRd L fT fI h1 (show 3 < 4 by decide)) (r3V).view.dmaCredit (sumN3 _) (slRd_lt L fI F hI h1 3) (pay_block L fT fI h1 3)) $$ [Ht3 Hr3 Hs3 Hz3]
  · isplitl [Ht3]; · iexact Ht3
    isplitl [Hr3]; · iexact Hr3
    isplitl [Hs3]; · iexact Hs3
    iexact Hz3
  iintro Hg3
  -- the column before is complete
  ihave Hof := (oFam_back d L fT fI (2 * t.val + 1) (by omega)) $$ [Hb0 Hb1 Hb2 Hb3 Hof]
  · isplitl [Hb0]; · iexact Hb0
    isplitl [Hb1]; · iexact Hb1
    isplitl [Hb2]; · iexact Hb2
    isplitl [Hb3]; · iexact Hb3
    iexact Hof
  ihave Hof := (Entails.of_eq (oFam_take d L fT fI (2 * t.val + 1) (2 * t.val + 1) (le_refl _) h1)) $$ Hof
  icases Hof with ⟨Hown, Hof⟩
  unfold own4
  icases Hown with ⟨Hb0, Hb1, Hb2, Hb3⟩
  -- row buffer 0: gathered, and sent out
  iapply (step_gwait d L O W hO (rfl : (r0V).view.dmaCredit = _)) $$ [Hg0 HO]
  · isplitr; · iexact Hlv
    isplitl [Hg0]; · iexact Hg0
    iexact HO
  iintro ⟨⟨Hr0, Ht0, Hs0⟩, Hz0, HO⟩
  iapply (step_out d L fT fI (M := r0V) (n := 2 * t.val + 1) (show 0 < 4 by decide) h1 (off15_at L t 0)) $$ [Hr0 Hb0 Hzo0]
  · isplitl [Hr0]; · iexact Hr0
    isplitl [Hb0]; · iexact Hb0
    iexact Hzo0
  iintro Hf0
  -- row buffer 1: gathered, and sent out
  iapply (step_gwait d L O W hO (rfl : (r1V).view.dmaCredit = _)) $$ [Hg1 HO]
  · isplitr; · iexact Hlv
    isplitl [Hg1]; · iexact Hg1
    iexact HO
  iintro ⟨⟨Hr1, Ht1, Hs1⟩, Hz1, HO⟩
  iapply (step_out d L fT fI (M := r1V) (n := 2 * t.val + 1) (show 1 < 4 by decide) h1 (off15_at L t 1)) $$ [Hr1 Hb1 Hzo1]
  · isplitl [Hr1]; · iexact Hr1
    isplitl [Hb1]; · iexact Hb1
    iexact Hzo1
  iintro Hf1
  -- row buffer 2: gathered, and sent out
  iapply (step_gwait d L O W hO (rfl : (r2V).view.dmaCredit = _)) $$ [Hg2 HO]
  · isplitr; · iexact Hlv
    isplitl [Hg2]; · iexact Hg2
    iexact HO
  iintro ⟨⟨Hr2, Ht2, Hs2⟩, Hz2, HO⟩
  iapply (step_out d L fT fI (M := r2V) (n := 2 * t.val + 1) (show 2 < 4 by decide) h1 (off15_at L t 2)) $$ [Hr2 Hb2 Hzo2]
  · isplitl [Hr2]; · iexact Hr2
    isplitl [Hb2]; · iexact Hb2
    iexact Hzo2
  iintro Hf2
  -- row buffer 3: gathered, and sent out
  iapply (step_gwait d L O W hO (rfl : (r3V).view.dmaCredit = _)) $$ [Hg3 HO]
  · isplitr; · iexact Hlv
    isplitl [Hg3]; · iexact Hg3
    iexact HO
  iintro ⟨⟨Hr3, Ht3, Hs3⟩, Hz3, HO⟩
  iapply (step_out d L fT fI (M := r3V) (n := 2 * t.val + 1) (show 3 < 4 by decide) h1 (off15_at L t 3)) $$ [Hr3 Hb3 Hzo3]
  · isplitl [Hr3]; · iexact Hr3
    isplitl [Hb3]; · iexact Hb3
    iexact Hzo3
  iintro Hf3
  -- the index buffer is whole again, its window back
  ihave Hs0 := (At_Own (VT d L) (sl (bV) 0) _) $$ Hs0
  ihave Hs1 := (At_Own (VT d L) (sl (bV) 1) _) $$ Hs1
  ihave Hs2 := (At_Own (VT d L) (sl (bV) 2) _) $$ Hs2
  ihave Hs3 := (At_Own (VT d L) (sl (bV) 3) _) $$ Hs3
  ihave Ha := (sl_join d (cV L) (jV L) (bV)) $$ [Hs0 Hs1 Hs2 Hs3]
  · isplitl [Hs0]; · iexact Hs0
    isplitl [Hs1]; · iexact Hs1
    isplitl [Hs2]; · iexact Hs2
    iexact Hs3
  ihave Hif := (iFam_put d L fI (2 * t.val + 1) (2 * t.val + 2) (by omega)) $$ [Hw Hif]
  · isplitl [Hw]; · iexact Hw
    iexact Hif
  ihave Hif := (Entails.of_eq (iFam_take d L fI (2 * t.val + 2) (2 * t.val + 3) (by omega) 99 (by omega))) $$ Hif
  icases Hif with ⟨Hw, Hif⟩
  iapply (step_ifix d L fI (M := bV) (n := 2 * t.val + 3) (cond10_iff t) (by decide) (fun h => ⟨_, _, _, _, _, rfl, cond10_off L t⟩)) $$ [Hw Ha Hzx]
  · isplitl [Hw]; · iexact Hw
    isplitl [Ha]; · iexact Ha
    iexact Hzx
  iintro Hxb
  sl_step
  rw [show 2 * (t.val + 1) = 2 * t.val + 2 by omega, show 2 * t.val + 2 + 1 = 2 * t.val + 3 by omega, show 2 * t.val + 2 - 1 = 2 * t.val + 1 by omega]
  isplitr; · iexact Hlv
  isplitl [Ht0 Ht1 Ht2 Ht3]
  · isplitl [Ht0]; · iexact Ht0
    isplitl [Ht1]; · iexact Ht1
    isplitl [Ht2]; · iexact Ht2
    iexact Ht3
  isplitl [Hz0 Hz1 Hz2 Hz3]
  · isplitl [Hz0]; · iexact Hz0
    isplitl [Hz1]; · iexact Hz1
    isplitl [Hz2]; · iexact Hz2
    iexact Hz3
  isplitl [Hxa]; · iexact Hxa
  isplitl [Hxb]; · iexact Hxb
  isplitl [Hf0 Hf1 Hf2 Hf3]
  · isplitl [Hf0]; · iexact Hf0
    isplitl [Hf1]; · iexact Hf1
    isplitl [Hf2]; · iexact Hf2
    iexact Hf3
  isplitl [Hif]; · iexact Hif
  isplitl [Hof]; · iexact Hof
  iexact HO

end Cert.Proof.Kernel
end
-- ==== Proof.Kernel.Body.lean ====
/-
  The whole task of one vector subcore: the first two fetches, the loop, the last waits.
-/
module

public import proofs.«01_k».proof.Proof.Kernel.Trip

@[expose] public section

set_option maxRecDepth 16384
set_option pp.maxSteps 100

noncomputable section

namespace Cert.Proof.Kernel

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.KernelIdeal.main_v2_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x128 EltTy.f32)
local notation "aV" => (Memref.whole Cert.KernelIdeal.cc1_scratch0 : Memref Cert.KernelIdeal.sig Kind.scVector Space.vmem Cert.KernelIdeal.S512 EltTy.i32)
local notation "bV" => (Memref.whole Cert.KernelIdeal.cc1_scratch1 : Memref Cert.KernelIdeal.sig Kind.scVector Space.vmem Cert.KernelIdeal.S512 EltTy.i32)
local notation "r0V" => (Memref.whole Cert.KernelIdeal.cc1_scratch2 : Memref Cert.KernelIdeal.sig Kind.scVector Space.vmem Cert.KernelIdeal.S128x128 EltTy.f32)
local notation "r1V" => (Memref.whole Cert.KernelIdeal.cc1_scratch3 : Memref Cert.KernelIdeal.sig Kind.scVector Space.vmem Cert.KernelIdeal.S128x128 EltTy.f32)
local notation "r2V" => (Memref.whole Cert.KernelIdeal.cc1_scratch4 : Memref Cert.KernelIdeal.sig Kind.scVector Space.vmem Cert.KernelIdeal.S128x128 EltTy.f32)
local notation "r3V" => (Memref.whole Cert.KernelIdeal.cc1_scratch5 : Memref Cert.KernelIdeal.sig Kind.scVector Space.vmem Cert.KernelIdeal.S128x128 EltTy.f32)

/-! ## The task's own cells and buffers -/

/-- A separating product over `n + 1` indices: the first, and the rest. -/
theorem fam_succ {n : ℕ} (Φ : Fin (n + 1) → sProp 𝕄) : bigSep Finset.univ Φ = iprop(Φ 0 ∗ bigSep Finset.univ fun i : Fin n => Φ i.succ) := by
  rw [Fin.univ_succ, Finset.cons_eq_insert, BI.bigSep_insert (by simp [Fin.succ_ne_zero]), BI.bigSep_map]
  rfl
theorem fam_zero (Φ : Fin 0 → sProp 𝕄) : bigSep Finset.univ Φ = iprop(emp) := by
  rw [Finset.univ_eq_empty, BI.bigSep_empty]; rfl

/-- The members of a family that `f` names, and the rest. -/
theorem fam_image {I J : Type} [DecidableEq I] [DecidableEq J] {s : Finset I} {t : Finset J} {f : J → I} (inj : Set.InjOn f t) (sub : ∀ j ∈ t, f j ∈ s)
    {Φ : I → sProp 𝕄} : bigSep s Φ = iprop(bigSep t (fun j => Φ (f j)) ∗ bigSep (s \ t.image f) Φ) := by
  rw [BI.bigSep_sdiff_split (s := s) (t := t.image f) (fun x hx => by obtain ⟨j, hj, rfl⟩ := Finset.mem_image.mp hx; exact sub j hj),
    bigSep_image_of_injOn inj]
  rfl

/-- The task's ten transfer cells. -/
def cell : Fin 10 → DmaSem sig
  | 0 => cc1_scratch6.sem | 1 => cc1_scratch7.sem | 2 => cc1_scratch8.sem | 3 => cc1_scratch9.sem | 4 => cc1_scratch10.sem
  | 5 => cc1_scratch11.sem | 6 => cc1_scratch12.sem | 7 => cc1_scratch13.sem | 8 => cc1_scratch14.sem | 9 => cc1_scratch15.sem
theorem cell_inj : Function.Injective cell := by decide
theorem cell_scoped : ∀ i, (SemLoc.dma (cell i) : SemLoc sig).isScoped .scVector = true := by decide
/-- The task's six scratch buffers. -/
def buf : Fin 6 → Ref sig .scVector
  | 0 => cc1_scratch0 | 1 => cc1_scratch1 | 2 => cc1_scratch2 | 3 => cc1_scratch3 | 4 => cc1_scratch4 | 5 => cc1_scratch5
theorem buf_inj : Function.Injective buf := by decide

section
variable (d : Dev nD) (L : grid1.Coords)

theorem ownSems_split : ∃ R : sProp 𝕄, (ownSems0 (VT d L) : sProp 𝕄)
    = iprop(bigSep Finset.univ (fun i : Fin 10 => (semVal ((VT d L, SemLoc.dma (cell i)) : GSem nD τ sig) 0 : sProp 𝕄)) ∗ R) := by
  unfold SparseCore.Cfg.ownSems0
  exact ⟨_, fam_image (t := Finset.univ) (f := fun i : Fin 10 => ((VT d L, SemLoc.dma (cell i)) : GSem nD τ sig))
    (fun i _ j _ e => cell_inj (by have := (Prod.mk.inj e).2; exact SemLoc.dma.inj this))
    (fun i _ => mem_ownCells.mpr ⟨rfl, cell_scoped i⟩)⟩

theorem ownBufs_split : ∃ R : sProp 𝕄, (ownBufs (VT d L) : sProp 𝕄)
    = iprop(bigSep Finset.univ (fun i : Fin 6 => (iprop(∃ f, (VT d L).loc (buf i) ↦{fullShare} f) : sProp 𝕄)) ∗ R) := by
  unfold SparseCore.Cfg.ownBufs
  exact ⟨_, fam_image (t := Finset.univ) (f := fun i : Fin 6 => (VT d L).2.devRef (buf i))
    (fun i _ j _ e => buf_inj (Proc.devRef_injective _ e))
    (fun i _ => SparseCore.Cfg.mem_ownRefs_of_owner (p := Proc.scVector (cV L) (jV L)) (b := (Proc.scVector (cV L) (jV L)).devRef (buf i)) (match i with | 0 => rfl | 1 => rfl | 2 => rfl | 3 => rfl | 4 => rfl | 5 => rfl))⟩

theorem own_0 : (Own (VT d L) (aV) : sProp 𝕄) = iprop(∃ f, (VT d L).loc (buf 0) ↦{fullShare} f) := by
  unfold Own; rw [show (aV).view.set = Finset.univ from View.set_whole _]; rfl
theorem own_1 : (Own (VT d L) (bV) : sProp 𝕄) = iprop(∃ f, (VT d L).loc (buf 1) ↦{fullShare} f) := by
  unfold Own; rw [show (bV).view.set = Finset.univ from View.set_whole _]; rfl
theorem own_2 : (Own (VT d L) (r0V) : sProp 𝕄) = iprop(∃ f, (VT d L).loc (buf 2) ↦{fullShare} f) := by
  unfold Own; rw [show (r0V).view.set = Finset.univ from View.set_whole _]; rfl
theorem own_3 : (Own (VT d L) (r1V) : sProp 𝕄) = iprop(∃ f, (VT d L).loc (buf 3) ↦{fullShare} f) := by
  unfold Own; rw [show (r1V).view.set = Finset.univ from View.set_whole _]; rfl
theorem own_4 : (Own (VT d L) (r2V) : sProp 𝕄) = iprop(∃ f, (VT d L).loc (buf 4) ↦{fullShare} f) := by
  unfold Own; rw [show (r2V).view.set = Finset.univ from View.set_whole _]; rfl
theorem own_5 : (Own (VT d L) (r3V) : sProp 𝕄) = iprop(∃ f, (VT d L).loc (buf 5) ↦{fullShare} f) := by
  unfold Own; rw [show (r3V).view.set = Finset.univ from View.set_whole _]; rfl

theorem bufs_own : (bigSep Finset.univ (fun i : Fin 6 => (iprop(∃ f, (VT d L).loc (buf i) ↦{fullShare} f) : sProp 𝕄)) : sProp 𝕄)
    = iprop(Own (VT d L) (aV) ∗ Own (VT d L) (bV) ∗ Own (VT d L) (r0V) ∗ Own (VT d L) (r1V) ∗ Own (VT d L) (r2V) ∗ Own (VT d L) (r3V) ∗ emp) := by
  rw [fam_succ, fam_succ, fam_succ, fam_succ, fam_succ, fam_succ, fam_zero, own_0, own_1, own_2, own_3, own_4, own_5]
  rfl

end

section
variable [FloatOps F] (d : Dev nD) (L : grid1.Coords) (fT : S100000x128.Idx → Elt F .f32) (fI : S819200.Idx → BitVec 32)
  (qs : Fin 4 → PosShare TreeShare) (O : CellTallies nD τ sig (HIx 1)) (W : Waits sig (HIx 1))

theorem cells_z : (bigSep Finset.univ (fun i : Fin 10 => (semVal ((VT d L, SemLoc.dma (cell i)) : GSem nD τ sig) 0 : sProp 𝕄)) : sProp 𝕄)
    = iprop(z d L cc1_scratch6.sem ∗ z d L cc1_scratch7.sem ∗ z d L cc1_scratch8.sem ∗ z d L cc1_scratch9.sem ∗ z d L cc1_scratch10.sem
      ∗ z d L cc1_scratch11.sem ∗ z d L cc1_scratch12.sem ∗ z d L cc1_scratch13.sem ∗ z d L cc1_scratch14.sem ∗ z d L cc1_scratch15.sem ∗ emp) := by
  rw [fam_succ, fam_succ, fam_succ, fam_succ, fam_succ, fam_succ, fam_succ, fam_succ, fam_succ, fam_succ, fam_zero]
  rfl

/-- What the task starts from: its read tokens of the table, its windows of the indices, its blocks of the result. -/
def GO : sProp 𝕄 := iprop((tok d fT qs 0 ∗ tok d fT qs 1 ∗ tok d fT qs 2 ∗ tok d fT qs 3) ∗ iFam d L fI 99 99 ∗ oFam d L fT fI 0 0)
/-- What it ends with: the same, every block gathered. -/
def TD : sProp 𝕄 := iprop((tok d fT qs 0 ∗ tok d fT qs 1 ∗ tok d fT qs 2 ∗ tok d fT qs 3) ∗ iFam d L fI 99 99 ∗ oFam d L fT fI 50 50)

/-- The wait for a row buffer's last copy out, at the task's end. -/
theorem step_outwait (hO : ∀ g, O g none = 0) {α : Type} {Q : α → sProp 𝕄} {k : PUnit → Prog (TpuEff nD τ sig (Elt F) Λ₀ (VT d L).2) α}
    {M : Memref sig .scVector .vmem S128x128 .f32} {sem : DmaSem sig} {n u : ℕ} {hu : u < 4} (hn : 0 < n ∧ n - 1 < 50)
    {srcw : Memref sig .scVector .vmem S128x128 .f32} {dstw : Memref sig .scVector .hbm S128x128 .f32} {hs : srcw.view.WordExact} {hd : dstw.view.WordExact}
    (hN : dstw.view.dmaCredit = oN) :
    iprop(LV (F := F) ∗ outFl d L fT fI M sem n hu ∗ OW (VT d L) O W)
      ⊢ iprop((iprop(oBack d L fT fI n hu ∗ Own (VT d L) M ∗ z d L sem ∗ OW (VT d L) O W) -∗ wp frame (wpE defs₀ 𝒱₀ (VT d L) none) Set.univ (k ⟨⟩) Q)
        -∗ wp frame (wpE defs₀ 𝒱₀ (VT d L) none) Set.univ (.op (.waitDma2 sem srcw dstw hs hd) k) Q) := by
  unfold outFl oBack
  rw [dif_pos hn, dif_pos hn]
  iintro ⟨#Hlv, Hfl, HO⟩ Hk
  iapply (step_wait (VT d L) O W hO hN) $$ [Hfl HO]
  · isplitr; · iexact Hlv
    isplitl [Hfl]; · iexact Hfl
    iexact HO
  iintro ⟨⟨Hb, Hr⟩, Hz, HO⟩
  iapply Hk
  isplitl [Hb]; · iexact Hb
  isplitl [Hr]; · iapply (At_Own (VT d L) M _) $$ Hr
  isplitl [Hz]; · iexact Hz
  iexact HO

theorem step_ixdma {α : Type} {Q : α → sProp 𝕄} {k : PUnit → Prog (TpuEff nD τ sig (Elt F) Λ₀ (VT d L).2) α}
    {M : Memref sig .scVector .vmem S512 .i32} {sem : DmaSem sig} {n : ℕ} (hn : n < 50) (hM : 0 < M.view.amount (.dma sem))
    {off : Fin 1 → ℕ} (ho : off = iOff L n) {inb : ∀ a, off a + S512.size a ≤ S819200.size a}
    {hs : ((iV).slice (Rect.unit (s := S819200) off S512.size inb) (fun _ => rfl)).view.WordExact} {hd : M.view.WordExact}
    {ht : DmaTarget.Typed (nD := nD) Space.hbm (.dma sem) (.here M : DmaTarget nD τ sig (VT d L).2 .vmem S512 .i32)} :
    iprop(iW d L fI n ∗ Own (VT d L) M ∗ z d L sem)
      ⊢ iprop((ixFl d L fI M sem n -∗ wp frame (wpE defs₀ 𝒱₀ (VT d L) none) Set.univ (k ⟨⟩) Q)
        -∗ wp frame (wpE defs₀ 𝒱₀ (VT d L) none) Set.univ
          (.op (.enqueueDma ((iV).slice (Rect.unit (s := S819200) off S512.size inb) (fun _ => rfl)) (.here (p := (VT d L).2) M) (.dma sem) hs hd ht) k) Q) := by
  unfold ixFl iW
  rw [dif_pos hn, dif_pos hn]
  exact step_dma (VT d L) (iWin_of L hn ho inb) rfl _ rfl hM

theorem off1_at : k1_off1 L = iOff L 0 := by rw [k1_off1_eq]; unfold iOff; exact congrArg (fun x : ℕ => (![x] : Fin 1 → ℕ)) (by omega)
theorem off2_at : k1_off2 L = iOff L 1 := by rw [k1_off2_eq]; unfold iOff; exact congrArg (fun x : ℕ => (![x] : Fin 1 → ℕ)) (by omega)

theorem outFl_rest (M : Memref sig .scVector .vmem S128x128 .f32) (sem : DmaSem sig) {u : ℕ} (hu : u < 4) :
    (outFl d L fT fI M sem 0 hu : sProp 𝕄) = iprop(Own (VT d L) M ∗ z d L sem) := by
  unfold outFl; rw [dif_neg (by omega)]
theorem ixFl_rest (M : Memref sig .scVector .vmem S512 .i32) (sem : DmaSem sig) {n : ℕ} (hn : ¬n < 50) :
    (ixFl d L fI M sem n : sProp 𝕄) = iprop(Own (VT d L) M ∗ z d L sem) := by
  unfold ixFl; rw [dif_neg hn]

theorem iFam_none : (iFam d L fI (2 * 25) (2 * 25 + 1) : sProp 𝕄) = iFam d L fI 99 99 := by
  unfold iFam
  congr 1; funext j
  have := j.isLt
  rw [if_neg (by omega), if_neg (by omega)]

set_option maxHeartbeats 4000000 in
/-- The task on one vector subcore. -/
theorem tile_body (hF : (K (F := F)).Facts) (hI : ∀ x, (fI x).toNat < 100000) (hO : ∀ g, O g none = 0) :
    iprop(LV (F := F) ∗ emp ∗ GO d L fT fI qs ∗ scopedBufs (VT d L) ∗ scopedSems0 (VT d L) ∗ owes (VT d L) O W)
      ⊢ wp frame (wpE (defs₀ (F := F)) 𝒱₀ (VT d L) none) Set.univ
          (cc1__gather_kernel (F := F) L (tV) (Memref.isWhole_whole _) (iV) (Memref.isWhole_whole _) (oV) (Memref.isWhole_whole _) (aV) (Memref.isWhole_whole _) (bV) (Memref.isWhole_whole _)
            (r0V) (Memref.isWhole_whole _) (r1V) (Memref.isWhole_whole _) (r2V) (Memref.isWhole_whole _) (r3V) (Memref.isWhole_whole _)
            cc1_scratch6 cc1_scratch7 cc1_scratch8 cc1_scratch9 cc1_scratch10 cc1_scratch11 cc1_scratch12 cc1_scratch13 cc1_scratch14 cc1_scratch15)
          fun _ => iprop(TD d L fT fI qs ∗ scopedBufs (VT d L) ∗ scopedSems0 (VT d L)
            ∗ ∃ W', ⌜∀ p ∈ W', p ∈ W ∨ p.2 = none⌝ ∗ owes (VT d L) O W') := by
  obtain ⟨Rs, hRs⟩ := ownSems_split (F := F) d L
  obtain ⟨Rb, hRb⟩ := ownBufs_split (F := F) d L
  simp only [cc1__gather_kernel_eq_skeleton]; unfold cc1__gather_kernel_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), hRs, hRb, bufs_own, cells_z]
  unfold GO TD
  iintro ⟨#Hlv, -, ⟨⟨Ht0, Ht1, Ht2, Ht3⟩, Hif, Hof⟩, ⟨⟨Ha, Hb, Hr0, Hr1, Hr2, Hr3, -⟩, Hbufs⟩, ⟨⟨Hza, Hzb, Hz0, Hz1, Hz2, Hz3, Hy0, Hy1, Hy2, Hy3, -⟩, Hsems⟩, HO⟩
  ihave Hif := (Entails.of_eq (iFam_take d L fI 99 0 (by decide) 99 (by decide))) $$ Hif
  icases Hif with ⟨Hw, Hif⟩
  iapply (step_ixdma d L fI (M := aV) (n := 0) (by decide) (by decide) (off1_at L)) $$ [Hw Ha Hza]
  · isplitl [Hw]; · iexact Hw
    isplitl [Ha]; · iexact Ha
    iexact Hza
  iintro Hxa
  ihave Hif := (Entails.of_eq ((iFam_swap d L fI 99 0).trans (iFam_take d L fI 0 1 (by decide) 99 (by decide)))) $$ Hif
  icases Hif with ⟨Hw, Hif⟩
  iapply (step_ixdma d L fI (M := bV) (n := 1) (by decide) (by decide) (off2_at L)) $$ [Hw Hb Hzb]
  · isplitl [Hw]; · iexact Hw
    isplitl [Hb]; · iexact Hb
    iexact Hzb
  iintro Hxb
  sl_for (inv d L fT fI qs O W) $$ [Ht0 Ht1 Ht2 Ht3 Hif Hof Hr0 Hr1 Hr2 Hr3 Hz0 Hz1 Hz2 Hz3 Hy0 Hy1 Hy2 Hy3 Hxa Hxb HO]
  case region =>
    intro k acc
    exact trip d L fT fI qs O W hI hO _ k acc
  · unfold inv
    rw [outFl_rest, outFl_rest, outFl_rest, outFl_rest]
    isplitr; · iexact Hlv
    isplitl [Ht0 Ht1 Ht2 Ht3]
    · isplitl [Ht0]; · iexact Ht0
      isplitl [Ht1]; · iexact Ht1
      isplitl [Ht2]; · iexact Ht2
      iexact Ht3
    isplitl [Hz0 Hz1 Hz2 Hz3]
    · isplitl [Hz0]; · iexact Hz0
      isplitl [Hz1]; · iexact Hz1
      isplitl [Hz2]; · iexact Hz2
      iexact Hz3
    isplitl [Hxa]; · iexact Hxa
    isplitl [Hxb]; · iexact Hxb
    isplitl [Hr0 Hr1 Hr2 Hr3 Hy0 Hy1 Hy2 Hy3]
    · isplitl [Hr0 Hy0]; · isplitl [Hr0] <;> iassumption
      isplitl [Hr1 Hy1]; · isplitl [Hr1] <;> iassumption
      isplitl [Hr2 Hy2]; · isplitl [Hr2] <;> iassumption
      isplitl [Hr3] <;> iassumption
    isplitl [Hif]; · iexact Hif
    isplitl [Hof]; · iexact Hof
    unfold OW
    iexists W
    isplitr; · ipureintro; exact fun p hp => Or.inl hp
    iexact HO
  iintro %_ HI
  ihave HI := (show inv d L fT fI qs O W k1_t1_loop.trips _ ⊢ inv d L fT fI qs O W 25 () from BI.Entails.refl _) $$ HI
  unfold inv
  icases HI with ⟨-, ⟨Ht0, Ht1, Ht2, Ht3⟩, ⟨Hz0, Hz1, Hz2, Hz3⟩, Hxa, Hxb, ⟨Hf0, Hf1, Hf2, Hf3⟩, Hif, Hof, HO⟩
  ihave Hxa := (Entails.of_eq (ixFl_rest d L fI (aV) cc1_scratch6.sem (n := 2 * 25) (by decide))) $$ Hxa
  ihave Hxb := (Entails.of_eq (ixFl_rest d L fI (bV) cc1_scratch7.sem (n := 2 * 25 + 1) (by decide))) $$ Hxb
  icases Hxa with ⟨Ha, Hza⟩
  icases Hxb with ⟨Hb, Hzb⟩
  iapply (step_outwait d L fT fI O W hO (M := r0V) (n := 2 * 25) (hu := show 0 < 4 by decide) (by decide) rfl) $$ [Hf0 HO]
  · isplitr; · iexact Hlv
    isplitl [Hf0]; · iexact Hf0
    iexact HO
  iintro ⟨Hb0, Hr0, Hy0, HO⟩
  iapply (step_outwait d L fT fI O W hO (M := r1V) (n := 2 * 25) (hu := show 1 < 4 by decide) (by decide) rfl) $$ [Hf1 HO]
  · isplitr; · iexact Hlv
    isplitl [Hf1]; · iexact Hf1
    iexact HO
  iintro ⟨Hb1, Hr1, Hy1, HO⟩
  iapply (step_outwait d L fT fI O W hO (M := r2V) (n := 2 * 25) (hu := show 2 < 4 by decide) (by decide) rfl) $$ [Hf2 HO]
  · isplitr; · iexact Hlv
    isplitl [Hf2]; · iexact Hf2
    iexact HO
  iintro ⟨Hb2, Hr2, Hy2, HO⟩
  iapply (step_outwait d L fT fI O W hO (M := r3V) (n := 2 * 25) (hu := show 3 < 4 by decide) (by decide) rfl) $$ [Hf3 HO]
  · isplitr; · iexact Hlv
    isplitl [Hf3]; · iexact Hf3
    iexact HO
  iintro ⟨Hb3, Hr3, Hy3, HO⟩
  ihave Hof := (oFam_back d L fT fI (2 * 25) (by omega)) $$ [Hb0 Hb1 Hb2 Hb3 Hof]
  · isplitl [Hb0]; · iexact Hb0
    isplitl [Hb1]; · iexact Hb1
    isplitl [Hb2]; · iexact Hb2
    isplitl [Hb3]; · iexact Hb3
    iexact Hof
  ihave Hif := (show iFam d L fI (2 * 25) (2 * 25 + 1) ⊢ iFam d L fI 99 99 from Entails.of_eq (iFam_none d L fI)) $$ Hif
  sl_step
  isplitl [Ht0 Ht1 Ht2 Ht3 Hif Hof]
  · isplitl [Ht0 Ht1 Ht2 Ht3]
    · isplitl [Ht0]; · iexact Ht0
      isplitl [Ht1]; · iexact Ht1
      isplitl [Ht2]; · iexact Ht2
      iexact Ht3
    isplitl [Hif]; · iexact Hif
    iexact Hof
  isplitl [Ha Hb Hr0 Hr1 Hr2 Hr3 Hbufs]
  · isplitr [Hbufs]
    · isplitl [Ha]; · iexact Ha
      isplitl [Hb]; · iexact Hb
      isplitl [Hr0]; · iexact Hr0
      isplitl [Hr1]; · iexact Hr1
      isplitl [Hr2]; · iexact Hr2
      isplitl [Hr3]; · iexact Hr3
      iempintro
    iexact Hbufs
  isplitr [HO]
  · isplitr [Hsems]
    · isplitl [Hza]; · iexact Hza
      isplitl [Hzb]; · iexact Hzb
      isplitl [Hz0]; · iexact Hz0
      isplitl [Hz1]; · iexact Hz1
      isplitl [Hz2]; · iexact Hz2
      isplitl [Hz3]; · iexact Hz3
      isplitl [Hy0]; · iexact Hy0
      isplitl [Hy1]; · iexact Hy1
      isplitl [Hy2]; · iexact Hy2
      isplitl [Hy3]; · iexact Hy3
      iempintro
    iexact Hsems
  unfold OW
  iexact HO

end

end Cert.Proof.Kernel
end
-- ==== Proof.Kernel.Split.lean ====
/-
  The three arrays, split among the 32 tasks and joined again.
-/
module

public import proofs.«01_k».proof.Proof.Kernel.Body

@[expose] public section

set_option maxRecDepth 16384
set_option pp.maxSteps 100

noncomputable section

namespace Cert.Proof.Kernel

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "tV" => (Memref.whole Cert.KernelIdeal.main_v2_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x128 EltTy.f32)
local notation "aV" => (Memref.whole Cert.KernelIdeal.cc1_scratch0 : Memref Cert.KernelIdeal.sig Kind.scVector Space.vmem Cert.KernelIdeal.S512 EltTy.i32)
local notation "bV" => (Memref.whole Cert.KernelIdeal.cc1_scratch1 : Memref Cert.KernelIdeal.sig Kind.scVector Space.vmem Cert.KernelIdeal.S512 EltTy.i32)
local notation "r0V" => (Memref.whole Cert.KernelIdeal.cc1_scratch2 : Memref Cert.KernelIdeal.sig Kind.scVector Space.vmem Cert.KernelIdeal.S128x128 EltTy.f32)
local notation "r1V" => (Memref.whole Cert.KernelIdeal.cc1_scratch3 : Memref Cert.KernelIdeal.sig Kind.scVector Space.vmem Cert.KernelIdeal.S128x128 EltTy.f32)
local notation "r2V" => (Memref.whole Cert.KernelIdeal.cc1_scratch4 : Memref Cert.KernelIdeal.sig Kind.scVector Space.vmem Cert.KernelIdeal.S128x128 EltTy.f32)
local notation "r3V" => (Memref.whole Cert.KernelIdeal.cc1_scratch5 : Memref Cert.KernelIdeal.sig Kind.scVector Space.vmem Cert.KernelIdeal.S128x128 EltTy.f32)

/-- A grid's coordinates. -/
def coordsV (c : Fin (grid1.bound 0)) (s : Fin (grid1.bound 1)) : grid1.Coords :=
  fun | 0 => c | 1 => s | ⟨_ + 2, h⟩ => absurd h (Nat.not_lt.2 (Nat.le_add_left _ _))

/-! ## Storable resources -/

instance At_storable (c : Thread nD τ) {sp : Space} {s : Shape} {e : EltTy} (M : Memref sig c.2.kind sp s e) (w : s.Idx → Elt F e) :
    BI.Storable (upEmb : UEmb _ 𝕄) (At c M w) := by unfold At; infer_instance
instance Own_storable (c : Thread nD τ) {sp : Space} {s : Shape} {e : EltTy} (M : Memref sig c.2.kind sp s e) :
    BI.Storable (upEmb : UEmb _ 𝕄) (Own c M : sProp 𝕄) := by unfold Own; infer_instance
theorem ite_keeps {c : Prop} [Decidable c] {X Y : sProp 𝕄} (hX : BI.Storable (upEmb : UEmb _ 𝕄) X) (hY : BI.Storable (upEmb : UEmb _ 𝕄) Y) :
    BI.Storable (upEmb : UEmb _ 𝕄) (if c then X else Y) := by split <;> assumption

section
variable (d : Dev nD) (L : grid1.Coords) (fT : S100000x128.Idx → Elt F .f32) (fI : S819200.Idx → BitVec 32)
  (qs : Fin 4 → PosShare TreeShare)

instance iFam_storable (a b : ℕ) : BI.Storable (upEmb : UEmb _ 𝕄) (iFam d L fI a b : sProp 𝕄) := by
  unfold iFam
  have (j : Fin 50) : BI.Storable (upEmb : UEmb _ 𝕄) (if j.val = a ∨ j.val = b then iprop(emp) else At (VT d L) (iWin L j.isLt) (iRd L fI j.isLt) : sProp 𝕄) :=
    ite_keeps inferInstance inferInstance
  infer_instance
instance oFam_storable (a b : ℕ) : BI.Storable (upEmb : UEmb _ 𝕄) (oFam d L fT fI a b : sProp 𝕄) := by
  unfold oFam
  have h1 (j : Fin 50) : BI.Storable (upEmb : UEmb _ 𝕄) (done4 d L fT fI j.isLt : sProp 𝕄) := by unfold done4 oDone; infer_instance
  have h2 (j : Fin 50) : BI.Storable (upEmb : UEmb _ 𝕄) (own4 d L j.isLt : sProp 𝕄) := by unfold own4; infer_instance
  have (j : Fin 50) : BI.Storable (upEmb : UEmb _ 𝕄) (if j.val < a then done4 d L fT fI j.isLt else if j.val < b then iprop(emp) else own4 d L j.isLt : sProp 𝕄) :=
    ite_keeps (h1 j) (ite_keeps inferInstance (h2 j))
  infer_instance
instance GO_storable : BI.Storable (upEmb : UEmb _ 𝕄) (GO d L fT fI qs : sProp 𝕄) := by unfold GO; infer_instance
instance TD_storable : BI.Storable (upEmb : UEmb _ 𝕄) (TD d L fT fI qs : sProp 𝕄) := by unfold TD; infer_instance

/-! ## Families of one task, opened -/

theorem iFam_all : (iFam d L fI 99 99 : sProp 𝕄) = bigSep Finset.univ fun j : Fin 50 => At (VT d L) (iWin L j.isLt) (iRd L fI j.isLt) := by
  unfold iFam
  congr 1; funext j
  have := j.isLt
  rw [if_neg (by omega)]
theorem oFam_start : (oFam d L fT fI 0 0 : sProp 𝕄) = bigSep Finset.univ fun j : Fin 50 => bigSep Finset.univ fun u : Fin 4 => Own (VT d L) (oBlk L j.isLt u.isLt) := by
  unfold oFam
  congr 1; funext j
  have := j.isLt
  rw [if_neg (by omega), if_neg (by omega), fin4]
  rfl
theorem oFam_end : (oFam d L fT fI 50 50 : sProp 𝕄) = bigSep Finset.univ fun j : Fin 50 => bigSep Finset.univ fun u : Fin 4 => At (VT d L) (oBlk L j.isLt u.isLt) (oRd L fT fI j.isLt u.isLt) := by
  unfold oFam
  congr 1; funext j
  have := j.isLt
  rw [if_pos (by omega), fin4]
  rfl

end

/-! ## Which entries a window and a block hold -/

theorem mem_iWin (L : grid1.Coords) {j : ℕ} (hj : j < 50) (x : S819200.Idx) :
    x ∈ (iWin L hj).view.set ↔ 1024 * (L 1).val + 512 * (L 0).val + 16384 * j ≤ (x 0).val ∧ (x 0).val < 1024 * (L 1).val + 512 * (L 0).val + 16384 * j + 512 := by
  have h : (iWin L hj).view.set = (Rect.unit (s := S819200) (iOff L j) S512.size (iOff_inb L hj)).set := by
    show ((View.whole (main_v1_scv : Ref sig .scVector)).slice _).set = _
    rw [View.set_slice]; exact Finset.map_refl
  rw [h, Rect.mem_set_unit]
  constructor
  · intro hx; exact hx 0
  · intro hx a; match a with | 0 => exact hx
theorem mem_oBlk (L : grid1.Coords) {j u : ℕ} (hj : j < 50) (hu : u < 4) (x : S819200x128.Idx) :
    x ∈ (oBlk L hj hu).view.set ↔ 1024 * (L 1).val + 512 * (L 0).val + 16384 * j + 128 * u ≤ (x 0).val ∧ (x 0).val < 1024 * (L 1).val + 512 * (L 0).val + 16384 * j + 128 * u + 128 := by
  have h : (oBlk L hj hu).view.set = (Rect.unit (s := S819200x128) (oOff L j u) S128x128.size (oOff_inb L hj hu)).set := by
    show ((View.whole (main_v3_scv : Ref sig .scVector)).slice _).set = _
    rw [View.set_slice]; exact Finset.map_refl
  rw [h, Rect.mem_set_unit]
  constructor
  · intro hx; exact hx 0
  · intro hx a; match a with
    | 0 => exact hx
    | 1 => exact ⟨Nat.zero_le _, by show (x 1).val < 0 + 128; have := (x 1).isLt; change (x 1).val < 128 at this; omega⟩

/-- The windows' places: a task's two coordinates and a column. -/
abbrev IK : Type := Fin 2 × Fin 16 × Fin 50
abbrev iSet (k : IK) : Finset S819200.Idx := (iWin (coordsV k.1 k.2.1) k.2.2.isLt).view.set
/-- The blocks' places: a task's two coordinates, a column and a quarter. -/
abbrev OK : Type := Fin 2 × Fin 16 × Fin 50 × Fin 4
abbrev oSet (k : OK) : Finset S819200x128.Idx := (oBlk (coordsV k.1 k.2.1) k.2.2.1.isLt k.2.2.2.isLt).view.set

theorem mem_iSet (k : IK) (x : S819200.Idx) :
    x ∈ iSet k ↔ 1024 * k.2.1.val + 512 * k.1.val + 16384 * k.2.2.val ≤ (x 0).val ∧ (x 0).val < 1024 * k.2.1.val + 512 * k.1.val + 16384 * k.2.2.val + 512 := mem_iWin _ _ x
theorem mem_oSet (k : OK) (x : S819200x128.Idx) :
    x ∈ oSet k ↔ 1024 * k.2.1.val + 512 * k.1.val + 16384 * k.2.2.1.val + 128 * k.2.2.2.val ≤ (x 0).val
      ∧ (x 0).val < 1024 * k.2.1.val + 512 * k.1.val + 16384 * k.2.2.1.val + 128 * k.2.2.2.val + 128 := mem_oBlk _ _ _ x

theorem iSet_disj (k k' : IK) (h : k ≠ k') : Disjoint (iSet k) (iSet k') := by
  rw [Finset.disjoint_left]
  intro x hx hy
  rw [mem_iSet] at hx hy
  obtain ⟨c, i, j⟩ := k; obtain ⟨c', i', j'⟩ := k'
  have := c.isLt; have := c'.isLt; have := i.isLt; have := i'.isLt; have := j.isLt; have := j'.isLt
  dsimp only at hx hy
  have hj : j.val = j'.val := by omega
  have hi : i.val = i'.val := by omega
  have hc : c.val = c'.val := by omega
  exact h (by rw [Fin.ext hj, Fin.ext hi, Fin.ext hc])
theorem iSet_cover : Finset.univ.biUnion iSet = Finset.univ := by
  ext x
  simp only [Finset.mem_biUnion, Finset.mem_univ, true_and, iff_true]
  have hx : (x 0).val < 819200 := (x 0).isLt
  refine ⟨(⟨(x 0).val / 512 % 2, by omega⟩, ⟨(x 0).val / 1024 % 16, by omega⟩, ⟨(x 0).val / 16384, by omega⟩), ?_⟩
  rw [mem_iSet]; dsimp only; omega
theorem oSet_disj (k k' : OK) (h : k ≠ k') : Disjoint (oSet k) (oSet k') := by
  rw [Finset.disjoint_left]
  intro x hx hy
  rw [mem_oSet] at hx hy
  obtain ⟨c, i, j, u⟩ := k; obtain ⟨c', i', j', u'⟩ := k'
  have := c.isLt; have := c'.isLt; have := i.isLt; have := i'.isLt; have := j.isLt; have := j'.isLt; have := u.isLt; have := u'.isLt
  dsimp only at hx hy
  have hj : j.val = j'.val := by omega
  have hi : i.val = i'.val := by omega
  have hc : c.val = c'.val := by omega
  have hu : u.val = u'.val := by omega
  exact h (by rw [Fin.ext hj, Fin.ext hi, Fin.ext hc, Fin.ext hu])
theorem oSet_cover : Finset.univ.biUnion oSet = Finset.univ := by
  ext x
  simp only [Finset.mem_biUnion, Finset.mem_univ, true_and, iff_true]
  have hx : (x 0).val < 819200 := (x 0).isLt
  refine ⟨(⟨(x 0).val / 512 % 2, by omega⟩, ⟨(x 0).val / 1024 % 16, by omega⟩, ⟨(x 0).val / 16384, by omega⟩, ⟨(x 0).val / 128 % 4, by omega⟩), ?_⟩
  rw [mem_oSet]; dsimp only; omega

/-! ## The arrays, split and joined -/

/-- The share of the table behind a task's read token `u`. -/
def qT (c : Fin 2) (i : Fin 16) (u : Fin 4) : PosShare TreeShare :=
  Idealize.ShloMosaic.pieceOf fullShare (2 * (16 * 4)) (by decide) (finProdFinEquiv (c, finProdFinEquiv (i, u)))

theorem t_split (d : Dev nD) (f : Buf (Elt F) (tLoc d)) :
    (tLoc d ↦{fullShare} f : sProp 𝕄) = bigSep Finset.univ fun c : Fin 2 => bigSep Finset.univ fun i : Fin 16 => bigSep Finset.univ fun u : Fin 4 => tLoc d ↦{qT c i u} f := by
  rw [Idealize.ShloMosaic.pointsTo_piecesOf Finset.univ f (o := 2 * (16 * 4)) (by decide) fullShare,
    BI.bigSep_univ_equiv finProdFinEquiv (fun j : Fin (2 * (16 * 4)) => (tLoc d ↦{Idealize.ShloMosaic.pieceOf fullShare (2 * (16 * 4)) (by decide) j} f : sProp 𝕄)),
    BI.bigSep_univ_prod]
  congr 1; funext c
  rw [BI.bigSep_univ_equiv finProdFinEquiv (fun j : Fin (16 * 4) => (tLoc d ↦{Idealize.ShloMosaic.pieceOf fullShare (2 * (16 * 4)) (by decide) (finProdFinEquiv (c, j))} f : sProp 𝕄)),
    BI.bigSep_univ_prod]
  rfl
theorem i_split (d : Dev nD) (f : Buf (Elt F) (iLoc d)) :
    (iLoc d ↦{fullShare} f : sProp 𝕄) = bigSep Finset.univ fun c : Fin 2 => bigSep Finset.univ fun i : Fin 16 => bigSep Finset.univ fun j : Fin 50 =>
      iLoc d ↦[(iWin (coordsV c i) j.isLt).view.set]{fullShare} f := by
  have h := pointsTo_biUnion (Val := Elt F) (Ix := HIx 1) (Name := ℕ) (U := UU) (Lvl := ℕ) (ℓ := iLoc d) (q := fullShare) (f := f) Finset.univ iSet (fun k _ k' _ hk => iSet_disj k k' hk)
  rw [iSet_cover] at h
  rw [h, BI.bigSep_univ_prod]
  congr 1; funext c
  rw [BI.bigSep_univ_prod]
theorem o_split (d : Dev nD) (f : Buf (Elt F) (oLoc d)) :
    (oLoc d ↦{fullShare} f : sProp 𝕄) = bigSep Finset.univ fun c : Fin 2 => bigSep Finset.univ fun i : Fin 16 => bigSep Finset.univ fun j : Fin 50 => bigSep Finset.univ fun u : Fin 4 =>
      oLoc d ↦[(oBlk (coordsV c i) j.isLt u.isLt).view.set]{fullShare} f := by
  have h := pointsTo_biUnion (Val := Elt F) (Ix := HIx 1) (Name := ℕ) (U := UU) (Lvl := ℕ) (ℓ := oLoc d) (q := fullShare) (f := f) Finset.univ oSet (fun k _ k' _ hk => oSet_disj k k' hk)
  rw [oSet_cover] at h
  rw [h, BI.bigSep_univ_prod]
  congr 1; funext c
  rw [BI.bigSep_univ_prod]
  congr 1; funext i
  rw [BI.bigSep_univ_prod]

variable (d : Dev nD) (fT : S100000x128.Idx → Elt F .f32) (fI : S819200.Idx → BitVec 32)

section
variable (L : grid1.Coords) {j u : ℕ} (hj : j < 50) (hu : u < 4)
theorem i_in : (iLoc d ↦[(iWin L hj).view.set]{fullShare} (fI : Buf (Elt F) (iLoc d)) : sProp 𝕄) ⊢ At (VT d L) (iWin L hj) (iRd L fI hj) :=
  At_intro (VT d L) (iWin L hj) fI
theorem i_out : (At (VT d L) (iWin L hj) (iRd L fI hj) : sProp 𝕄) ⊢ iLoc d ↦[(iWin L hj).view.set]{fullShare} (fI : Buf (Elt F) (iLoc d)) :=
  At_elim (VT d L) (iWin L hj) fI
theorem o_in (f : Buf (Elt F) (oLoc d)) : (oLoc d ↦[(oBlk L hj hu).view.set]{fullShare} f : sProp 𝕄) ⊢ Own (VT d L) (oBlk L hj hu) :=
  Own_intro (VT d L) (oBlk L hj hu) f
theorem o_out : (At (VT d L) (oBlk L hj hu) (oRd L fT fI hj hu) : sProp 𝕄) ⊢ oLoc d ↦[(oBlk L hj hu).view.set]{fullShare} (gRows fT fI : Buf (Elt F) (oLoc d)) :=
  At_elim (VT d L) (oBlk L hj hu) (gRows fT fI)
end

/-- The three arrays, dealt to the tasks. -/
theorem deal (f : Buf (Elt F) (oLoc d)) :
    iprop((tLoc d ↦{fullShare} (fT : Buf (Elt F) (tLoc d))) ∗ (iLoc d ↦{fullShare} (fI : Buf (Elt F) (iLoc d))) ∗ oLoc d ↦{fullShare} f)
      ⊢ (bigSep Finset.univ fun c : Fin 2 => bigSep Finset.univ fun i : Fin 16 => GO d (coordsV c i) fT fI (qT c i) : sProp 𝕄) := by
  rw [t_split, i_split, o_split, ← bigSep_sep', ← bigSep_sep']
  refine BI.bigSep_mono fun c _ => ?_
  rw [← bigSep_sep', ← bigSep_sep']
  refine BI.bigSep_mono fun i _ => ?_
  unfold GO
  rw [fin4, iFam_all, oFam_start]
  exact BI.sep_mono (BI.Entails.refl _) (BI.sep_mono (BI.bigSep_mono fun j _ => i_in d fI _ j.isLt)
    (BI.bigSep_mono fun j _ => BI.bigSep_mono fun u _ => o_in d _ j.isLt u.isLt f))

/-- What the tasks bring back: the three arrays, the result at the gathered rows. -/
theorem gatherUp :
    (bigSep Finset.univ fun c : Fin 2 => bigSep Finset.univ fun i : Fin 16 => TD d (coordsV c i) fT fI (qT c i) : sProp 𝕄)
      ⊢ iprop((tLoc d ↦{fullShare} (fT : Buf (Elt F) (tLoc d))) ∗ (iLoc d ↦{fullShare} (fI : Buf (Elt F) (iLoc d))) ∗ oLoc d ↦{fullShare} (gRows fT fI : Buf (Elt F) (oLoc d))) := by
  rw [t_split, i_split, o_split, ← bigSep_sep', ← bigSep_sep']
  refine BI.bigSep_mono fun c _ => ?_
  rw [← bigSep_sep', ← bigSep_sep']
  refine BI.bigSep_mono fun i _ => ?_
  unfold TD
  rw [fin4, iFam_all, oFam_end]
  exact BI.sep_mono (BI.Entails.refl _) (BI.sep_mono (BI.bigSep_mono fun j _ => i_out d fI _ j.isLt)
    (BI.bigSep_mono fun j _ => BI.bigSep_mono fun u _ => o_out d fT fI _ j.isLt u.isLt))

end Cert.Proof.Kernel
end
-- ==== Proof.Kernel.Region.lean ====
/-
  The table's region: the TensorCore's `pallas_call` that fills the table, block by block, before the SparseCore's call.

  Its body stores one value, the payload at the point's coordinates, over the whole staging buffer; each point's block is
  written back; so the array ends at ONE function of the index, `tblV`. The core owes the SparseCore's starts throughout, so
  the region's waits (at index `none`, level 0) sit below them.
-/
module

public import proofs.«01_k».proof.Proof.Kernel.Tile
public import proofs.«01_k».proof.Proof.Gen.KernelIdeal.Launch
public import proofs.«01_k».proof.Proof.Gen.KernelIdeal.Points
public import Idealize.ShloMosaic.Lib.Pipeline.Regions
public import Idealize.ShloMosaic.Lib.Pipeline.Value
public import Idealize.ShloMosaic.Lib.Pipeline.ValueKit
public import Idealize.ShloMosaic.Lib.VecWindow

@[expose] public section

set_option maxRecDepth 16384
set_option pp.maxSteps 100

noncomputable section

namespace Cert.Proof.Kernel

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 1) (Elt F) ℕ UU ℕ

/-! ## The payload -/

/-- Lane of an index, and the body's phase at a point: the values of its first part. -/
abbrev laneV : IVec S4000x128 32 := iota .tc S4000x128 32 [1] iota_S4000x128_d1_w32
/-- What the body stores at coordinates `i`. -/
def blkV (i : grid0.Coords) : FVec F S4000x128 .f32 :=
  k0_pay1 (k0_pay4 laneV (k0_pay2 (F := F) i) 2#32 0#32) (k0_pay5 laneV (k0_pay2 (F := F) i) 2#32 0#32)
    (k0_pay6 laneV (k0_pay2 (F := F) i) 2#32 0#32) (k0_pay7 laneV (k0_pay2 (F := F) i) 2#32 0#32) (Scalar.ofBits .f32 0x3C088889#32)

/-- The body, from its staging buffer at anything: to that buffer at the payload. -/
theorem table_run (d : Dev nD) (i : grid0.Coords) (M : Memref sig .tc .vmem S4000x128 .f32) (hM : M.IsWhole)
    (f : Buf (Elt F) (M.view.loc (d.tc : Thread nD τ))) (Q : PUnit → sProp 𝕄) :
    iprop((M.view.loc (d.tc : Thread nD τ) ↦{fullShare} f)
        ∗ ((∃ X, ⌜M.view.read (Elt F) X = blkV (F := F) i⌝ ∗ (M.view.loc (d.tc : Thread nD τ) ↦{fullShare} X)) -∗ Q ⟨⟩))
      ⊢ wp frame (wpE (defs₀ (F := F)) 𝒱₀ (d.tc : Thread nD τ) none) Set.univ (cc0__table_body (F := F) i M hM) Q := by
  rw [cc0__table_body_eq_skeleton]; unfold cc0__table_body_skel
  rw [k0_part1_eq_skeleton, k0_part2_eq_skeleton]; unfold k0_part1_skel k0_part2_skel
  iintro ⟨H0, Hk⟩
  sl_exec!
  sl_step
  iapply Hk
  iexists _; isplitr; swap; (· iexact H0)
  ipureintro
  unfold table_run.sl.H0_1
  refine (View.read_writes_full _ _ _ _ _).trans ?_
  rfl

/-! ## The proof data -/

/-- The grid's only coordinate, as coordinates. -/
abbrev ptC (n : Fin 25) : grid0.Coords := fun | 0 => n | ⟨_ + 1, h⟩ => absurd h (Nat.not_lt.2 (Nat.le_add_left _ _))
/-- Where a table index sits in its block. -/
abbrev inBlk (x : S100000x128.Idx) : S4000x128.Idx :=
  fun | 0 => ⟨(x 0).val % 4000, Nat.mod_lt _ (by decide)⟩ | 1 => x 1 | ⟨_ + 2, h⟩ => absurd h (Nat.not_lt.2 (Nat.le_add_left _ _))
/-- The table the region leaves. -/
def tblV : S100000x128.Idx → F .f32 := fun x =>
  blkV (F := F) (ptC ⟨(x 0).val / 4000, by have : (x 0).val < 100000 := (x 0).isLt; omega⟩) (inBlk x)

/-- The pairs the core's waits have recorded before the region. -/
abbrev recd (d : Dev nD) : Set (SemLoc sig × HIx 1) := {p | (K (F := F)).lev (T d, p.1) p.2 ≤ 0}

variable (A : (d : Dev nD) → Buf (Elt F) (tLoc d))

/-- One entry's proof data: the table at `A` first, each point's block at its payload, the starts owed throughout. -/
def dat (d : Dev nD) : Dat τ (Elt F) (HIx 1) ℕ UU ℕ cfg0 d where
  A w := match w with
    | ⟨0, _⟩ => A d
  after w t := match w with
    | ⟨0, _⟩ => blkV (F := F) (grid0.coords t)
  Φ _ := BI.emp
  q _ := fullShare
  owed _ := (K (F := F)).Otc d 0
  recorded _ := recd (F := F) d

theorem idx0 : ∀ t : Fin cfg0.N, win0_0.index t = ![(grid0.coords t 0).val, 0] := (by decide +kernel : ∀ t : Fin grid0.N, _)
theorem coords0 (i : grid0.Coords) : ptC (i 0) = i := by
  funext a
  match a with
  | 0 => rfl
  | ⟨_ + 1, h⟩ => exact absurd h (Nat.not_lt.2 (Nat.le_add_left _ _))

theorem tblV_at (i : grid0.Coords) (y : S4000x128.Idx) (x : S100000x128.Idx) (h0 : (x 0).val = (i 0).val * 4000 + (y 0).val) (h1 : (x 1).val = (y 1).val) :
    tblV (F := F) x = blkV (F := F) i y := by
  have hy : (y 0).val < 4000 := (y 0).isLt
  have hx : (x 0).val < 100000 := (x 0).isLt
  unfold tblV
  have e1 : ptC ⟨(x 0).val / 4000, by omega⟩ = i := by
    exact (congrArg ptC (Fin.ext (by show (x 0).val / 4000 = (i 0).val; omega))).trans (coords0 i)
  have e2 : inBlk x = y := by
    funext a
    match a with
    | 0 => exact Fin.ext (by show (x 0).val % 4000 = (y 0).val; omega)
    | 1 => exact Fin.ext h1
    | ⟨_ + 2, h⟩ => exact absurd h (Nat.not_lt.2 (Nat.le_add_left _ _))
  rw [e1, e2]

theorem arr_end (d : Dev nD) : (dat A d).arrAt 0 cfg0.N = tblV (F := F) := by
  refine (dat A d).arrAt_eq_of_covers 0 _ (by decide +kernel) fun t hf y => ?_
  blk_simp
  dsimp only [dat]
  refine (tblV_at (F := F) (grid0.coords t) y _ ?_ ?_).symm
  · blk_simp [idx0]
  · blk_simp [idx0]

/-! ## The body's obligation -/

theorem body_obligation (d : Dev nD) : BodyObligation (dat A d) (defs₀ (F := F)) 𝒱₀ none Set.univ := fun t => by
  rw [bigSep_W0, bigSep_W0]
  rw [show (dat A d).Φ t.castSucc = BI.emp from rfl, show (dat A d).Φ t.succ = BI.emp from rfl,
    show (dat A d).owesAt none t.succ = (dat A d).owesAt none t.castSucc from rfl]
  show iprop(BI.emp ∗ (dat A d).owesAt none t.castSucc ∗ ∃ d0, owns (d.tc : Thread nD τ) ((cfg0.win 0).stage (cfg0.slots t 0)) fullShare ((dat A d).before 0 t d0))
    ⊢ wp frame (wpE (defs₀ (F := F)) 𝒱₀ (d.tc : Thread nD τ) none) Set.univ (bodyAt0 (F := F) t) fun _ =>
      iprop(BI.emp ∗ (dat A d).owesAt none t.castSucc ∗ owns (d.tc : Thread nD τ) ((cfg0.win 0).stage (cfg0.slots t 0)) fullShare (blkV (F := F) (grid0.coords t)))
  unfold owns
  rw [Memref.IsWhole.set_eq_univ (stage_whole0 0 (cfg0.slots t 0))]
  iintro ⟨HΦ, Howes, %d0, %f, -, H⟩
  iapply (table_run d (grid0.coords t) ((cfg0.win 0).stage (cfg0.slots t 0)) _ f) $$ [HΦ Howes H]
  isplitl [H]; · iexact H
  iintro ⟨%X, %hX, H⟩
  isplitl [HΦ]; · iexact HΦ
  isplitl [Howes]; · iexact Howes
  iexists X; isplitr
  · ipureintro; exact hX
  iexact H

/-! ## The region -/

/-- The proof data of the program's one pipeline. -/
abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => dat A c

theorem Otc_none (d : Dev nD) (g : GSem nD τ sig) : (K (F := F)).Otc (N := 1) d 0 g none = 0 := by
  by_contra h
  have := SparseCore.Cfg.lev_of_Otc_pos (K := K (F := F)) (N := 1) (d := d) (n := 0) (g := g) (ι := none) (Nat.pos_of_ne_zero h)
  simp at this

/-- What the core owes across the region, the pairs it has recorded low. -/
abbrev owesT (d : Dev nD) : sProp 𝕄 := iprop(∃ W, ⌜(K (F := F)).WBelow (T d) W 0⌝ ∗ owes (T d) ((K (F := F)).Otc d 0) W)

theorem arrays_one (d : Dev nD) (n : ℕ) :
    ((pdats A 0 d).arrays ((pdats A 0 d).arrAt · n) : sProp 𝕄) = (tLoc d ↦{fullShare} (dat A d).arrAt 0 n) := by
  show ((dat A d).arrays ((dat A d).arrAt · n) : sProp 𝕄) = _
  unfold Pipeline.Dat.arrays
  rw [bigSep_W0]
  show (tLoc d ↦[(Memref.whole main_v2 : Memref sig .tc .hbm S100000x128 .f32).view.set]{_} _) = _
  rw [Memref.IsWhole.set_eq_univ (Memref.isWhole_whole _), (dat A d).share_full fun _ => rfl]

set_option backward.isDefEq.respectTransparency.types false in
/-- The region: the table at `A` before, at `tblV` after. -/
def reg : Pipeline.RegionSeg (pcfgs (F := F)) adm (pdats A) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation A c).loose
  hwaits c := Pipeline.cellsWaits_intro _ _ _ _ _ fun _ _ _ => (K (F := F)).mayWait_none _ (Otc_none (F := F) c)
  pre d := iprop((tLoc d ↦{fullShare} A d) ∗ owesT (F := F) d)
  post d := iprop((tLoc d ↦{fullShare} tblV (F := F)) ∗ owesT (F := F) d)
  X _ := BI.emp
  Y _ := BI.emp
  Z _ := BI.emp
  hentry d := by
    rw [Pipeline.ownSems0_none]
    iintro ⟨⟨Ht, %W, %hW, HO⟩, -, -⟩
    imodintro
    isplitl [Ht]
    · rw [arrays_one, show (dat A d).arrAt 0 0 = A d from rfl]; iexact Ht
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin d := by
    rw [show (pdats A 0 d).Φ 0 = BI.emp from rfl, show Pipeline.scopedRest (Pipeline.pin (pcfgs (F := F)) adm 0).spec d = BI.emp from scopedRest0_eq d]
    iintro -; iempintro
  hout d := by
    rw [Pipeline.ownSems0_none, show (pdats A 0 d).Φ (Fin.last _) = BI.emp from rfl, show Pipeline.scopedRest (Pipeline.pin (pcfgs (F := F)) adm 0).spec d = BI.emp from scopedRest0_eq d]
    iintro Hr
    isplitr; · iempintro
    isplitr; · iempintro
    iexact Hr
  hexit d := by
    iintro ⟨Ha, HO, -, -⟩
    imodintro
    isplitl [Ha]
    · ihave H := (Entails.of_eq ((arrays_one A d cfg0.N).trans (congrArg (fun f => (tLoc d ↦{fullShare} f : sProp 𝕄)) (arr_end A d)))) $$ Ha
      iexact H
    unfold Pipeline.Dat.owesAt Pipeline.owesWithin
    icases HO with ⟨%W, %hW, HO⟩; iexists W; isplitr
    · ipureintro
      intro p hp
      rcases hW hp with h | ⟨w, s, h⟩
      · exact h
      · rw [h]; exact le_of_eq rfl
    iexact HO

end Cert.Proof.Kernel
end
-- ==== Proof.Kernel.Launch.lean ====
/-
  The launch: what each handshake carries, the task's obligation, the TensorCore's program around the call, and the run.
-/
module

public import proofs.«01_k».proof.Proof.Kernel.Split
public import proofs.«01_k».proof.Proof.Kernel.Region

@[expose] public section

set_option maxRecDepth 16384
set_option pp.maxSteps 100

noncomputable section

namespace Cert.Proof.Kernel

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ
local notation "tV" => (Memref.whole Cert.KernelIdeal.main_v2_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S819200 EltTy.i32)
local notation "oV" => (Memref.whole Cert.KernelIdeal.main_v3_scv : Memref Cert.KernelIdeal.sig Kind.scVector Space.hbm Cert.KernelIdeal.S819200x128 EltTy.f32)
local notation "aV" => (Memref.whole Cert.KernelIdeal.cc1_scratch0 : Memref Cert.KernelIdeal.sig Kind.scVector Space.vmem Cert.KernelIdeal.S512 EltTy.i32)
local notation "bV" => (Memref.whole Cert.KernelIdeal.cc1_scratch1 : Memref Cert.KernelIdeal.sig Kind.scVector Space.vmem Cert.KernelIdeal.S512 EltTy.i32)
local notation "r0V" => (Memref.whole Cert.KernelIdeal.cc1_scratch2 : Memref Cert.KernelIdeal.sig Kind.scVector Space.vmem Cert.KernelIdeal.S128x128 EltTy.f32)
local notation "r1V" => (Memref.whole Cert.KernelIdeal.cc1_scratch3 : Memref Cert.KernelIdeal.sig Kind.scVector Space.vmem Cert.KernelIdeal.S128x128 EltTy.f32)
local notation "r2V" => (Memref.whole Cert.KernelIdeal.cc1_scratch4 : Memref Cert.KernelIdeal.sig Kind.scVector Space.vmem Cert.KernelIdeal.S128x128 EltTy.f32)
local notation "r3V" => (Memref.whole Cert.KernelIdeal.cc1_scratch5 : Memref Cert.KernelIdeal.sig Kind.scVector Space.vmem Cert.KernelIdeal.S128x128 EltTy.f32)

variable [FloatOps F]
variable (m : (ℓ : Loc nD τ sig) → Buf (Elt F) ℓ) (ρ : Dev nD → PrngReg)

/-! ## The set-up's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The host's values -/

abbrev a0' : DevRef τ sig := Proc.devRef .tc (main_arg0 : Ref sig .tc)
abbrev b0' : DevRef τ sig := Proc.devRef .tc (main_v0 : Ref sig .tc)
abbrev b1' : DevRef τ sig := Proc.devRef .tc (main_v1 : Ref sig .tc)
abbrev b2' : DevRef τ sig := Proc.devRef .tc (main_v2 : Ref sig .tc)
abbrev b3' : DevRef τ sig := Proc.devRef .tc (main_v3 : Ref sig .tc)
abbrev b4' : DevRef τ sig := Proc.devRef .tc (main_v4 : Ref sig .tc)
abbrev b5' : DevRef τ sig := Proc.devRef .tc (main_v5 : Ref sig .tc)

/-- The host's four operations: columns first, flat, and back. -/
abbrev opA : HloOp τ sig (Elt F) := StableHlo.unary main_arg0 main_v0 ((transpose S50x16384 [1, 0] · transposes_S16384x50_S50x16384_1_0) : (⟨S16384x50, .i32⟩ : BufTy).Contents (Elt F) → (⟨S50x16384, .i32⟩ : BufTy).Contents (Elt F))
abbrev opB : HloOp τ sig (Elt F) := StableHlo.reshape main_v0 main_v1 (rfl : (.i32 : EltTy) = .i32) shapeCasts_S50x16384_S819200
abbrev opC : HloOp τ sig (Elt F) := StableHlo.reshape main_v3 main_v4 (rfl : (.f32 : EltTy) = .f32) shapeCasts_S819200x128_S50x16384x128
abbrev opD : HloOp τ sig (Elt F) := StableHlo.unary main_v4 main_v5 ((transpose S16384x50x128 [1, 0, 2] · transposes_S50x16384x128_S16384x50x128_1_0_2) : (⟨S50x16384x128, .f32⟩ : BufTy).Contents (Elt F) → (⟨S16384x50x128, .f32⟩ : BufTy).Contents (Elt F))

/-- The arrays of the TensorCore's program. -/
abbrev S7 : Finset (DevRef τ sig) := {a0', b0', b1', b2', b3', b4', b5'}

/-- What the arrays hold at launch and after each operation. -/
def W0 (d : Dev nD) : Valuation τ sig (Elt F) := fun b => m (d, b)
def W1 (d : Dev nD) : Valuation τ sig (Elt F) := (opA (F := F)).result (W0 m d)
def W2 (d : Dev nD) : Valuation τ sig (Elt F) := (opB (F := F)).result (W1 m d)
/-- The flat index array the call reads. -/
def fIx (d : Dev nD) : S819200.Idx → BitVec 32 := W2 m d b1'
/-- After the region that fills the table, and after the call. -/
def WR (d : Dev nD) : Valuation τ sig (Elt F) := Function.update (W2 m d) b2' (tblV (F := F))
def W3 (d : Dev nD) : Valuation τ sig (Elt F) := Function.update (WR m d) b3' (gRows (tblV (F := F)) (fIx m d))
def W4 (d : Dev nD) : Valuation τ sig (Elt F) := (opC (F := F)).result (W3 m d)
def W5 (d : Dev nD) : Valuation τ sig (Elt F) := (opD (F := F)).result (W4 m d)

theorem hA : (opA (F := F)).bufs ⊆ S7 := show ({a0', b0'} : Finset (DevRef τ sig)) ⊆ S7 by decide
theorem hB : (opB (F := F)).bufs ⊆ S7 := show ({b0', b1'} : Finset (DevRef τ sig)) ⊆ S7 by decide
theorem hC : (opC (F := F)).bufs ⊆ S7 := show ({b3', b4'} : Finset (DevRef τ sig)) ⊆ S7 by decide
theorem hD : (opD (F := F)).bufs ⊆ S7 := show ({b4', b5'} : Finset (DevRef τ sig)) ⊆ S7 by decide

theorem opA_keep (V : Valuation τ sig (Elt F)) {b : DevRef τ sig} (h : b ≠ b0') : (opA (F := F)).result V b = V b :=
  (opA (F := F)).result_of_not_mem V (show b ∉ ({b0'} : Finset (DevRef τ sig)) from fun e => h (Finset.mem_singleton.mp e))
theorem opB_keep (V : Valuation τ sig (Elt F)) {b : DevRef τ sig} (h : b ≠ b1') : (opB (F := F)).result V b = V b :=
  (opB (F := F)).result_of_not_mem V (show b ∉ ({b1'} : Finset (DevRef τ sig)) from fun e => h (Finset.mem_singleton.mp e))
theorem opC_keep (V : Valuation τ sig (Elt F)) {b : DevRef τ sig} (h : b ≠ b4') : (opC (F := F)).result V b = V b :=
  (opC (F := F)).result_of_not_mem V (show b ∉ ({b4'} : Finset (DevRef τ sig)) from fun e => h (Finset.mem_singleton.mp e))
theorem opD_keep (V : Valuation τ sig (Elt F)) {b : DevRef τ sig} (h : b ≠ b5') : (opD (F := F)).result V b = V b :=
  (opD (F := F)).result_of_not_mem V (show b ∉ ({b5'} : Finset (DevRef τ sig)) from fun e => h (Finset.mem_singleton.mp e))

theorem W2_a0 (d : Dev nD) : W2 m d a0' = m (d, a0') := by
  unfold W2 W1; rw [opB_keep _ (by decide), opA_keep _ (by decide)]; rfl
theorem WR_of (d : Dev nD) {b : DevRef τ sig} (h : b ≠ b2') : WR m d b = W2 m d b := Function.update_of_ne h _ _
theorem WR_b2 (d : Dev nD) : WR m d b2' = tblV (F := F) := Function.update_self _ _ _
theorem W3_of (d : Dev nD) {b : DevRef τ sig} (h : b ≠ b3') : W3 m d b = WR m d b := Function.update_of_ne h _ _
theorem W3_b3 (d : Dev nD) : W3 m d b3' = gRows (tblV (F := F)) (fIx m d) := Function.update_self _ _ _
theorem W5_a0 (d : Dev nD) : W5 m d a0' = m (d, a0') := by
  unfold W5 W4; rw [opD_keep _ (by decide), opC_keep _ (by decide), W3_of m d (by decide), WR_of m d (by decide), W2_a0]

/-- The arrays held at `V`, one by one. -/
theorem held_S7 (d : Dev nD) (V : Valuation τ sig (Elt F)) :
    (held (T d) S7 V : sProp 𝕄) = iprop(((SparseCore.T d).loc main_arg0 ↦{fullShare} V a0')
      ∗ ((SparseCore.T d).loc main_v0 ↦{fullShare} V b0') ∗ (iLoc d ↦{fullShare} V b1') ∗ (tLoc d ↦{fullShare} V b2') ∗ (oLoc d ↦{fullShare} V b3')
      ∗ ((SparseCore.T d).loc main_v4 ↦{fullShare} V b4') ∗ (SparseCore.T d).loc main_v5 ↦{fullShare} V b5') := by
  unfold StableHlo.held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem launch_held (d : Dev nD) : (unscopedBufs d (fun b => m ((SparseCore.T d).loc b)) : sProp 𝕄) = held (T d) S7 (W0 m d) := by
  rw [held_S7]
  unfold unscopedBufs
  rw [show (Finset.univ.filter fun b : Ref sig .tc => ¬ b.isScoped) = {main_arg0, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## What the handshakes carry -/

/-- What task `i` of SparseCore `c` gets and brings back. -/
abbrev goC (d : Dev nD) (c : Fin 2) (i : Fin 16) : sProp 𝕄 := GO d (coordsV c i) (tblV (F := F)) (fIx m d) (qT c i)
abbrev tdC (d : Dev nD) (c : Fin 2) (i : Fin 16) : sProp 𝕄 := TD d (coordsV c i) (tblV (F := F)) (fIx m d) (qT c i)
/-- SparseCore `c`'s 16 tasks' together. -/
abbrev stC (d : Dev nD) (c : Fin 2) : sProp 𝕄 := bigSep Finset.univ fun i : Fin 16 => goC m d c i
abbrev dnC (d : Dev nD) (c : Fin 2) : sProp 𝕄 := bigSep Finset.univ fun i : Fin 16 => tdC m d c i

/-- Each task gets what `deal` gives it; the same comes back, the task's part of the result written. -/
def P : (K (F := F)).Pay (nD := nD) (Val := Elt F) (Name := ℕ) (U := UU) where
  st := fun q d c => match q with | 0 => stC m d c
  dn := fun q d c => match q with | 0 => dnC m d c
  go := fun q d c i => match q with | 0 => goC m d c i
  td := fun q d c i => match q with | 0 => tdC m d c i
  x := fun _ _ => iprop(emp)

theorem goC_keeps (d : Dev nD) (c : Fin 2) (i : Fin 16) : BI.Storable (upEmb : UEmb _ 𝕄) (goC m d c i) := inferInstance
theorem tdC_keeps (d : Dev nD) (c : Fin 2) (i : Fin 16) : BI.Storable (upEmb : UEmb _ 𝕄) (tdC m d c i) := inferInstance
theorem stC_keeps (d : Dev nD) (c : Fin 2) : BI.Storable (upEmb : UEmb _ 𝕄) (stC m d c) := by
  have (i : Fin 16) := goC_keeps m d c i
  unfold stC; infer_instance
theorem dnC_keeps (d : Dev nD) (c : Fin 2) : BI.Storable (upEmb : UEmb _ 𝕄) (dnC m d c) := by
  have (i : Fin 16) := tdC_keeps m d c i
  unfold dnC; infer_instance

instance P_storable : (P (F := F) m).IsStorable where
  st q d c := match q with | 0 => stC_keeps m d c
  dn q d c := match q with | 0 => dnC_keeps m d c
  go q d c i := match q with | 0 => goC_keeps m d c i
  td q d c i := match q with | 0 => tdC_keeps m d c i

theorem st0_eq (d : Dev nD) : (bigSep Finset.univ fun c : Fin ((K (F := F)).nCore 0) => (P m).st 0 d c) = (bigSep Finset.univ fun c : Fin 2 => stC m d c : sProp 𝕄) := rfl
theorem dn0_eq (d : Dev nD) : (bigSep Finset.univ fun c : Fin ((K (F := F)).nCore 0) => (P m).dn 0 d c) = (bigSep Finset.univ fun c : Fin 2 => dnC m d c : sProp 𝕄) := rfl

/-- What the proof asks of the launch memory: every flat index names a row of the table. -/
def InRange : Prop := ∀ (d : Dev nD) (x : S819200.Idx), (fIx m d x).toNat < 100000

/-! ## The task's obligation -/

theorem defs₀_vector (c : Fin τ.nSC) (s : Fin τ.nSub) :
    defs₀ (F := F) (.scVector c s) 1 () = SparseCore.onTile hcore1 hsub1 (fun c s => cc1__gather_kernel (coordsV c s)
      tV (Memref.isWhole_whole _) iV (Memref.isWhole_whole _) oV (Memref.isWhole_whole _) aV (Memref.isWhole_whole _) bV (Memref.isWhole_whole _)
      r0V (Memref.isWhole_whole _) r1V (Memref.isWhole_whole _) r2V (Memref.isWhole_whole _) r3V (Memref.isWhole_whole _)
      cc1_scratch6 cc1_scratch7 cc1_scratch8 cc1_scratch9 cc1_scratch10 cc1_scratch11 cc1_scratch12 cc1_scratch13 cc1_scratch14 cc1_scratch15) ⟨⟩ c s := rfl

theorem more_waits {thr : Thread nD τ} {O : CellTallies nD τ sig (HIx 1)} {W : Waits sig (HIx 1)} {q : Fin 1} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : InRange m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tblV (F := F)) (fIx m d) (qT c i) O W facts (hpre d) hO).trans
    (wp_mono frame _ _ fun _ => more_waits)

theorem vecSplit : (K (F := F)).VecSplit' (P m) 0 := by
  intro d c
  show stC m d c ⊢ |={Set.univ}=> iprop((bigSep Finset.univ fun i : Fin 16 => goC m d c i) ∗ ((bigSep Finset.univ fun i : Fin 16 => tdC m d c i) -∗ dnC m d c))
  iintro H; imodintro
  isplitl [H]; · iexact H
  iintro H; iexact H

/-! ## The ghost state at launch -/

theorem emps {I : Type} (s : Finset I) : (bigSep s fun _ => iprop(emp)) = (iprop(emp) : sProp 𝕄) := bigSep_emp_const s

/-- The cells of the region's pipeline take the middle component. -/
abbrev EP : Emb (UR sig nD τ) 𝕄 := (Emb.inl : Emb (UR sig nD τ) (UR sig nD τ × Counters)).trans embR
instance EP_lands : (EP (F := F)).LandsIn (upEmb : UEmb _ 𝕄) := by
  unfold EP embR; infer_instance

abbrev pins : Fin 1 → Pipeline.Cfg sig Λ₀ := Pipeline.pin (pcfgs (F := F)) adm
abbrev pinInj : Function.Injective (Pipeline.cellOf (nD := nD) (τ := τ) (pins (F := F))) := cellOf_inj

def u₀ : UU := (initOf (K (F := F)).hsCells (K (F := F)).hsToks,
  (initOf (Pipeline.cells (pins (F := F)) pinInj) (Pipeline.launchToks (pins (F := F)) pinInj), 1))

/-- What the launch deals the core for its region. -/
abbrev regGhost (d : Dev nD) : sProp 𝕄 :=
  iprop(Pipeline.cellsGhost (pins (F := F)) EP 0 d ∗ Pipeline.toksInit (pins (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => regGhost d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pinInj) (Pipeline.launchToks (pins (F := F)) pinInj), 1) : UR sig nD τ × Counters)) $$ Hu
  icases H with ⟨HH, HR⟩
  ihave H := (own_pair_emb (embR : Emb (UR sig nD τ × Counters) 𝕄) (initOf (Pipeline.cells (pins (F := F)) pinInj) (Pipeline.launchToks (pins (F := F)) pinInj)) (1 : Counters)) $$ HR
  icases H with ⟨HP, -⟩
  imod (Pipeline.fund_ghost (pins (F := F)) (EP (F := F)) pinInj) $$ HP with ⟨Hg, Ht⟩
  imodintro
  isplitl [HH]; · iexact HH
  isplitl [Hg Ht]
  · rw [bigSep_sep']
    isplitl [Hg]
    · ihave H := (Entails.of_eq (bigSep_congr fun d _ => bigSep_univ_of_subsingleton (0 : Fin 1))) $$ Hg
      iexact H
    · ihave H := (Entails.of_eq (bigSep_congr fun d _ => bigSep_univ_of_subsingleton (0 : Fin 1))) $$ Ht
      iexact H
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore's program -/

/-- What it leaves: every array, at what the last operation left. -/
abbrev FIN (d : Dev nD) : sProp 𝕄 := held (T d) S7 (W5 m d)

/-- The region, over all the arrays: the table is taken out and put back filled. -/
theorem before_region (d : Dev nD) :
    (held (T d) S7 (W2 m d) : sProp 𝕄) ⊢ iprop((tLoc d ↦{fullShare} W2 m d b2')
      ∗ ((tLoc d ↦{fullShare} tblV (F := F)) -∗ held (T d) S7 (WR m d))) := by
  rw [held_S7, held_S7, WR_of m d (b := a0') (by decide), WR_of m d (b := b0') (by decide), WR_of m d (b := b1') (by decide),
    WR_of m d (b := b3') (by decide), WR_of m d (b := b4') (by decide), WR_of m d (b := b5') (by decide), WR_b2]
  iintro ⟨Ha, H0, Hi, Ht, Ho, H3, H4⟩
  isplitl [Ht]; · iexact Ht
  iintro Ht
  isplitl [Ha]; · iexact Ha
  isplitl [H0]; · iexact H0
  isplitl [Hi]; · iexact Hi
  isplitl [Ht]; · iexact Ht
  isplitl [Ho]; · iexact Ho
  isplitl [H3]; · iexact H3
  iexact H4

/-- The call, over all the arrays: the three it touches are dealt and gathered up, the rest stays. -/
theorem before_call (d : Dev nD) :
    (held (T d) S7 (WR m d) : sProp 𝕄) ⊢ iprop((bigSep Finset.univ fun c : Fin 2 => stC m d c)
      ∗ ((bigSep Finset.univ fun c : Fin 2 => dnC m d c) -∗ held (T d) S7 (W3 m d))) := by
  rw [held_S7, held_S7, W3_of m d (b := a0') (by decide), W3_of m d (b := b0') (by decide), W3_of m d (b := b1') (by decide), W3_of m d (b := b2') (by decide),
    W3_of m d (b := b4') (by decide), W3_of m d (b := b5') (by decide), W3_b3, WR_b2, WR_of m d (b := b1') (by decide)]
  iintro ⟨Ha, H0, Hi, Ht, Ho, H3, H4⟩
  isplitl [Ht Hi Ho]
  · iapply (deal d (tblV (F := F)) (fIx m d) (WR m d b3')) $$ [Ht Hi Ho]
    isplitl [Ht]; · iexact Ht
    isplitl [Hi]; · iexact Hi
    iexact Ho
  iintro Hdn
  ihave H := (gatherUp d (tblV (F := F)) (fIx m d)) $$ Hdn
  icases H with ⟨Ht, Hi, Ho⟩
  isplitl [Ha]; · iexact Ha
  isplitl [H0]; · iexact H0
  isplitl [Hi]; · iexact Hi
  isplitl [Ht]; · iexact Ht
  isplitl [Ho]; · iexact Ho
  isplitl [H3]; · iexact H3
  iexact H4

/-- The region's call, in the pipelines' own labels. -/
abbrev regCall : Prog (TpuEff nD τ sig (Elt F) (ΛP (F := F)) .tc) PUnit := .op (.customCall (Pipeline.entry 0) ()) .ret

/-- The region's step of the TensorCore's program: the table filled, the thread's state as it was. -/
theorem wp_region [∀ e, Nonempty (Elt F e)] (κ : GSem nD τ sig → ℕ) (d : Dev nD) (Q : PUnit → sProp 𝕄) :
    iprop((K (F := F)).ctx EH (P m) κ ∗ (K (F := F)).tcSt EH d 0 ∗ boundary (T d) ∗ held (T d) S7 (W2 m d) ∗ regGhost d
        ∗ (iprop((K (F := F)).tcSt EH d 0 ∗ boundary (T d) ∗ held (T d) S7 (WR m d)) -∗ Q ⟨⟩))
      ⊢ wp frame (wpE ((K (F := F)).defs (D (F := F))) 𝒱 (SparseCore.T d) none) Set.univ
          (SparseCore.liftProg (regCall (F := F))) Q := by
  have hR := Pipeline.RegionSeg.wp (pcfgs (F := F)) adm (pdats fun d => W2 m d b2') none pinInj (EP (F := F)) defs₀ 𝒱₀
    (K (F := F)).L (K (F := F)).lev (reg fun d => W2 m d b2') d none (fun _ h => nomatch h) .ret Q
  unfold SparseCore.Cfg.tcSt
  rw [show (reg fun d => W2 m d b2').pre d = iprop((tLoc d ↦{fullShare} W2 m d b2') ∗ owesT (F := F) d) from rfl,
    show (reg fun d => W2 m d b2').post d = iprop((tLoc d ↦{fullShare} tblV (F := F)) ∗ owesT (F := F) d) from rfl] at hR
  iintro ⟨#Hctx, ⟨⟨%W, %hW, HO⟩, Hat⟩, Hb, Hheld, ⟨Hg, Ht⟩, Hk⟩
  ihave Hc := (before_region m d) $$ Hheld
  icases Hc with ⟨Hto, Hback⟩
  iapply ((K (F := F)).wp_liftProg (D (F := F)) 𝒱 (SparseCore.T d) Set.univ none (regCall (F := F)) Q)
  iapply hR $$ [HO Hat Hb Hg Ht Hk Hto Hback]
  isplitl [Hat Hk Hback]
  · iintro ⟨Hb, Hto, %W', %hW', HO⟩
    ispecialize Hback $$ Hto
    rw [wp_ret]; imodintro
    iapply Hk
    isplitl [HO Hat]
    · isplitl [HO]
      · iexists W'; isplitr
        · ipureintro; exact hW'
        iexact HO
      iexact Hat
    isplitl [Hb]; · iexact Hb
    iexact Hback
  isplitl [Hb]; · iexact Hb
  isplitl [Hto HO]
  · isplitl [Hto]; · iexact Hto
    iexists W; isplitr
    · ipureintro; exact hW
    iexact HO
  isplitr
  · iapply (SparseCore.Cfg.ctx_levAts κ) $$ Hctx
  isplitl [Hg]; · iexact Hg
  iexact Ht

set_option maxHeartbeats 4000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ regGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, Hgh⟩
  iapply (wp_hlo_within 𝒱 (SparseCore.T d) none Set.univ (op := opA) (S := S7) hA (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opB) (S := S7) hB (V := W1 m d)) $$ [Hb Hheld]
  · isplitl [Hb]; · iexact Hb
    iexact Hheld
  iintro ⟨Hb, Hheld⟩
  rw [wp_ret]; imodintro
  iapply (wp_region m κ d) $$ [Hst Hb Hheld Hgh Hts]
  isplitr; · iexact Hctx
  isplitl [Hst]; · iexact Hst
  isplitl [Hb]; · iexact Hb
  isplitl [Hheld]; · iexact Hheld
  isplitl [Hgh]; · iexact Hgh
  iintro ⟨Hst, Hb, Hheld⟩
  ihave Hc := (before_call m d) $$ Hheld
  icases Hc with ⟨Hgo, Hback⟩
  iapply ((K (F := F)).wp_run (D (F := F)) 𝒱 (EH := EH) (P := P m) κ d 0) $$ [Hst Hgo Hback Hb Hts]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ispecialize Hback $$ Hdn'
  iapply (wp_hlo_within 𝒱 (SparseCore.T d) none Set.univ (op := opC) (S := S7) hC (V := W3 m d)) $$ [Hb Hback]
  · isplitl [Hb]; · iexact Hb
    iexact Hback
  iintro ⟨Hb, Hheld⟩
  rw [wp_ret]; imodintro
  iapply (wp_hlo_within 𝒱 (SparseCore.T d) none Set.univ (op := opD) (S := S7) hD (V := W4 m d)) $$ [Hb Hheld]
  · isplitl [Hb]; · iexact Hb
    iexact Hheld
  iintro ⟨Hb, Hheld⟩
  rw [wp_ret]; imodintro; imodintro
  isplitl [Hst]; · iexact Hst
  isplitr [Hb Hts]
  · iexact Hheld
  isplitl [Hb] <;> iassumption

def fq (d : Dev nD) (s' : Phys nD τ sig (Elt F)) : Prop :=
  s'.mem.mem ((SparseCore.T d).loc main_arg0) = W5 m d a0' ∧ s'.mem.mem ((SparseCore.T d).loc main_v5) = W5 m d b5'

theorem hfin (d : Dev nD) (s' : Phys nD τ sig (Elt F)) : iprop(FIN m d ∗ SI s') ⊢ (⌜fq m d s'⌝ : sProp 𝕄) := by
  unfold FIN
  rw [held_S7]
  iintro ⟨⟨Ha, -, -, -, -, -, H4⟩, HSI⟩
  ihave H := (persistent_entails_right (SI_pointsTo_agree (st := s') (ℓ := (SparseCore.T d).loc main_arg0) (I := Finset.univ) (q := fullShare) (f := W5 m d a0'))) $$ [HSI Ha]
  · isplitl [HSI] <;> iassumption
  icases H with ⟨%h1, HSI, -⟩
  ihave H := (SI_pointsTo_agree (st := s') (ℓ := (SparseCore.T d).loc main_v5) (I := Finset.univ) (q := fullShare) (f := W5 m d b5')) $$ [HSI H4]
  · isplitl [HSI] <;> iassumption
  icases H with %h2
  ipureintro
  exact ⟨funext fun i => h1 i (Finset.mem_univ i), funext fun i => h2 i (Finset.mem_univ i)⟩

/-! ## The run -/

def QC : PUnit × MemSt nD τ sig (Elt F) → Prop := fun r =>
  (∀ c : Dev nD, r.2.mem ((SparseCore.T c).loc main_arg0) = W5 m c a0' ∧ r.2.mem ((SparseCore.T c).loc main_v5) = W5 m c b5')
    ∧ r.2.sem = fun _ => 0

theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => regGhost d) (FIN m) (u₀ (F := F)) (sep_elim_left.trans (hu₀ m)) (hmain m ρ) (fq m) (hfin m) (QC m) (fun _ h hz => ⟨h, hz⟩)

end Cert.Proof.Kernel
end
-- ==== Proof.Kernel.Value.lean ====
/-
  What the whole kernel leaves: row `t[y0, y1]` of the table its region filled.
-/
module

public import proofs.«01_k».proof.Proof.Kernel.Launch
public import proofs.«01_k».proof.Proof.Gather.Value
public import proofs.«01_k».proof.Pre_in_range
public import proofs.«01_k».proof.Proof.Gen.Pre_in_range

@[expose] public section

set_option maxRecDepth 16384

noncomputable section

namespace Cert.Proof.Kernel

open Cert.KernelIdeal Cert.KernelIdeal.Gen
open Idealize.ShloMosaic

variable {F : FTy → Type} [FloatOps F]
variable (m : (ℓ : Loc nD τ sig) → Buf (Elt F) ℓ)

/-- The precondition says that every index names a row of the table. -/
theorem pre_lt (x : IVec Cert.Pre_in_range.S16384x50 32)
    (h : Cert.Pre_in_range.fn (F := F) x = fun _ => 1#1) (i : Cert.Pre_in_range.S16384x50.Idx) : (x i).toNat < 100000 := by
  haveI : Subsingleton Cert.Pre_in_range.S_.Idx := ⟨fun a b => funext fun k => k.elim0⟩
  exact Gather.word_lt _ (Host.reduce_andi_all _ _ _ _ (fun a => a.elim0) (congrFun h _) i)

theorem fIx_eq (d : Dev nD) : fIx m d
    = shapeCast S819200 (transpose S50x16384 [1, 0] (m (d, a0')) transposes_S16384x50_S50x16384_1_0) shapeCasts_S50x16384_S819200 := by
  unfold fIx W2
  rw [StableHlo.reshape_result]
  funext n
  show shapeCast S819200 (W1 m d b0') _ n = _
  unfold W1
  rw [StableHlo.unary_result]
  rfl

theorem inRange_of (h : ∀ d i, (m (d, a0') i : BitVec 32).toNat < 100000) : InRange m := by
  intro d x
  rw [fIx_eq, Gather.flat_eq _ x (x 0) rfl]
  exact h d _

theorem W5_b5 (d : Dev nD) : W5 m d b5' = Gather.taken (tblV (F := F)) (m (d, a0')) := by
  have e : W5 m d b5' = transpose S16384x50x128 [1, 0, 2]
      (shapeCast S50x16384x128 (gRows (tblV (F := F)) (fIx m d)) shapeCasts_S819200x128_S50x16384x128) transposes_S50x16384x128_S16384x50x128_1_0_2 := by
    unfold W5
    rw [StableHlo.unary_result]
    refine congrArg (fun z => transpose S16384x50x128 [1, 0, 2] z transposes_S50x16384x128_S16384x50x128_1_0_2) ?_
    unfold W4
    show (opC (F := F)).result (W3 m d) b4' = _
    rw [StableHlo.reshape_result]
    funext n
    show shapeCast S50x16384x128 (W3 m d b3') _ n = _
    rw [W3_b3]
  rw [e]
  funext y
  rw [Gather.back_eq _ y (y 0) (y 1) (y 2) rfl rfl rfl]
  unfold gRows Gather.taken
  rw [fIx_eq]
  refine congrArg (tblV (F := F)) (funext fun a => ?_)
  match a with
  | ⟨1, _⟩ => rfl
  | ⟨0, _⟩ =>
    refine congrArg rowIx ((Gather.flat_eq _ _ ⟨_, Gather.mul_lt (y 1) (y 0)⟩ rfl).trans (congrArg (m (d, a0')) (funext fun k => Fin.ext ?_)))
    have h0 : (y 0).val < 16384 := (y 0).isLt
    match k with
    | ⟨0, _⟩ => show ((y 1).val * 16384 + (y 0).val) % 16384 = (y 0).val; omega
    | ⟨1, _⟩ => show ((y 1).val * 16384 + (y 0).val) / 16384 = (y 1).val; omega

/-- THE WHOLE KERNEL'S RUN, its result read: the rows of the region's table the index array names, and the index array as it was. -/
theorem run_rows [∀ e, Nonempty (Elt F e)] (ρ : Dev nD → PrngReg) (h : ∀ d i, (m (d, a0') i : BitVec 32).toNat < 100000) :
    θ_run Cert.KernelIdeal.defs Cert.KernelIdeal.threads ⟨m, fun _ => 0, ρ⟩ fun r =>
      (∀ c : Dev nD, r.2.mem ((c.tc : Thread nD τ).loc main_v5) = Gather.taken (tblV (F := F)) (m ((c.tc : Thread nD τ).loc main_arg0))
        ∧ r.2.mem ((c.tc : Thread nD τ).loc main_arg0) = m ((c.tc : Thread nD τ).loc main_arg0)) ∧ r.2.sem = fun _ => 0 :=
  (θ_run _ _ _).mono (fun _ q => ⟨fun c => ⟨((q.1 c).2).trans (W5_b5 m c), ((q.1 c).1).trans (W5_a0 m c)⟩, q.2⟩)
    (run_main m ρ (inRange_of m h))

end Cert.Proof.Kernel

end
-- ==== Proof.Kernel.Claims.lean ====
/-
  The frames of the whole kernel.
-/
module

public import proofs.«01_k».proof.Defs
public import proofs.«01_k».proof.Proof.Kernel.Value
public import proofs.«01_k».proof.Proof.Gen.Kernel
public import Idealize.ShloMosaic.PureOps.BitExact
public import Idealize.ShloMosaic.PureOps.Ideal

@[expose] public section

set_option maxRecDepth 16384

noncomputable section

namespace Cert.Proof.Kernel

open Idealize.ShloMosaic Idealize.SL.Sem

section Same
variable {F : FTy → Type} [FloatOps F]

/-- The two printed programs' bodies are the same text. -/
theorem same_bodies : Cert.Kernel.defs₀ (F := F) = Cert.KernelIdeal.defs₀ := by
  funext p l a
  match p, l with
  | .tc, ⟨0, _⟩ => exact rfl
  | .tc, ⟨1, _⟩ => exact rfl
  | .scScalar _, ⟨0, _⟩ => exact rfl
  | .scScalar _, ⟨1, _⟩ => exact rfl
  | .scVector _ _, ⟨0, _⟩ => exact rfl
  | .scVector _ _, ⟨1, _⟩ => exact rfl
theorem same_defs : Cert.Kernel.defs (F := F) = Cert.KernelIdeal.defs := by
  show Cert.KernelIdeal.sc.defs (Pipeline.defs Cert.KernelIdeal.pcfgs Cert.Kernel.defs₀) = _
  rw [same_bodies]; rfl

end Same

theorem frame_kernel : Cert.quiescent_Kernel := fun m ρ hp => by
  rw [same_defs]
  exact (θ_run Cert.KernelIdeal.defs _ _).mono (fun _ q => ⟨fun c => (q.1 c).2, q.2⟩) (run_rows (F := Bits) m ρ fun d => pre_lt (F := Bits) _ (hp d))
theorem frame_kernel_ideal : Cert.quiescent_KernelIdeal := fun m ρ hp =>
  (θ_run Cert.KernelIdeal.defs _ _).mono (fun _ q => ⟨fun c => (q.1 c).2, q.2⟩) (run_rows (F := Ideal) m ρ fun d => pre_lt (F := Ideal) _ (hp d))

end Cert.Proof.Kernel

end
-- ==== Proof.Kernel.Sine.lean ====
/-
  The table's sine and phase, over the reals: the polynomial of degree 9 after its reductions, at the phase by
  exponential and logarithm, is within 9e-6 of the sine at the power.
-/
module

public import Mathlib.Analysis.SpecialFunctions.Pow.Real
public import Mathlib.Analysis.SpecialFunctions.Arcosh
public import Mathlib.Analysis.SpecialFunctions.Trigonometric.Basic
public import Mathlib.Analysis.SpecialFunctions.Trigonometric.Arctan
public import Mathlib.Analysis.Complex.Exponential
public import Mathlib.Tactic.Linarith
public import Mathlib.Tactic.NormNum

@[expose] public section

noncomputable section

namespace Cert.Proof.Kernel

/-! ## The constants, as the reals their patterns denote -/

/-- The sine's coefficients, then `π` and its half, `1 / 10000` and `1 / log 2`. -/
abbrev cA : ℝ := 12119837 / 2 ^ 42
abbrev cB : ℝ := -(13634817 / 2 ^ 36)
abbrev cC : ℝ := 8947849 / 2 ^ 30
abbrev cD : ℝ := -(11184811 / 2 ^ 26)
abbrev cPi : ℝ := 13176795 / 2 ^ 22
abbrev cHalf : ℝ := 13176795 / 2 ^ 23
abbrev cBase : ℝ := 13743895 / 2 ^ 37
abbrev cLog : ℝ := 12102203 / 2 ^ 23

/-! ## The sine -/

/-- Taylor's polynomial of degree 9. -/
def tay (x : ℝ) : ℝ := x - x ^ 3 / 6 + x ^ 5 / 120 - x ^ 7 / 5040 + x ^ 9 / 362880

theorem taylor_near (x : ℝ) (h0 : 0 ≤ x) (h1 : x ≤ 2) : |Real.sin x - tay x| ≤ x ^ 11 / 19958400 := by
  have hn : ‖((x : ℂ) * Complex.I)‖ = x := by simp [abs_of_nonneg h0]
  have hb := Complex.exp_bound' (x := (x : ℂ) * Complex.I) (n := 11) (by rw [hn]; norm_num; linarith)
  rw [hn] at hb
  have him := (Complex.abs_im_le_norm _).trans hb
  have e : (Complex.exp ((x : ℂ) * Complex.I) - ∑ m ∈ Finset.range 11, ((x : ℂ) * Complex.I) ^ m / (m.factorial : ℂ)).im
      = Real.sin x - tay x := by
    have hs : (∑ m ∈ Finset.range 11, ((x : ℂ) * Complex.I) ^ m / (m.factorial : ℂ))
        = ((1 - x ^ 2 / 2 + x ^ 4 / 24 - x ^ 6 / 720 + x ^ 8 / 40320 - x ^ 10 / 3628800 : ℝ) : ℂ) + ((tay x : ℝ) : ℂ) * Complex.I := by
      have i2 : Complex.I ^ 2 = -1 := Complex.I_sq
      have i3 : Complex.I ^ 3 = -Complex.I := by rw [pow_succ, i2]; ring
      have i4 : Complex.I ^ 4 = 1 := by rw [pow_succ, i3]; linear_combination -i2
      have i5 : Complex.I ^ 5 = Complex.I := by rw [pow_succ, i4]; ring
      have i6 : Complex.I ^ 6 = -1 := by rw [pow_succ, i5]; linear_combination i2
      have i7 : Complex.I ^ 7 = -Complex.I := by rw [pow_succ, i6]; ring
      have i8 : Complex.I ^ 8 = 1 := by rw [pow_succ, i7]; linear_combination -i2
      have i9 : Complex.I ^ 9 = Complex.I := by rw [pow_succ, i8]; ring
      have i10 : Complex.I ^ 10 = -1 := by rw [pow_succ, i9]; linear_combination i2
      simp only [Finset.sum_range_succ, Finset.sum_range_zero, mul_pow, i2, i3, i4, i5, i6, i7, i8, i9, i10, Nat.factorial, tay]
      push_cast
      ring
    rw [Complex.sub_im, Complex.exp_ofReal_mul_I_im, hs, Complex.add_im, Complex.ofReal_im, Complex.im_ofReal_mul, Complex.I_im, mul_one, zero_add]
  rw [e] at him
  refine him.trans (le_of_eq ?_)
  norm_num [Nat.factorial]
  ring

theorem sin_small (t : ℝ) (h : |t| ≤ 1) : |Real.sin t| ≤ |t| := by
  have key : ∀ u : ℝ, 0 ≤ u → u ≤ 1 → |Real.sin u| ≤ u := fun u h0 h1 => by
    have hb := abs_le.mp (Real.sin_bound (x := u) (by rw [abs_of_nonneg h0]; exact h1))
    rw [abs_of_nonneg h0] at hb
    have q3 : 0 ≤ u ^ 3 := pow_nonneg h0 3
    have q5 : u ^ 5 ≤ u ^ 3 := pow_le_pow_of_le_one h0 h1 (by norm_num)
    have q1 : u ^ 3 ≤ u := by simpa using pow_le_pow_of_le_one h0 h1 (show 1 ≤ 3 by norm_num)
    rw [abs_le]; constructor <;> linarith [hb.1, hb.2]
  rcases le_total 0 t with h0 | h0
  · rw [abs_of_nonneg h0] at h ⊢; exact key t h0 h
  · rw [abs_of_nonpos h0] at h ⊢
    have := key (-t) (neg_nonneg.mpr h0) h
    rwa [Real.sin_neg, abs_neg] at this

/-- The sine does not stretch. -/
theorem sin_lip (a b : ℝ) (h : |a - b| ≤ 1) : |Real.sin a - Real.sin b| ≤ |a - b| := by
  have e : |(a - b) / 2| = |a - b| / 2 := by rw [abs_div, abs_two]
  have hs := sin_small ((a - b) / 2) (by rw [e]; linarith)
  rw [Real.sin_sub_sin, abs_mul, abs_mul, abs_two]
  rw [e] at hs
  calc 2 * |Real.sin ((a - b) / 2)| * |Real.cos ((a + b) / 2)| ≤ 2 * |Real.sin ((a - b) / 2)| * 1 :=
        mul_le_mul_of_nonneg_left (Real.abs_cos_le_one _) (by positivity)
    _ ≤ |a - b| := by linarith

theorem pi_lower : 3.14159265 < Real.pi := by
  by_contra hc
  have h3 := Real.two_le_pi
  have hm : Real.sin (Real.pi / 6) ≤ Real.sin 0.523598775 :=
    Real.strictMonoOn_sin.monotoneOn ⟨by linarith, by linarith⟩ ⟨by linarith, by norm_num; linarith⟩ (by norm_num; linarith)
  rw [Real.sin_pi_div_six] at hm
  have ht := (abs_le.mp (taylor_near 0.523598775 (by norm_num) (by norm_num))).2
  norm_num [tay] at ht hm
  linarith

theorem pi_upper : Real.pi < 3.141592656 := by
  by_contra hc
  have h3 := Real.two_le_pi
  have h4 := Real.pi_le_four
  have hm : Real.sin 0.523598776 ≤ Real.sin (Real.pi / 6) :=
    Real.strictMonoOn_sin.monotoneOn ⟨by linarith, by norm_num; linarith⟩ ⟨by linarith, by linarith⟩ (by norm_num; linarith)
  rw [Real.sin_pi_div_six] at hm
  have ht := (abs_le.mp (taylor_near 0.523598776 (by norm_num) (by norm_num))).1
  norm_num [tay] at ht hm
  linarith

/-- The kernel's polynomial factor. -/
def pol (y : ℝ) : ℝ := (((cA * (y * y) + cB) * (y * y) + cC) * (y * y) + cD) * (y * y) + 1

theorem pol_near (y : ℝ) (h0 : 0 ≤ y) (h1 : y ≤ 1.5708) : |Real.sin y - y * pol y| ≤ 7.3e-6 := by
  have ht := taylor_near y h0 (h1.trans (by norm_num))
  have h11 : y ^ 11 ≤ 1.5708 ^ 11 := pow_le_pow_left₀ h0 h1 11
  have p3 : y ^ 3 ≤ 1.5708 ^ 3 := pow_le_pow_left₀ h0 h1 3
  have p5 : y ^ 5 ≤ 1.5708 ^ 5 := pow_le_pow_left₀ h0 h1 5
  have p7 : y ^ 7 ≤ 1.5708 ^ 7 := pow_le_pow_left₀ h0 h1 7
  have p9 : y ^ 9 ≤ 1.5708 ^ 9 := pow_le_pow_left₀ h0 h1 9
  have q3 : 0 ≤ y ^ 3 := pow_nonneg h0 3
  have q5 : 0 ≤ y ^ 5 := pow_nonneg h0 5
  have q7 : 0 ≤ y ^ 7 := pow_nonneg h0 7
  have q9 : 0 ≤ y ^ 9 := pow_nonneg h0 9
  have e : y * pol y = y + cD * y ^ 3 + cC * y ^ 5 + cB * y ^ 7 + cA * y ^ 9 := by unfold pol; ring
  rw [abs_le] at ht ⊢
  rw [e]
  unfold tay at ht
  unfold cA cB cC cD
  norm_num at h11 p3 p5 p7 p9 ht ⊢
  constructor <;> linarith [ht.1, ht.2]

/-- The kernel's sine: two reductions, then the polynomial. -/
def ksSign (x : ℝ) : ℝ := if cPi < x then -1 else 1
def ksFst (x : ℝ) : ℝ := if cPi < x then x - cPi else x
def ksArg (x : ℝ) : ℝ := if cHalf < ksFst x then cPi - ksFst x else ksFst x
def ks (x : ℝ) : ℝ := ksSign x * ksArg x * pol (ksArg x)

theorem cPi_near : |cPi - Real.pi| ≤ 1e-7 := by
  have := pi_lower; have := pi_upper
  rw [abs_le]; unfold cPi; norm_num at *; constructor <;> linarith

theorem ks_near (x : ℝ) (h0 : 0 ≤ x) (h1 : x ≤ 4.76) : |ks x - Real.sin x| ≤ 7.5e-6 := by
  have hpi := abs_le.mp cPi_near
  have hf0 : 0 ≤ ksFst x ∧ ksFst x ≤ cPi := by
    unfold ksFst; split_ifs with h
    · exact ⟨by linarith, by unfold cPi at *; norm_num at *; linarith⟩
    · exact ⟨h0, not_lt.mp h⟩
  have ha : 0 ≤ ksArg x ∧ ksArg x ≤ 1.5708 := by
    unfold ksArg; split_ifs with h
    · exact ⟨by linarith [hf0.2], by unfold cPi cHalf at *; norm_num at *; linarith⟩
    · exact ⟨hf0.1, (not_lt.mp h).trans (by unfold cHalf; norm_num)⟩
  have hp := pol_near _ ha.1 ha.2
  have s1 : |Real.sin (ksArg x) - Real.sin (ksFst x)| ≤ 1e-7 := by
    unfold ksArg; split_ifs with h
    · rw [← Real.sin_pi_sub (ksFst x)]
      have e : cPi - ksFst x - (Real.pi - ksFst x) = cPi - Real.pi := by ring
      exact (sin_lip _ _ (by rw [e]; exact cPi_near.trans (by norm_num))).trans (by rw [e]; exact cPi_near)
    · rw [sub_self, abs_zero]; norm_num
  have s2 : |ksSign x * Real.sin (ksFst x) - Real.sin x| ≤ 1e-7 := by
    unfold ksSign ksFst; split_ifs with h
    · rw [show Real.sin x = -Real.sin (x - Real.pi) by rw [Real.sin_sub_pi, neg_neg],
        show (-1) * Real.sin (x - cPi) - -Real.sin (x - Real.pi) = Real.sin (x - Real.pi) - Real.sin (x - cPi) by ring]
      have e : x - Real.pi - (x - cPi) = cPi - Real.pi := by ring
      exact (sin_lip _ _ (by rw [e]; exact cPi_near.trans (by norm_num))).trans (by rw [e]; exact cPi_near)
    · rw [one_mul, sub_self, abs_zero]; norm_num
  have hs : |ksSign x| = 1 := by unfold ksSign; split_ifs <;> simp
  have e : ks x - Real.sin x = ksSign x * (ksArg x * pol (ksArg x) - Real.sin (ksArg x))
      + ksSign x * (Real.sin (ksArg x) - Real.sin (ksFst x)) + (ksSign x * Real.sin (ksFst x) - Real.sin x) := by unfold ks; ring
  rw [e]
  refine (abs_add_three _ _ _).trans ?_
  rw [abs_mul, abs_mul, hs, one_mul, one_mul, abs_sub_comm]
  norm_num at *
  linarith

/-! ## The phase -/

theorem log_two_lower : 0.69314718 < Real.log 2 := by
  rw [Real.lt_log_iff_exp_lt (by norm_num)]
  have h := Real.exp_bound' (x := 0.69314718) (by norm_num) (by norm_num) (n := 12) (by norm_num)
  refine h.trans_lt ?_
  norm_num [Finset.sum_range_succ, Nat.factorial]

theorem log_two_upper : Real.log 2 < 0.693147181 := by
  rw [Real.log_lt_iff_lt_exp (by norm_num)]
  refine lt_of_lt_of_le ?_ (Real.sum_le_exp_of_nonneg (x := 0.693147181) (by norm_num) 12)
  norm_num [Finset.sum_range_succ, Nat.factorial]

theorem cLog_near : |cLog * Real.log 2 - 1| ≤ 2e-8 := by
  have := log_two_lower; have := log_two_upper
  rw [abs_le]; unfold cLog; norm_num at *; constructor <;> linarith

theorem log_base (b : ℝ) (h0 : 1 / 10000 ≤ b) (h1 : b ≤ 10) : |Real.log b| ≤ 10 := by
  have hb : 0 < b := lt_of_lt_of_le (by norm_num) h0
  have hu := Real.log_le_sub_one_of_pos hb
  have hl : Real.log ((2 ^ 14 : ℝ)⁻¹) ≤ Real.log b := Real.log_le_log (by norm_num) (le_trans (by norm_num) h0)
  rw [Real.log_inv, Real.log_pow] at hl
  have := log_two_upper
  rw [abs_le]; norm_num at *; constructor <;> linarith

theorem log_shift (b : ℝ) (hb : 0 < b) : |Real.log (b * 10000 * cBase) - Real.log b| ≤ 3e-8 := by
  have e : Real.log (b * 10000 * cBase) - Real.log b = Real.log (10000 * cBase) := by
    rw [mul_assoc, Real.log_mul hb.ne' (by unfold cBase; norm_num)]; ring
  rw [e]
  have hp : (0 : ℝ) < 10000 * cBase := by unfold cBase; norm_num
  have hu := Real.log_le_sub_one_of_pos hp
  have hl := Real.one_sub_inv_le_log_of_pos hp
  rw [abs_le]; unfold cBase at *; norm_num at *; constructor <;> linarith

/-- The power the reference takes, and what the kernel computes in its place. -/
def pw (b e : ℝ) : ℝ := b ^ e
def kp (b e : ℝ) : ℝ := (2 : ℝ) ^ (e * (Real.log (b * 10000 * cBase) * cLog))

theorem pw_nonneg (b e : ℝ) (h0 : 0 ≤ b) : 0 ≤ pw b e := Real.rpow_nonneg h0 e

theorem pw_le (b e : ℝ) (h0 : 0 ≤ b) (h1 : b ≤ 10) (e0 : 0 ≤ e) (e1 : e ≤ 1 / 2) : pw b e ≤ 3.17 := by
  unfold pw
  refine (Real.rpow_le_rpow h0 h1 e0).trans ?_
  refine (Real.rpow_le_rpow_of_exponent_le (by norm_num) e1).trans ?_
  rw [← Real.sqrt_eq_rpow, Real.sqrt_le_left (by norm_num)]
  norm_num

theorem kp_near (b e : ℝ) (h0 : 1 / 10000 ≤ b) (h1 : b ≤ 10) (e0 : 0 ≤ e) (e1 : e ≤ 1 / 2) : |kp b e - pw b e| ≤ 1e-6 := by
  have hb : 0 < b := lt_of_lt_of_le (by norm_num) h0
  have hl := log_base b h0 h1
  have hs := log_shift b hb
  have hc := cLog_near
  have hp := pw_le b e hb.le h1 e0 e1
  have hp0 := pw_nonneg b e hb.le
  set L := Real.log b with hL
  set L' := Real.log (b * 10000 * cBase) with hL'
  have hd : |e * (L' * (cLog * Real.log 2)) - e * L| ≤ 1.5e-7 := by
    have e2 : e * (L' * (cLog * Real.log 2)) - e * L = e * ((L' - L) * (cLog * Real.log 2 - 1) + (L' - L) + L * (cLog * Real.log 2 - 1)) := by ring
    rw [e2, abs_mul, abs_of_nonneg e0]
    have t1 : |(L' - L) * (cLog * Real.log 2 - 1)| ≤ 3e-8 * 2e-8 := by
      rw [abs_mul]; exact mul_le_mul hs hc (abs_nonneg _) (by norm_num)
    have t2 : |L * (cLog * Real.log 2 - 1)| ≤ 10 * 2e-8 := by
      rw [abs_mul]; exact mul_le_mul hl hc (abs_nonneg _) (by norm_num)
    have t3 := abs_add_three ((L' - L) * (cLog * Real.log 2 - 1)) (L' - L) (L * (cLog * Real.log 2 - 1))
    calc e * |(L' - L) * (cLog * Real.log 2 - 1) + (L' - L) + L * (cLog * Real.log 2 - 1)|
        ≤ (1 / 2) * (3e-8 * 2e-8 + 3e-8 + 10 * 2e-8) := mul_le_mul e1 (t3.trans (by linarith)) (abs_nonneg _) (by norm_num)
      _ ≤ 1.5e-7 := by norm_num
  have hx := Real.abs_exp_sub_one_le (x := e * (L' * (cLog * Real.log 2)) - e * L) (hd.trans (by norm_num))
  have e3 : kp b e - pw b e = pw b e * (Real.exp (e * (L' * (cLog * Real.log 2)) - e * L) - 1) := by
    unfold kp pw
    rw [Real.rpow_def_of_pos (by norm_num : (0 : ℝ) < 2), Real.rpow_def_of_pos hb, mul_sub, mul_one, ← Real.exp_add]
    congr 2
    ring
  rw [e3, abs_mul, abs_of_nonneg hp0]
  calc pw b e * |Real.exp (e * (L' * (cLog * Real.log 2)) - e * L) - 1| ≤ 3.17 * (2 * 1.5e-7) :=
        mul_le_mul hp (hx.trans (by linarith)) (abs_nonneg _) (by norm_num)
    _ ≤ 1e-6 := by norm_num

/-! ## Together -/

theorem sin_near (x p : ℝ) (hx : 0 ≤ x) (hp : p ≤ 3.17) (h : |x - p| ≤ 1e-6) : |ks x - Real.sin p| ≤ 9e-6 := by
  have h1 := abs_le.mp h
  have hk := ks_near x hx (by norm_num at *; linarith)
  have hl := sin_lip x p (h.trans (by norm_num))
  have e : ks x - Real.sin p = (ks x - Real.sin x) + (Real.sin x - Real.sin p) := by ring
  rw [e]
  refine (abs_add_le _ _).trans ?_
  norm_num at *; linarith

theorem cos_near (x p : ℝ) (hx : 0 ≤ x) (hp : p ≤ 3.17) (h : |x - p| ≤ 1e-6) : |ks (x + cHalf) - Real.cos p| ≤ 9e-6 := by
  have h1 := abs_le.mp h
  have hpi := abs_le.mp cPi_near
  have hd : |x + cHalf - (p + Real.pi / 2)| ≤ 1.1e-6 := by
    rw [abs_le]; unfold cPi at hpi; unfold cHalf; norm_num at *; constructor <;> linarith [h1.1, h1.2, hpi.1, hpi.2]
  have hk := ks_near (x + cHalf) (add_nonneg hx (by unfold cHalf; norm_num)) (by unfold cHalf; norm_num at *; linarith)
  have hl := sin_lip _ _ (hd.trans (by norm_num))
  rw [← Real.sin_add_pi_div_two]
  have e : ks (x + cHalf) - Real.sin (p + Real.pi / 2) = (ks (x + cHalf) - Real.sin (x + cHalf)) + (Real.sin (x + cHalf) - Real.sin (p + Real.pi / 2)) := by ring
  rw [e]
  refine (abs_add_le _ _).trans ?_
  norm_num at *; linarith

end Cert.Proof.Kernel
end
-- ==== Proof.Kernel.Table.lean ====
/-
  The table the region leaves, over the reals: entry `(r, c)` is the kernel's sine of its phase.

  Every operation of the body is pointwise, so an entry is one expression in the words of its row and lane; the words are the
  row, half the lane and the lane's parity, every intermediate value is finite but the logarithm of zero, and that one is
  multiplied by a positive exponent and raised, which is zero.
-/
module

public import proofs.«01_k».proof.Proof.Kernel.Region
public import proofs.«01_k».proof.Proof.Kernel.Sine
public import proofs.«01_k».proof.Proof.Gather.Ref
public import Idealize.ShloMosaic.PureOps.Ideal
public import Idealize.ShloMosaic.Lib.IdealHost

@[expose] public section

set_option maxRecDepth 16384

noncomputable section

namespace Cert.Proof.Kernel

open Cert.KernelIdeal Cert.KernelIdeal.Gen
open Idealize.ShloMosaic

/-! ## One entry, in words -/

/-- A pattern's value. -/
abbrev ofB (b : BitVec 32) : EReal := Ideal.ofBits .f32 b

/-- Half the lane, rounded down, as the body computes it. -/
def kW (w : BitVec 32) : BitVec 32 :=
  Scalar.select (IntOp.andi (IntOp.cmpi .ne (IntOp.subi ((IntOp.cmpi .sgt w 0#32).zeroExtend 32) ((IntOp.cmpi .slt w 0#32).zeroExtend 32))
        (Scalar.subi (Scalar.extui (Scalar.cmpi .sgt 2#32 0#32)) (Scalar.extui (Scalar.cmpi .slt 2#32 0#32))))
      (IntOp.cmpi .ne (IntOp.remsi .vector w 2#32) 0#32))
    (IntOp.subi (IntOp.divsi .vector w 2#32) 1#32) (IntOp.divsi .vector w 2#32)
/-- The lane's remainder by two, as the body computes it. -/
def pW (w : BitVec 32) : BitVec 32 :=
  let two : BitVec 32 := Scalar.select (Scalar.cmpi .eq 2#32 0#32) 1#32 2#32
  Scalar.select (IntOp.andi (IntOp.xori (IntOp.cmpi .slt (IntOp.remsi .vector w two) 0#32) (Scalar.cmpi .slt two 0#32)) (IntOp.cmpi .ne (IntOp.remsi .vector w two) 0#32))
    (IntOp.addi (IntOp.remsi .vector w two) two) (IntOp.remsi .vector w two)
/-- The row, as the body computes it from its block and the row in it. -/
def rW (i j : ℕ) : BitVec 32 := IntOp.addi (BitVec.ofNat 32 j) (Scalar.muli (BitVec.ofNat 32 i) 4000#32)

/-- The phase of row word `rw` at exponent word `kw`. -/
def phE (rw kw : BitVec 32) : EReal :=
  Scalar.select (IntOp.cmpi .eq kw 0#32) (ofB 0x3F800000#32)
    (Ideal.exp2 (((kw.toInt : ℝ) : EReal) * ofB 0x3C000000#32 * (Ideal.log (((rw.toInt : ℝ) : EReal) * ofB 0x38D1B717#32) * ofB 0x3FB8AA3B#32)))
/-- The sine's argument: the phase, a quarter turn more on odd lanes. -/
def xE (p : EReal) (q : BitVec 32) : EReal := p + Scalar.select (IntOp.cmpi .eq q 0#32) (ofB 0x00000000#32) (ofB 0x3FC90FDB#32)

/-- The argument once folded, and twice folded. -/
def fstE (x : EReal) : EReal := Scalar.select (Ideal.cmp .ogt x (ofB 0x40490FDB#32)) (x - ofB 0x40490FDB#32) x
def argE (x : EReal) : EReal := Scalar.select (Ideal.cmp .ogt (fstE x) (ofB 0x3FC90FDB#32)) (ofB 0x40490FDB#32 - fstE x) (fstE x)
def sgnE (x : EReal) : EReal := Scalar.select (Ideal.cmp .ogt x (ofB 0x40490FDB#32)) (ofB 0xBF800000#32) (ofB 0x3F800000#32)
def polE (y : EReal) : EReal :=
  (((ofB 0x3638EF1D#32 * (y * y) + ofB 0xB9500D01#32) * (y * y) + ofB 0x3C088889#32) * (y * y) + ofB 0xBE2AAAAB#32) * (y * y) + ofB 0x3F800000#32
def ksE (x : EReal) : EReal := sgnE x * argE x * polE (argE x)

theorem pay2_apply (i : grid0.Coords) (j : S4000x128.Idx) :
    k0_pay2 (F := Ideal) i j = phE (rW (i 0).val (0 * 4000 + (j 0).val)) (kW (BitVec.ofNat 32 (0 * 128 + (j 1).val))) := rfl

theorem pay3_apply (v : FVec Ideal S4000x128 .f32) (j : S4000x128.Idx) :
    k0_pay3 (F := Ideal) laneV v 2#32 0#32 j = xE (v j) (pW (BitVec.ofNat 32 (0 * 128 + (j 1).val))) := rfl

theorem blkV_apply (i : grid0.Coords) (j : S4000x128.Idx) :
    blkV (F := Ideal) i j = ksE (k0_pay3 (F := Ideal) laneV (k0_pay2 i) 2#32 0#32 j) := rfl

/-! ## The words -/

theorem kW_lane : ∀ c : Fin 128, (kW (BitVec.ofNat 32 (0 * 128 + c.val))).toInt = ((c.val / 2 : ℕ) : ℤ)
    ∧ (IntOp.cmpi .eq (kW (BitVec.ofNat 32 (0 * 128 + c.val))) 0#32 = 1#1 ↔ c.val / 2 = 0) := by decide +kernel
theorem pW_lane : ∀ c : Fin 128, IntOp.cmpi .eq (pW (BitVec.ofNat 32 (0 * 128 + c.val))) 0#32 = 1#1 ↔ c.val % 2 = 0 := by decide +kernel

theorem rW_row (r : ℕ) (h : r < 100000) : (rW (r / 4000) (0 * 4000 + r % 4000)).toInt = (r : ℤ) := by
  have e : rW (r / 4000) (0 * 4000 + r % 4000) = BitVec.ofNat 32 r := by
    show BitVec.ofNat 32 (0 * 4000 + r % 4000) + BitVec.ofNat 32 (r / 4000) * BitVec.ofNat 32 4000 = _
    rw [← BitVec.ofNat_mul, ← BitVec.ofNat_add]
    congr 1
    omega
  rw [e, BitVec.toInt_eq_toNat_cond, BitVec.toNat_ofNat, Nat.mod_eq_of_lt (by omega), if_pos (by omega)]

/-! ## The constants -/

theorem c_one : ofB 0x3F800000#32 = ((1 : ℝ) : EReal) := by
  simp [ofB, Ideal.ofBits, Ideal.ieee, -EReal.coe_mul, -EReal.coe_neg]; norm_num
theorem c_neg : ofB 0xBF800000#32 = ((-1 : ℝ) : EReal) := by
  simp [ofB, Ideal.ofBits, Ideal.ieee, -EReal.coe_mul, -EReal.coe_neg]; norm_num
theorem c_zero : ofB 0x00000000#32 = ((0 : ℝ) : EReal) := by
  simp [ofB, Ideal.ofBits, Ideal.ieee]
theorem c_pi : ofB 0x40490FDB#32 = (cPi : EReal) := by
  simp [ofB, Ideal.ofBits, Ideal.ieee, cPi, -EReal.coe_mul, -EReal.coe_neg]; norm_num
theorem c_half : ofB 0x3FC90FDB#32 = (cHalf : EReal) := by
  simp [ofB, Ideal.ofBits, Ideal.ieee, cHalf, -EReal.coe_mul, -EReal.coe_neg]; norm_num
theorem c_A : ofB 0x3638EF1D#32 = (cA : EReal) := by
  simp [ofB, Ideal.ofBits, Ideal.ieee, cA, -EReal.coe_mul, -EReal.coe_neg]; norm_num
theorem c_B : ofB 0xB9500D01#32 = (cB : EReal) := by
  simp [ofB, Ideal.ofBits, Ideal.ieee, cB, -EReal.coe_mul, -EReal.coe_neg]; norm_num
theorem c_C : ofB 0x3C088889#32 = (cC : EReal) := by
  simp [ofB, Ideal.ofBits, Ideal.ieee, cC, -EReal.coe_mul, -EReal.coe_neg]; norm_num
theorem c_D : ofB 0xBE2AAAAB#32 = (cD : EReal) := by
  simp [ofB, Ideal.ofBits, Ideal.ieee, cD, -EReal.coe_mul, -EReal.coe_neg]; norm_num
theorem c_base : ofB 0x38D1B717#32 = (cBase : EReal) := by
  simp [ofB, Ideal.ofBits, Ideal.ieee, cBase, -EReal.coe_mul, -EReal.coe_neg]; norm_num
theorem c_log : ofB 0x3FB8AA3B#32 = (cLog : EReal) := by
  simp [ofB, Ideal.ofBits, Ideal.ieee, cLog, -EReal.coe_mul, -EReal.coe_neg]; norm_num
theorem c_step : ofB 0x3C000000#32 = ((1 / 128 : ℝ) : EReal) := by
  simp [ofB, Ideal.ofBits, Ideal.ieee, -EReal.coe_mul, -EReal.coe_neg]; norm_num
theorem c_tol : ofB 0x3727C5AC#32 = ((10995116 / 2 ^ 40 : ℝ) : EReal) := by
  simp [ofB, Ideal.ofBits, Ideal.ieee, -EReal.coe_mul, -EReal.coe_neg]; norm_num
theorem c_tenk : ofB 0x461C4000#32 = ((10000 : ℝ) : EReal) := by
  simp [ofB, Ideal.ofBits, Ideal.ieee, -EReal.coe_mul, -EReal.coe_neg]; norm_num
theorem c_lanes : ofB 0x43000000#32 = ((128 : ℝ) : EReal) := by
  simp [ofB, Ideal.ofBits, Ideal.ieee, -EReal.coe_mul, -EReal.coe_neg]; norm_num

/-! ## The sine -/

theorem sel_iff {P : Prop} [Decidable P] {α : Type} (b : BitVec 1) (h : b = 1#1 ↔ P) (u v : α) : Scalar.select b u v = if P then u else v := by
  unfold Scalar.select
  by_cases hP : P
  · rw [if_pos hP]; exact if_pos (h.mpr hP)
  · rw [if_neg hP]; exact if_neg fun e => hP (h.mp e)

theorem sel_gt (a b : ℝ) (u v : EReal) : Scalar.select (Ideal.cmp .ogt (a : EReal) (b : EReal)) u v = if b < a then u else v := by
  unfold Scalar.select Ideal.cmp
  by_cases h : b < a
  · simp [h]
  · simp [h]

theorem fstE_coe (x : ℝ) : fstE x = (ksFst x : EReal) := by
  unfold fstE ksFst
  rw [c_pi, sel_gt]
  split <;> simp
theorem argE_coe (x : ℝ) : argE x = (ksArg x : EReal) := by
  unfold argE ksArg
  rw [fstE_coe, c_half, sel_gt, c_pi]
  split <;> simp
theorem sgnE_coe (x : ℝ) : sgnE x = (ksSign x : EReal) := by
  unfold sgnE ksSign
  rw [c_pi, sel_gt, c_one, c_neg]
  split <;> rfl
theorem polE_coe (y : ℝ) : polE y = (pol y : EReal) := by
  unfold polE pol
  rw [c_A, c_B, c_C, c_D, c_one]
  norm_cast
theorem ksE_coe (x : ℝ) : ksE x = (ks x : EReal) := by
  unfold ksE ks
  rw [sgnE_coe, argE_coe, polE_coe]
  norm_cast

/-! ## The phase -/

/-- The phase over the reals, of row `r` at exponent `k / 128`. -/
def phR (r k : ℕ) : ℝ := if k = 0 then 1 else if r = 0 then 0 else kp ((r : ℝ) / 10000) ((k : ℝ) / 128)

theorem phE_coe (rw kw : BitVec 32) (r k : ℕ) (hr : rw.toInt = (r : ℤ)) (hk : kw.toInt = (k : ℤ)) (h0 : IntOp.cmpi .eq kw 0#32 = 1#1 ↔ k = 0) :
    phE rw kw = (phR r k : EReal) := by
  unfold phE phR
  rw [sel_iff _ h0]
  by_cases hk0 : k = 0
  · rw [if_pos hk0, if_pos hk0, c_one]
  · rw [if_neg hk0, if_neg hk0, hr, hk, c_step, c_base, c_log]
    have kp0 : (0 : ℝ) < (k : ℝ) * (1 / 128) := by
      have : (0 : ℝ) < (k : ℝ) := by exact_mod_cast Nat.pos_of_ne_zero hk0
      linarith
    simp only [Int.cast_natCast]
    by_cases hr0 : r = 0
    · rw [if_pos hr0, hr0]
      rw [← EReal.coe_mul, ← EReal.coe_mul]
      have e : Ideal.log (((((0 : ℕ) : ℝ) * cBase : ℝ)) : EReal) = ⊥ := by
        show (if ((0 : ℕ) : ℝ) * cBase ≤ 0 then (⊥ : EReal) else _) = ⊥
        rw [if_pos (by simp)]
      rw [e, EReal.bot_mul_coe_of_pos (by unfold cLog; norm_num), EReal.coe_mul_bot_of_pos kp0]
      rfl
    · rw [if_neg hr0, ← EReal.coe_mul, ← EReal.coe_mul]
      have rp : (0 : ℝ) < (r : ℝ) := by exact_mod_cast Nat.pos_of_ne_zero hr0
      have e : Ideal.log (((r : ℝ) * cBase : ℝ) : EReal) = (Real.log ((r : ℝ) * cBase) : EReal) := by
        show (if (r : ℝ) * cBase ≤ 0 then (⊥ : EReal) else _) = _
        rw [if_neg (not_le.mpr (mul_pos rp (by unfold cBase; norm_num)))]
      rw [e, ← EReal.coe_mul, ← EReal.coe_mul]
      show ((((2 : ℝ) ^ ((k : ℝ) * (1 / 128) * (Real.log ((r : ℝ) * cBase) * cLog)) : ℝ)) : EReal) = _
      unfold kp
      congr 3
      · ring
      · rw [div_mul_cancel₀ _ (by norm_num : (10000 : ℝ) ≠ 0)]

/-- The reference's phase of row `r` at exponent `k / 128`. -/
abbrev phS (r k : ℕ) : ℝ := pw ((r : ℝ) / 10000) ((k : ℝ) / 128)

theorem phR_nonneg (r k : ℕ) : 0 ≤ phR r k := by
  unfold phR
  split
  · norm_num
  split
  · exact le_refl 0
  · unfold kp; positivity

theorem row_bounds (r : ℕ) (h : r < 100000) : 0 ≤ (r : ℝ) / 10000 ∧ (r : ℝ) / 10000 ≤ 10 := by
  have : (r : ℝ) ≤ 100000 := by exact_mod_cast h.le
  constructor
  · positivity
  · linarith
theorem lane_bounds (k : ℕ) (h : k ≤ 63) : 0 ≤ (k : ℝ) / 128 ∧ (k : ℝ) / 128 ≤ 1 / 2 := by
  have : (k : ℝ) ≤ 63 := by exact_mod_cast h
  constructor
  · positivity
  · linarith

theorem phR_near (r k : ℕ) (hr : r < 100000) (hk : k ≤ 63) : |phR r k - phS r k| ≤ 1e-6 := by
  unfold phR
  by_cases hk0 : k = 0
  · rw [if_pos hk0, hk0]; unfold phS pw; simp; norm_num
  rw [if_neg hk0]
  have kp0 : (0 : ℝ) < (k : ℝ) / 128 := by
    have : (0 : ℝ) < (k : ℝ) := by exact_mod_cast Nat.pos_of_ne_zero hk0
    linarith
  by_cases hr0 : r = 0
  · rw [if_pos hr0, hr0]; unfold phS pw
    rw [Nat.cast_zero, _root_.zero_div, Real.zero_rpow kp0.ne']; norm_num
  rw [if_neg hr0]
  have rp : (1 : ℝ) ≤ (r : ℝ) := by exact_mod_cast Nat.one_le_iff_ne_zero.mpr hr0
  exact kp_near _ _ (by linarith) (row_bounds r hr).2 (lane_bounds k hk).1 (lane_bounds k hk).2

/-! ## The table -/

/-- What the reference's table holds at row `r`, lane `c`. -/
def refR (r c : ℕ) : ℝ := if c % 2 = 0 then Real.sin (phS r (c / 2)) else Real.cos (phS r (c / 2))

/-- THE TABLE'S ENTRY is within `9e-6` of the reference's. -/
theorem tblV_near (r : Fin 100000) (c : Fin 128) : ∃ t : ℝ, tblV (F := Ideal) (Gather.tab2 r c) = (t : EReal) ∧ |t - refR r.val c.val| ≤ 9e-6 := by
  have hr := r.isLt
  have hk : c.val / 2 ≤ 63 := by have := c.isLt; omega
  have hp := phR_near r.val (c.val / 2) hr hk
  have hle := pw_le _ _ (row_bounds r.val hr).1 (row_bounds r.val hr).2 (lane_bounds _ hk).1 (lane_bounds _ hk).2
  have e : tblV (F := Ideal) (Gather.tab2 r c) = ksE (xE (phR r.val (c.val / 2)) (pW (BitVec.ofNat 32 (0 * 128 + c.val)))) := by
    unfold tblV
    rw [blkV_apply, pay3_apply, pay2_apply]
    rw [show phE (rW ((ptC ⟨(Gather.tab2 r c 0).val / 4000, _⟩ : grid0.Coords) 0).val (0 * 4000 + (inBlk (Gather.tab2 r c) 0).val))
        (kW (BitVec.ofNat 32 (0 * 128 + (inBlk (Gather.tab2 r c) 1).val))) = (phR r.val (c.val / 2) : EReal) from
      phE_coe _ _ _ _ (rW_row r.val hr) (kW_lane c).1 (kW_lane c).2]
  unfold refR
  by_cases hc : c.val % 2 = 0
  · refine ⟨ks (phR r.val (c.val / 2)), ?_, ?_⟩
    · rw [e, ← ksE_coe]; unfold xE
      rw [sel_iff _ (pW_lane c), if_pos hc, c_zero, ← EReal.coe_add, add_zero]
    · rw [if_pos hc]; exact sin_near _ _ (phR_nonneg _ _) hle hp
  · refine ⟨ks (phR r.val (c.val / 2) + cHalf), ?_, ?_⟩
    · rw [e, ← ksE_coe]; unfold xE
      rw [sel_iff _ (pW_lane c), if_neg hc, c_half, ← EReal.coe_add]
    · rw [if_neg hc]; exact cos_near _ _ (phR_nonneg _ _) hle hp

end Cert.Proof.Kernel

end
-- ==== Proof.Kernel.Near.lean ====
/-
  The whole kernel's result against the reference's arithmetic: every entry within the tolerance.

  The reference's own table, read over the reals, is the sine and cosine of its power at each row and lane; the rows taken are
  the same rows; so the difference of an entry is the difference of two table entries.
-/
module

public import proofs.«01_k».proof.Defs
public import proofs.«01_k».proof.Post_close_to_reference
public import proofs.«01_k».proof.Proof.Kernel.Table
public import proofs.«01_k».proof.Proof.Kernel.Value
public import Idealize.ShloMosaic.Lib.Pipeline.Value
public import Idealize.ShloMosaic.Lib.ReduceAll

@[expose] public section

set_option maxRecDepth 16384

noncomputable section

namespace Cert.Proof.Kernel

open Idealize.ShloMosaic Idealize.SL.Sem

/-! ## The side conditions of the reference's arithmetic -/

section Facts
open Cert.Post_close_to_reference

/-- Each is a statement about shapes alone. -/
instance postFacts : Cert.Post_close_to_reference.Facts where
  bcast_S_S100000 := by decide
  bcast_S100000_S100000x1_0 := by decide
  bcast_S_S64 := by decide
  bcast_S64_S1x64_1 := by decide
  bcast_S100000x1_S100000x64_0_1 := by decide
  bcast_S1x64_S100000x64_0_1 := by decide
  bcast_S100000x64_S100000x64x1_0_1 := by decide
  concatenates_S100000x64x1_S100000x64x1_S100000x64x2_d2 := by decide
  shapeCasts_S100000x64x2_S100000x128 := by decide
  bcast_S_S16384x50 := by decide
  bcast_S16384x50_S16384x50x1_0_1 := by decide
  bcast_S_S16384x50x1 := by decide
  bcast_S1_S1x1x1_2 := by decide
  bcast_S1x1x1_S16384x50x1_0_1_2 := by decide
  reducesTo_S16384x50x1_S16384x50_d2 := by decide
  h_S_ := by decide
  bcast_S16384x50_S16384x50x128_0_1 := by decide
  bcast_S_S16384x50x128 := by decide
  reducesTo_S16384x50x128_S_d0_1_2 := by decide
  gather_S100000x128_S16384x50x1_S16384x50x128_2_0_n_n_0_2_1128_wf := by decide

end Facts

/-! ## The reference's table -/

section Table
open Cert.Post_close_to_reference Cert.Post_close_to_reference.Facts

/-- The reference's power, of every row and exponent. -/
def refP : FVec Ideal S100000x64 .f32 :=
  Host.powf
    (broadcastInDim S100000x64 ![0, 1] bcast_S100000x1_S100000x64_0_1 (broadcastInDim S100000x1 ![0] bcast_S100000_S100000x1_0
      (Host.divf (sitofp .f32 (iotaInDim S100000 32 0)) (broadcastInDim S100000 ![] bcast_S_S100000 (constant S_ .f32 0x461C4000#32)))))
    (broadcastInDim S100000x64 ![0, 1] bcast_S1x64_S100000x64_0_1 (broadcastInDim S1x64 ![1] bcast_S64_S1x64_1
      (Host.divf (sitofp .f32 (iotaInDim S64 32 0)) (broadcastInDim S64 ![] bcast_S_S64 (constant S_ .f32 0x43000000#32)))))
/-- Its sines and cosines side by side. -/
def refC : FVec Ideal S100000x64x2 .f32 :=
  concatenate S100000x64x2 2 [⟨S100000x64x1, broadcastInDim S100000x64x1 ![0, 1] bcast_S100000x64_S100000x64x1_0_1 (Host.sin refP)⟩,
    ⟨S100000x64x1, broadcastInDim S100000x64x1 ![0, 1] bcast_S100000x64_S100000x64x1_0_1 (Host.cos refP)⟩] concatenates_S100000x64x1_S100000x64x1_S100000x64x2_d2
/-- Its table. -/
def refT : FVec Ideal S100000x128 .f32 := shapeCast S100000x128 refC shapeCasts_S100000x64x2_S100000x128

theorem toInt_small (n : ℕ) (h : n < 100000) : (BitVec.ofNat 32 n).toInt = (n : ℤ) := by
  rw [BitVec.toInt_eq_toNat_cond, BitVec.toNat_ofNat, Nat.mod_eq_of_lt (by omega), if_pos (by omega)]

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

abbrev at64 (r : Fin 100000) (k : Fin 64) : S100000x64.Idx := fun a => match a with | ⟨0, _⟩ => r | ⟨1, _⟩ => k

theorem refP_apply (r : Fin 100000) (k : Fin 64) : refP (at64 r k) = (phS r.val k.val : EReal) := by
  have e : refP (at64 r k) = Ideal.pow (Ideal.div ((((BitVec.ofNat 32 r.val).toInt : ℝ)) : EReal) (ofB 0x461C4000#32))
      (Ideal.div ((((BitVec.ofNat 32 k.val).toInt : ℝ)) : EReal) (ofB 0x43000000#32)) := rfl
  have hr := r.isLt
  have hk := k.isLt
  rw [e, toInt_small _ hr, toInt_small _ (by omega), c_tenk, c_lanes, div_coe _ _ (by norm_num), div_coe _ _ (by norm_num)]
  rfl

abbrev at3c (r : Fin 100000) (k : Fin 64) (b : Fin 2) : S100000x64x2.Idx := fun a => match a with | ⟨0, _⟩ => r | ⟨1, _⟩ => k | ⟨2, _⟩ => b
abbrev at31 (r : Fin 100000) (k : Fin 64) : S100000x64x1.Idx := fun a => match a with | ⟨0, _⟩ => r | ⟨1, _⟩ => k | ⟨2, _⟩ => (0 : Fin 1)

theorem refC_sin (r : Fin 100000) (k : Fin 64) : refC (at3c r k 0) = (Real.sin (phS r.val k.val) : EReal) := by
  have e := concatenate_pair_apply_left (t := S100000x64x2) (s₁ := S100000x64x1) (s₂ := S100000x64x1) (2 : Fin 3)
    (broadcastInDim S100000x64x1 ![0, 1] bcast_S100000x64_S100000x64x1_0_1 (Host.sin refP))
    (broadcastInDim S100000x64x1 ![0, 1] bcast_S100000x64_S100000x64x1_0_1 (Host.cos refP))
    concatenates_S100000x64x1_S100000x64x1_S100000x64x2_d2 (at3c r k 0) rfl (at31 r k)
    (fun b => by
      match b with
      | ⟨0, _⟩ => rfl
      | ⟨1, _⟩ => rfl
      | ⟨2, _⟩ => rfl)
  have e2 : broadcastInDim S100000x64x1 ![0, 1] bcast_S100000x64_S100000x64x1_0_1 (Host.sin refP) (at31 r k) = Ideal.sin (refP (at64 r k)) :=
    congrArg (fun z => Ideal.sin (refP z)) (funext fun a => by
      match a with
      | ⟨0, _⟩ => rfl
      | ⟨1, _⟩ => rfl)
  exact e.trans (e2.trans (by rw [refP_apply]; rfl))

theorem refC_cos (r : Fin 100000) (k : Fin 64) : refC (at3c r k 1) = (Real.cos (phS r.val k.val) : EReal) := by
  have e := concatenate_pair_apply_right (t := S100000x64x2) (s₁ := S100000x64x1) (s₂ := S100000x64x1) (2 : Fin 3)
    (broadcastInDim S100000x64x1 ![0, 1] bcast_S100000x64_S100000x64x1_0_1 (Host.sin refP))
    (broadcastInDim S100000x64x1 ![0, 1] bcast_S100000x64_S100000x64x1_0_1 (Host.cos refP))
    concatenates_S100000x64x1_S100000x64x1_S100000x64x2_d2 (at3c r k 1) rfl rfl (at31 r k)
    (fun b hb => by
      match b with
      | ⟨0, _⟩ => rfl
      | ⟨1, _⟩ => rfl
      | ⟨2, _⟩ => exact absurd rfl hb)
    rfl
  have e2 : broadcastInDim S100000x64x1 ![0, 1] bcast_S100000x64_S100000x64x1_0_1 (Host.cos refP) (at31 r k) = Ideal.cos (refP (at64 r k)) :=
    congrArg (fun z => Ideal.cos (refP z)) (funext fun a => by
      match a with
      | ⟨0, _⟩ => rfl
      | ⟨1, _⟩ => rfl)
  exact e.trans (e2.trans (by rw [refP_apply]; rfl))

/-- The reference's table at row `r`, lane `c`. -/
theorem refT_apply (r : Fin 100000) (c : Fin 128) : refT (Gather.tab2 r c) = (refR r.val c.val : EReal) := by
  have hc := c.isLt
  have key : ∀ b : Fin 2, b.val = c.val % 2 → refT (Gather.tab2 r c) = refC (at3c r ⟨c.val / 2, by omega⟩ b) := fun b hb => by
    unfold refT
    refine shapeCast_apply refC _ _ (at3c r ⟨c.val / 2, by omega⟩ b) ?_
    rw [Shape.rowMajor_val_two, Shape.rowMajor_val_three]
    show (r.val * 64 + c.val / 2) * 2 + b.val = r.val * 128 + c.val
    omega
  unfold refR
  by_cases h : c.val % 2 = 0
  · rw [if_pos h, key 0 h.symm, refC_sin]
  · rw [if_neg h, key 1 (by show 1 = c.val % 2; omega), refC_cos]

end Table

/-! ## The comparison -/

section Close
open Cert.Post_close_to_reference Cert.Post_close_to_reference.Facts

theorem fn_eq (x : IVec S16384x50 32) (o : FVec Ideal S16384x50x128 .f32) : Cert.Post_close_to_reference.fn (F := Ideal) x o
    = fn_part1 (F := Ideal) (Host.absf (subf o (fn_take (F := Ideal) refT x)))
        (broadcastInDim S16384x50x128 ![] bcast_S_S16384x50x128 (constant S_ .f32 0x3727C5AC#32)) := rfl

theorem take_eq (x : IVec S16384x50 32) (h : ∀ i, (x i).toNat < 100000) (T : FVec Ideal S100000x128 .f32) :
    fn_take (F := Ideal) T x = Gather.taken (F := Ideal) T x :=
  (show fn_take (F := Ideal) T x = Cert.ReferenceIdeal.Read.val_main_v0 (F := Ideal) T x from rfl).trans (Gather.ref_eq (F := Ideal) T x h)

theorem entry_ok (t u : ℝ) (h : |t - u| ≤ 9e-6) :
    Ideal.cmp .ole (max ((t : EReal) - (u : EReal)) (-((t : EReal) - (u : EReal)))) (ofB 0x3727C5AC#32) = 1#1 := by
  have hm : max ((t : EReal) - (u : EReal)) (-((t : EReal) - (u : EReal))) ≤ ofB 0x3727C5AC#32 := by
    rw [c_tol, ← EReal.coe_sub, ← EReal.coe_neg]
    have h2 := abs_le.mp h
    refine max_le ?_ ?_
    · refine EReal.coe_le_coe_iff.mpr ?_
      norm_num at *; linarith
    · refine EReal.coe_le_coe_iff.mpr ?_
      norm_num at *; linarith
  unfold Ideal.cmp
  simp [hm]

theorem close (x : IVec S16384x50 32) (h : ∀ i, (x i).toNat < 100000) :
    Cert.Post_close_to_reference.fn (F := Ideal) x (Gather.taken (F := Ideal) (tblV (F := Ideal)) x) = fun _ => 1#1 := by
  rw [fn_eq, take_eq x h]
  funext j
  unfold fn_part1
  refine Host.reduce_andi_one _ _ _ _ j rfl fun i => ?_
  obtain ⟨t, e, hn⟩ := tblV_near (rowIx (x (Gather.at2 (i 0 : Fin 16384) (i 1 : Fin 50)))) (i 2 : Fin 128)
  have h1 : Gather.taken (F := Ideal) (tblV (F := Ideal)) x i = (t : EReal) := e
  have h2 : Gather.taken (F := Ideal) refT x i = _ := refT_apply (rowIx (x (Gather.at2 (i 0 : Fin 16384) (i 1 : Fin 50)))) (i 2 : Fin 128)
  show Ideal.cmp .ole (max (Gather.taken (F := Ideal) (tblV (F := Ideal)) x i - Gather.taken (F := Ideal) refT x i)
    (-(Gather.taken (F := Ideal) (tblV (F := Ideal)) x i - Gather.taken (F := Ideal) refT x i))) (ofB 0x3727C5AC#32) = 1#1
  rw [h1, h2]
  exact entry_ok _ _ hn

end Close

/-- THE WHOLE KERNEL'S RESULT is within the tolerance of the reference's, over the reals. -/
theorem holds_close : Cert.holds_KernelIdeal_close_to_reference := fun m ρ hp =>
  (θ_run Cert.KernelIdeal.defs _ _).mono
    (fun _ q c => ⟨(q.1 c).2, by
      rw [(q.1 c).1]
      exact close _ (pre_lt (F := Ideal) _ (hp c))⟩)
    (run_rows (F := Ideal) m ρ fun d => pre_lt (F := Ideal) _ (hp d))

end Cert.Proof.Kernel

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.Reference
public import proofs.«01_k».proof.Proof.Gen.ReferenceIdeal
public import proofs.«01_k».proof.Proof.Gen.Reference.Run
public import proofs.«01_k».proof.Proof.Gen.Reference.Read
public import proofs.«01_k».proof.Proof.Gen.ReferenceIdeal.Run
public import proofs.«01_k».proof.Proof.Gen.ReferenceIdeal.Read
public import proofs.«01_k».proof.Proof.Gather.Claims
public import proofs.«01_k».proof.Proof.Kernel.Claims
public import proofs.«01_k».proof.Proof.Kernel.Near
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_range_rows
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Gather

theorem claim : Cert.Claim := ⟨Cert.Gather.Gen.facts, Cert.GatherIdeal.Gen.facts, Cert.Reference.Gen.facts, Cert.ReferenceIdeal.Gen.facts, Cert.Kernel.Gen.facts, Cert.KernelIdeal.Gen.facts, Cert.Pre_in_range_rows.Gen.facts, Cert.Pre_in_range.Gen.facts, Kernel.postFacts,
  Gather.frame_gather, Gather.frame_gather_ideal, Gather.frame_reference, Gather.frame_reference_pre, Gather.frame_reference_ideal,
  Gather.frame_reference_ideal_pre, Kernel.frame_kernel, Kernel.frame_kernel_ideal, trivial, Gather.bitexact, Gather.algebraic, trivial, Kernel.holds_close⟩

end Cert.Proof

end
